-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2)
      ∧ r.2.mem ((c.tc : Thread Cert.OutProjReferenceIdeal.nD Cert.OutProjReferenceIdeal.τ).loc Cert.OutProjReferenceIdeal.main_arg3) = m ((c.tc : Thread Cert.OutProjReferenceIdeal.nD Cert.OutProjReferenceIdeal.τ).loc Cert.OutProjReferenceIdeal.main_arg3)
      ∧ r.2.mem ((c.tc : Thread Cert.OutProjReferenceIdeal.nD Cert.OutProjReferenceIdeal.τ).loc Cert.OutProjReferenceIdeal.main_arg4) = m ((c.tc : Thread Cert.OutProjReferenceIdeal.nD Cert.OutProjReferenceIdeal.τ).loc Cert.OutProjReferenceIdeal.main_arg4)
      ∧ r.2.mem ((c.tc : Thread Cert.OutProjReferenceIdeal.nD Cert.OutProjReferenceIdeal.τ).loc Cert.OutProjReferenceIdeal.main_arg5) = m ((c.tc : Thread Cert.OutProjReferenceIdeal.nD Cert.OutProjReferenceIdeal.τ).loc Cert.OutProjReferenceIdeal.main_arg5)
      ∧ r.2.mem ((c.tc : Thread Cert.OutProjReferenceIdeal.nD Cert.OutProjReferenceIdeal.τ).loc Cert.OutProjReferenceIdeal.main_arg6) = m ((c.tc : Thread Cert.OutProjReferenceIdeal.nD Cert.OutProjReferenceIdeal.τ).loc Cert.OutProjReferenceIdeal.main_arg6)
      ∧ r.2.mem ((c.tc : Thread Cert.OutProjReferenceIdeal.nD Cert.OutProjReferenceIdeal.τ).loc Cert.OutProjReferenceIdeal.main_arg7) = m ((c.tc : Thread Cert.OutProjReferenceIdeal.nD Cert.OutProjReferenceIdeal.τ).loc Cert.OutProjReferenceIdeal.main_arg7))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v7_0)) (v1 : (c : Dev Cert.FfnIdeal.nD) → Buf (Elt Ideal) ((c.tc : Thread Cert.FfnIdeal.nD Cert.FfnIdeal.τ).loc Cert.FfnIdeal.main_v7_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7_0) = v0 c
          ∧ r.2.mem ((c.tc : Thread Cert.FfnIdeal.nD Cert.FfnIdeal.τ).loc Cert.FfnIdeal.main_v7_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v57) = v0 c
          ∧ r.2.mem ((c.tc : Thread Cert.FfnReferenceIdeal.nD Cert.FfnReferenceIdeal.τ).loc Cert.FfnReferenceIdeal.main_v58) = v1 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)
      ∧ m' ((c.tc : Thread Cert.OutProjReferenceIdeal.nD Cert.OutProjReferenceIdeal.τ).loc Cert.OutProjReferenceIdeal.main_arg3) = m ((c.tc : Thread Cert.OutProjIdeal.nD Cert.OutProjIdeal.τ).loc Cert.OutProjIdeal.main_arg3)
      ∧ m' ((c.tc : Thread Cert.OutProjReferenceIdeal.nD Cert.OutProjReferenceIdeal.τ).loc Cert.OutProjReferenceIdeal.main_arg4) = m ((c.tc : Thread Cert.OutProjIdeal.nD Cert.OutProjIdeal.τ).loc Cert.OutProjIdeal.main_arg4)
      ∧ m' ((c.tc : Thread Cert.OutProjReferenceIdeal.nD Cert.OutProjReferenceIdeal.τ).loc Cert.OutProjReferenceIdeal.main_arg5) = m ((c.tc : Thread Cert.OutProjIdeal.nD Cert.OutProjIdeal.τ).loc Cert.OutProjIdeal.main_arg5)
      ∧ m' ((c.tc : Thread Cert.OutProjReferenceIdeal.nD Cert.OutProjReferenceIdeal.τ).loc Cert.OutProjReferenceIdeal.main_arg6) = m ((c.tc : Thread Cert.OutProjIdeal.nD Cert.OutProjIdeal.τ).loc Cert.OutProjIdeal.main_arg6)
      ∧ m' ((c.tc : Thread Cert.OutProjReferenceIdeal.nD Cert.OutProjReferenceIdeal.τ).loc Cert.OutProjReferenceIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v14)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v14) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v29) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2)
          ∧ r.2.mem ((c.tc : Thread Cert.OutProjReferenceIdeal.nD Cert.OutProjReferenceIdeal.τ).loc Cert.OutProjReferenceIdeal.main_arg3) = m' ((c.tc : Thread Cert.OutProjReferenceIdeal.nD Cert.OutProjReferenceIdeal.τ).loc Cert.OutProjReferenceIdeal.main_arg3)
          ∧ r.2.mem ((c.tc : Thread Cert.OutProjReferenceIdeal.nD Cert.OutProjReferenceIdeal.τ).loc Cert.OutProjReferenceIdeal.main_arg4) = m' ((c.tc : Thread Cert.OutProjReferenceIdeal.nD Cert.OutProjReferenceIdeal.τ).loc Cert.OutProjReferenceIdeal.main_arg4)
          ∧ r.2.mem ((c.tc : Thread Cert.OutProjReferenceIdeal.nD Cert.OutProjReferenceIdeal.τ).loc Cert.OutProjReferenceIdeal.main_arg5) = m' ((c.tc : Thread Cert.OutProjReferenceIdeal.nD Cert.OutProjReferenceIdeal.τ).loc Cert.OutProjReferenceIdeal.main_arg5)
          ∧ r.2.mem ((c.tc : Thread Cert.OutProjReferenceIdeal.nD Cert.OutProjReferenceIdeal.τ).loc Cert.OutProjReferenceIdeal.main_arg6) = m' ((c.tc : Thread Cert.OutProjReferenceIdeal.nD Cert.OutProjReferenceIdeal.τ).loc Cert.OutProjReferenceIdeal.main_arg6)
          ∧ r.2.mem ((c.tc : Thread Cert.OutProjReferenceIdeal.nD Cert.OutProjReferenceIdeal.τ).loc Cert.OutProjReferenceIdeal.main_arg7) = m' ((c.tc : Thread Cert.OutProjReferenceIdeal.nD Cert.OutProjReferenceIdeal.τ).loc Cert.OutProjReferenceIdeal.main_arg7))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)) →
    ∃ (v0 : (c : Dev Cert.FfnSampleIdeal.nD) → Buf (Elt Ideal) ((c.tc : Thread Cert.FfnSampleIdeal.nD Cert.FfnSampleIdeal.τ).loc Cert.FfnSampleIdeal.main_v7_0)) (v1 : (c : Dev Cert.FfnSampleIdeal.nD) → Buf (Elt Ideal) ((c.tc : Thread Cert.FfnSampleIdeal.nD Cert.FfnSampleIdeal.τ).loc Cert.FfnSampleIdeal.main_v7_1)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v7_0) = v0 c
          ∧ r.2.mem ((c.tc : Thread Cert.FfnSampleIdeal.nD Cert.FfnSampleIdeal.τ).loc Cert.FfnSampleIdeal.main_v7_1) = v1 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v56) = v0 c
          ∧ r.2.mem ((c.tc : Thread Cert.FfnSampleReferenceIdeal.nD Cert.FfnSampleReferenceIdeal.τ).loc Cert.FfnSampleReferenceIdeal.main_v57) = v1 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hOutProj : Cert.OutProj.Facts) (hOutProjIdeal : Cert.OutProjIdeal.Facts) (hOutProjReferenceIdeal : Cert.OutProjReferenceIdeal.Facts) (hFfnSample : Cert.FfnSample.Facts) (hFfnSampleIdeal : Cert.FfnSampleIdeal.Facts) (hFfnSampleReferenceIdeal : Cert.FfnSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_OutProj_OutProjIdeal
    ∧ algebraic_OutProjIdeal_OutProjReferenceIdeal (hOutProjIdeal := hOutProjIdeal) (hOutProjReferenceIdeal := hOutProjReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
-- ==== Pre_finite.lean ====
abbrev S8x2048x4x64 : Shape := ⟨4, ![8, 2048, 4, 64]⟩
abbrev S8x2048x4 : Shape := ⟨3, ![8, 2048, 4]⟩
abbrev S_ : Shape := ⟨0, ![]⟩
abbrev S8x2048x4x1 : Shape := ⟨4, ![8, 2048, 4, 1]⟩

class Facts : Prop where
  bcast_S_S8x2048x4x64 : S_.BroadcastsInDim S8x2048x4x64 (![] : Fin 0 → Fin S8x2048x4x64.rank)
  bcast_S_S8x2048x4 : S_.BroadcastsInDim S8x2048x4 (![] : Fin 0 → Fin S8x2048x4.rank)
  bcast_S8x2048x4_S8x2048x4x1_0_1_2 : S8x2048x4.BroadcastsInDim S8x2048x4x1 (![0, 1, 2] : Fin 3 → Fin S8x2048x4x1.rank)
  bcast_S8x2048x4x1_S8x2048x4x64_0_1_2_3 : S8x2048x4x1.BroadcastsInDim S8x2048x4x64 (![0, 1, 2, 3] : Fin 4 → Fin S8x2048x4x64.rank)

variable [Facts]

def fn {F : FTy → Type} [FloatOps F] (main_arg0 : FVec F S8x2048x4x64 .f32) (main_arg1 : FVec F S8x2048x4x64 .f32) (main_arg2 : FVec F S8x2048x4x64 .f32) (main_arg3 : FVec F S8x2048x4 .f32) : IVec S8x2048x4x64 1 :=
  let main_v0 : FVec F S8x2048x4x64 .f32 := Host.absf main_arg0
  let main_cst : FVec F S_ .f32 := constant S_ .f32 0x7F800000#32
  let main_v1 : FVec F S8x2048x4x64 .f32 := broadcastInDim S8x2048x4x64 ![] bcast_S_S8x2048x4x64 main_cst
  let main_v2 : IVec S8x2048x4x64 1 := cmpf .olt main_v0 main_v1
  let main_v3 : FVec F S8x2048x4x64 .f32 := Host.absf main_arg1
  let main_cst_0 : FVec F S_ .f32 := constant S_ .f32 0x7F800000#32
  let main_v4 : FVec F S8x2048x4x64 .f32 := broadcastInDim S8x2048x4x64 ![] bcast_S_S8x2048x4x64 main_cst_0
  let main_v5 : IVec S8x2048x4x64 1 := cmpf .olt main_v3 main_v4
  let main_v6 : IVec S8x2048x4x64 1 := andi main_v2 main_v5
  let main_v7 : FVec F S8x2048x4 .f32 := Host.absf main_arg3
  let main_cst_1 : FVec F S_ .f32 := constant S_ .f32 0x7F800000#32
  let main_v8 : FVec F S8x2048x4 .f32 := broadcastInDim S8x2048x4 ![] bcast_S_S8x2048x4 main_cst_1
  let main_v9 : IVec S8x2048x4 1 := cmpf .olt main_v7 main_v8
  let main_v10 : IVec S8x2048x4x1 1 := broadcastInDim S8x2048x4x1 ![0, 1, 2] bcast_S8x2048x4_S8x2048x4x1_0_1_2 main_v9
  let main_v11 : IVec S8x2048x4x64 1 := broadcastInDim S8x2048x4x64 ![0, 1, 2, 3] bcast_S8x2048x4x1_S8x2048x4x64_0_1_2_3 main_v10
  let main_v12 : IVec S8x2048x4x64 1 := andi main_v6 main_v11
  main_v12
-- ==== Kernel.lean ====
abbrev S8x2048x4x64 : Shape := ⟨4, ![8, 2048, 4, 64]⟩
abbrev S8x2048x4 : Shape := ⟨3, ![8, 2048, 4]⟩
abbrev S8x2048x256 : Shape := ⟨3, ![8, 2048, 256]⟩
abbrev S_ : Shape := ⟨0, ![]⟩
abbrev S8x2048x128 : Shape := ⟨3, ![8, 2048, 128]⟩
abbrev S8x8x256x128 : Shape := ⟨4, ![8, 8, 256, 128]⟩
abbrev S8x8x128x256 : Shape := ⟨4, ![8, 8, 128, 256]⟩
abbrev S8x8x8x256 : Shape := ⟨4, ![8, 8, 8, 256]⟩
abbrev S1x256x256 : Shape := ⟨3, ![1, 256, 256]⟩
abbrev S1x2048x256 : Shape := ⟨3, ![1, 2048, 256]⟩
abbrev S1x256x128 : Shape := ⟨3, ![1, 256, 128]⟩
abbrev S1x8x8x256 : Shape := ⟨4, ![1, 8, 8, 256]⟩
abbrev S1024x256 : Shape := ⟨2, ![1024, 256]⟩
abbrev S1024x128 : Shape := ⟨2, ![1024, 128]⟩
abbrev S256x256 : Shape := ⟨2, ![256, 256]⟩
abbrev S1x256 : Shape := ⟨2, ![1, 256]⟩
abbrev S256x128 : Shape := ⟨2, ![256, 128]⟩
abbrev S256x1 : Shape := ⟨2, ![256, 1]⟩
abbrev S1x1x8x256 : Shape := ⟨4, ![1, 1, 8, 256]⟩
abbrev S8x256 : Shape := ⟨2, ![8, 256]⟩
abbrev S64x256 : Shape := ⟨2, ![64, 256]⟩
abbrev S64x128 : Shape := ⟨2, ![64, 128]⟩
abbrev S64 : Shape := ⟨1, ![64]⟩
abbrev S64x1 : Shape := ⟨2, ![64, 1]⟩
abbrev S1x64x256 : Shape := ⟨3, ![1, 64, 256]⟩

abbrev nBuf : Space → Nat
  | .hbm => 20
  | .vmem => 20
  | .smem => 0
  | _ => 0

abbrev bufTy : (tb : Table) → Fin (tcTables nBuf tb) → BufTy
  | .hbm, ⟨0, _⟩ => ⟨S8x2048x4x64, .f32⟩
  | .hbm, ⟨1, _⟩ => ⟨S8x2048x4x64, .f32⟩
  | .hbm, ⟨2, _⟩ => ⟨S8x2048x4x64, .f32⟩
  | .hbm, ⟨3, _⟩ => ⟨S8x2048x4, .f32⟩
  | .hbm, ⟨4, _⟩ => ⟨S8x2048x256, .f32⟩
  | .hbm, ⟨5, _⟩ => ⟨S_, .f32⟩
  | .hbm, ⟨6, _⟩ => ⟨S8x2048x256, .f32⟩
  | .hbm, ⟨7, _⟩ => ⟨S8x2048x256, .f32⟩
  | .hbm, ⟨8, _⟩ => ⟨S8x2048x256, .bf16⟩
  | .hbm, ⟨9, _⟩ => ⟨S8x2048x256, .f32⟩
  | .hbm, ⟨10, _⟩ => ⟨S8x2048x256, .bf16⟩
  | .hbm, ⟨11, _⟩ => ⟨S8x2048x256, .f32⟩
  | .hbm, ⟨12, _⟩ => ⟨S8x2048x256, .bf16⟩
  | .hbm, ⟨13, _⟩ => ⟨S_, .i32⟩
  | .hbm, ⟨14, _⟩ => ⟨S_, .f32⟩
  | .hbm, ⟨15, _⟩ => ⟨S8x2048x128, .f32⟩
  | .hbm, ⟨16, _⟩ => ⟨S8x8x256x128, .f32⟩
  | .hbm, ⟨17, _⟩ => ⟨S8x8x128x256, .f32⟩
  | .hbm, ⟨18, _⟩ => ⟨S8x8x8x256, .f32⟩
  | .hbm, ⟨19, _⟩ => ⟨S8x2048x256, .bf16⟩
  | .local _ .vmem, ⟨0, _⟩ => ⟨S1x256x256, .bf16⟩
  | .local _ .vmem, ⟨1, _⟩ => ⟨S1x256x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x128, .f32⟩
  | .local _ .vmem, ⟨7, _⟩ => ⟨S1x256x128, .f32⟩
  | .local _ .vmem, ⟨8, _⟩ => ⟨S1x8x8x256, .f32⟩
  | .local _ .vmem, ⟨9, _⟩ => ⟨S1x8x8x256, .f32⟩
  | .local _ .vmem, ⟨10, _⟩ => ⟨S1x256x256, .bf16⟩
  | .local _ .vmem, ⟨11, _⟩ => ⟨S1x256x256, .bf16⟩
  | .local _ .vmem, ⟨12, _⟩ => ⟨S1024x256, .bf16⟩
  | .local _ .vmem, ⟨13, _⟩ => ⟨S1024x128, .f32⟩
  | .local _ .vmem, ⟨14, _⟩ => ⟨S1024x256, .f32⟩
  | .local _ .vmem, ⟨15, _⟩ => ⟨S1024x256, .bf16⟩
  | .local _ .vmem, ⟨16, _⟩ => ⟨S1024x128, .f32⟩
  | .local _ .vmem, ⟨17, _⟩ => ⟨S1024x128, .f32⟩
  | .local _ .vmem, ⟨18, _⟩ => ⟨S1024x128, .f32⟩
  | .local _ .vmem, ⟨19, _⟩ => ⟨S256x256, .f32⟩
  | _, _ => ⟨S8x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_scratch7 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_37 : BitVec 32 := 0#32
  let arg1 : BitVec 32 := BitVec.ofNat 32 (i 1).val
  let v101 : BitVec 32 := Scalar.subi arg1 c0_i32_37
  let c1_i32_38 : BitVec 32 := 1#32
  let v103 : BitVec 32 := Scalar.divsi v101 c1_i32_38
  let v104 : BitVec 32 := Scalar.muli v103 c1_i32_38
  let v105 : BitVec 32 := Scalar.addi c0_i32_37 v104
  let c1_i32_39 : BitVec 32 := 1#32
  ⟨c0_i32_37, v105, c1_i32_39⟩
def k0_mult1 (i : grid0.Coords) (k0_t1 : Fin (k0_t1_loop i).trips) : BitVec 32 :=
  let c0_i32_37 : BitVec 32 := 0#32
  let c1_i32_39 : BitVec 32 := 1#32
  let arg16 : BitVec 32 := Scf.iv c0_i32_37 c1_i32_39 k0_t1
  let c256_i32_556 : BitVec 32 := 256#32
  let v1183 : BitVec 32 := Scalar.muli arg16 c256_i32_556
  v1183
def k0_off1 (i : grid0.Coords) (k0_t1 : Fin (k0_t1_loop i).trips) : Fin 3 → Nat :=
  let c0_557 : Index := 0#32
  let c0_i32_37 : BitVec 32 := 0#32
  let c1_i32_39 : BitVec 32 := 1#32
  let arg16 : BitVec 32 := Scf.iv c0_i32_37 c1_i32_39 k0_t1
  let c256_i32_556 : BitVec 32 := 256#32
  let v1183 : BitVec 32 := Scalar.muli arg16 c256_i32_556
  let v1184 : BitVec 32 := v1183
  let v1185 : Index := Scalar.indexCast v1184
  let c0_558 : Index := 0#32
  ![0, v1185.toNat, 0]
def k0_off2 (i : grid0.Coords) (k0_t1 : Fin (k0_t1_loop i).trips) : Fin 4 → Nat :=
  let c0_561 : Index := 0#32
  let c0_i32_37 : BitVec 32 := 0#32
  let c1_i32_39 : BitVec 32 := 1#32
  let arg16 : BitVec 32 := Scf.iv c0_i32_37 c1_i32_39 k0_t1
  let v1191 : Index := Scalar.indexCast arg16
  let c0_562 : Index := 0#32
  let c0_563 : Index := 0#32
  ![0, v1191.toNat, 0, 0]
@[reducible] def k0_t2_loop (i : grid0.Coords) : Scf.Loop 32 :=
  let c0_i32_37 : BitVec 32 := 0#32
  let arg1 : BitVec 32 := BitVec.ofNat 32 (i 1).val
  let v101 : BitVec 32 := Scalar.subi arg1 c0_i32_37
  let c1_i32_38 : BitVec 32 := 1#32
  let v103 : BitVec 32 := Scalar.divsi v101 c1_i32_38
  let v104 : BitVec 32 := Scalar.muli v103 c1_i32_38
  let v105 : BitVec 32 := Scalar.addi c0_i32_37 v104
  let v102 : BitVec 32 := Scalar.addi c0_i32_37 v101
  let c1_i32_40 : BitVec 32 := 1#32
  ⟨v105, v102, c1_i32_40⟩
def k0_mult2 (i : grid0.Coords) (k0_t2 : Fin (k0_t2_loop i).trips) : BitVec 32 :=
  let c0_i32_37 : BitVec 32 := 0#32
  let arg1 : BitVec 32 := BitVec.ofNat 32 (i 1).val
  let v101 : BitVec 32 := Scalar.subi arg1 c0_i32_37
  let c1_i32_38 : BitVec 32 := 1#32
  let v103 : BitVec 32 := Scalar.divsi v101 c1_i32_38
  let v104 : BitVec 32 := Scalar.muli v103 c1_i32_38
  let v105 : BitVec 32 := Scalar.addi c0_i32_37 v104
  let c1_i32_40 : BitVec 32 := 1#32
  let arg16 : BitVec 32 := Scf.iv v105 c1_i32_40 k0_t2
  let c256_i32_556 : BitVec 32 := 256#32
  let v1183 : BitVec 32 := Scalar.muli arg16 c256_i32_556
  v1183
def k0_off3 (i : grid0.Coords) (k0_t2 : Fin (k0_t2_loop i).trips) : Fin 3 → Nat :=
  let c0_557 : Index := 0#32
  let c0_i32_37 : BitVec 32 := 0#32
  let arg1 : BitVec 32 := BitVec.ofNat 32 (i 1).val
  let v101 : BitVec 32 := Scalar.subi arg1 c0_i32_37
  let c1_i32_38 : BitVec 32 := 1#32
  let v103 : BitVec 32 := Scalar.divsi v101 c1_i32_38
  let v104 : BitVec 32 := Scalar.muli v103 c1_i32_38
  let v105 : BitVec 32 := Scalar.addi c0_i32_37 v104
  let c1_i32_40 : BitVec 32 := 1#32
  let arg16 : BitVec 32 := Scf.iv v105 c1_i32_40 k0_t2
  let c256_i32_556 : BitVec 32 := 256#32
  let v1183 : BitVec 32 := Scalar.muli arg16 c256_i32_556
  let v1184 : BitVec 32 := v1183
  let v1185 : Index := Scalar.indexCast v1184
  let c0_558 : Index := 0#32
  ![0, v1185.toNat, 0]
def k0_off4 (i : grid0.Coords) (k0_t2 : Fin (k0_t2_loop i).trips) : Fin 4 → Nat :=
  let c0_561 : Index := 0#32
  let c0_i32_37 : BitVec 32 := 0#32
  let arg1 : BitVec 32 := BitVec.ofNat 32 (i 1).val
  let v101 : BitVec 32 := Scalar.subi arg1 c0_i32_37
  let c1_i32_38 : BitVec 32 := 1#32
  let v103 : BitVec 32 := Scalar.divsi v101 c1_i32_38
  let v104 : BitVec 32 := Scalar.muli v103 c1_i32_38
  let v105 : BitVec 32 := Scalar.addi c0_i32_37 v104
  let c1_i32_40 : BitVec 32 := 1#32
  let arg16 : BitVec 32 := Scf.iv v105 c1_i32_40 k0_t2
  let v1191 : Index := Scalar.indexCast arg16
  let c0_562 : Index := 0#32
  let c0_563 : Index := 0#32
  ![0, v1191.toNat, 0, 0]
def k0_mult3 (i : grid0.Coords) : BitVec 32 :=
  let arg1 : BitVec 32 := BitVec.ofNat 32 (i 1).val
  let c256_i32 : BitVec 32 := 256#32
  let v106 : BitVec 32 := Scalar.muli arg1 c256_i32
  v106
def k0_off5 (i : grid0.Coords) : Fin 3 → Nat :=
  let c0_41 : Index := 0#32
  let arg1 : BitVec 32 := BitVec.ofNat 32 (i 1).val
  let c256_i32 : BitVec 32 := 256#32
  let v106 : BitVec 32 := Scalar.muli arg1 c256_i32
  let v107 : BitVec 32 := v106
  let v108 : Index := Scalar.indexCast v107
  let c0_42 : Index := 0#32
  ![0, v108.toNat, 0]
def k0_off6 (i : grid0.Coords) : Fin 4 → Nat :=
  let c0_45 : Index := 0#32
  let arg1 : BitVec 32 := BitVec.ofNat 32 (i 1).val
  let v114 : Index := Scalar.indexCast arg1
  let c0_46 : Index := 0#32
  let c0_47 : Index := 0#32
  ![0, v114.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S8x2048x4x64 : Shape := ⟨4, ![8, 2048, 4, 64]⟩
abbrev S8x2048x4 : Shape := ⟨3, ![8, 2048, 4]⟩
abbrev S8x4x2048 : Shape := ⟨3, ![8, 4, 2048]⟩
abbrev S8x4x2048x2048 : Shape := ⟨4, ![8, 4, 2048, 2048]⟩
abbrev S_ : Shape := ⟨0, ![]⟩
abbrev S8x4x2048x1 : Shape := ⟨4, ![8, 4, 2048, 1]⟩
abbrev S8x4x1x2048 : Shape := ⟨4, ![8, 4, 1, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x4x64x2048 : Shape := ⟨4, ![8, 4, 64, 2048]⟩
abbrev S8x2048x256 : Shape := ⟨3, ![8, 2048, 256]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x4x64, .f32⟩
  | .hbm, ⟨1, _⟩ => ⟨S8x2048x4x64, .f32⟩
  | .hbm, ⟨2, _⟩ => ⟨S8x2048x4x64, .f32⟩
  | .hbm, ⟨3, _⟩ => ⟨S8x2048x4, .f32⟩
  | .hbm, ⟨4, _⟩ => ⟨S8x4x2048, .f32⟩
  | .hbm, ⟨5, _⟩ => ⟨S8x4x2048x2048, .f32⟩
  | .hbm, ⟨6, _⟩ => ⟨S_, .f32⟩
  | .hbm, ⟨7, _⟩ => ⟨S8x4x2048x2048, .f32⟩
  | .hbm, ⟨8, _⟩ => ⟨S8x4x2048x2048, .f32⟩
  | .hbm, ⟨9, _⟩ => ⟨S8x4x2048x1, .f32⟩
  | .hbm, ⟨10, _⟩ => ⟨S8x4x2048x2048, .f32⟩
  | .hbm, ⟨11, _⟩ => ⟨S8x4x2048x2048, .f32⟩
  | .hbm, ⟨12, _⟩ => ⟨S8x4x1x2048, .f32⟩
  | .hbm, ⟨13, _⟩ => ⟨S8x4x2048x2048, .f32⟩
  | .hbm, ⟨14, _⟩ => ⟨S8x4x2048x2048, .f32⟩
  | .hbm, ⟨15, _⟩ => ⟨S2048, .i32⟩
  | .hbm, ⟨16, _⟩ => ⟨S1x2048, .i32⟩
  | .hbm, ⟨17, _⟩ => ⟨S2048x1, .i32⟩
  | .hbm, ⟨18, _⟩ => ⟨S2048x2048, .i32⟩
  | .hbm, ⟨19, _⟩ => ⟨S2048x2048, .i32⟩
  | .hbm, ⟨20, _⟩ => ⟨S2048x2048, .i1⟩
  | .hbm, ⟨21, _⟩ => ⟨S_, .f32⟩
  | .hbm, ⟨22, _⟩ => ⟨S_, .f32⟩
  | .hbm, ⟨23, _⟩ => ⟨S8x4x2048x2048, .i1⟩
  | .hbm, ⟨24, _⟩ => ⟨S8x4x2048x2048, .f32⟩
  | .hbm, ⟨25, _⟩ => ⟨S8x4x2048x2048, .f32⟩
  | .hbm, ⟨26, _⟩ => ⟨S_, .f32⟩
  | .hbm, ⟨27, _⟩ => ⟨S8x4x2048, .f32⟩
  | .hbm, ⟨28, _⟩ => ⟨S_, .f32⟩
  | .hbm, ⟨29, _⟩ => ⟨S8x4x2048, .f32⟩
  | .hbm, ⟨30, _⟩ => ⟨S8x4x2048, .f32⟩
  | .hbm, ⟨31, _⟩ => ⟨S8x4x2048x1, .f32⟩
  | .hbm, ⟨32, _⟩ => ⟨S8x4x2048x2048, .f32⟩
  | .hbm, ⟨33, _⟩ => ⟨S8x4x2048x2048, .f32⟩
  | .hbm, ⟨34, _⟩ => ⟨S8x4x2048x2048, .f32⟩
  | .hbm, ⟨35, _⟩ => ⟨S_, .f32⟩
  | .hbm, ⟨36, _⟩ => ⟨S8x4x2048, .f32⟩
  | .hbm, ⟨37, _⟩ => ⟨S8x4x2048x1, .f32⟩
  | .hbm, ⟨38, _⟩ => ⟨S8x4x2048x2048, .f32⟩
  | .hbm, ⟨39, _⟩ => ⟨S8x4x2048x2048, .f32⟩
  | .hbm, ⟨40, _⟩ => ⟨S8x4x64x2048, .f32⟩
  | .hbm, ⟨41, _⟩ => ⟨S8x2048x4x64, .f32⟩
  | .hbm, ⟨42, _⟩ => ⟨S8x2048x256, .f32⟩
  | .hbm, ⟨43, _⟩ => ⟨S8x2048x256, .bf16⟩
  | _, _ => ⟨S8x2048x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Ffn.lean ====
abbrev S8x2048x1024 : Shape := ⟨3, ![8, 2048, 1024]⟩
abbrev S1024x5376 : Shape := ⟨2, ![1024, 5376]⟩
abbrev S3x2688 : Shape := ⟨2, ![3, 2688]⟩
abbrev S2688 : Shape := ⟨1, ![2688]⟩
abbrev S2688x1024 : Shape := ⟨2, ![2688, 1024]⟩
abbrev S1024 : Shape := ⟨1, ![1024]⟩
abbrev S_ : Shape := ⟨0, ![]⟩
abbrev S8x2688 : Shape := ⟨2, ![8, 2688]⟩
abbrev S1x2688 : Shape := ⟨2, ![1, 2688]⟩
abbrev S1x1024 : Shape := ⟨2, ![1, 1024]⟩
abbrev S8x8x2688 : Shape := ⟨3, ![8, 8, 2688]⟩
abbrev S8x2x2688 : Shape := ⟨3, ![8, 2, 2688]⟩
abbrev S1x256x1024 : Shape := ⟨3, ![1, 256, 1024]⟩
abbrev S1x8x2688 : Shape := ⟨3, ![1, 8, 2688]⟩
abbrev S1x2x2688 : Shape := ⟨3, ![1, 2, 2688]⟩
abbrev S1x264x2688 : Shape := ⟨3, ![1, 264, 2688]⟩
abbrev S256x1024 : Shape := ⟨2, ![256, 1024]⟩
abbrev S1024x896 : Shape := ⟨2, ![1024, 896]⟩
abbrev S256x896 : Shape := ⟨2, ![256, 896]⟩
abbrev S1x256x896 : Shape := ⟨3, ![1, 256, 896]⟩
abbrev S1x896 : Shape := ⟨2, ![1, 896]⟩
abbrev S1x1x896 : Shape := ⟨3, ![1, 1, 896]⟩
abbrev S896x1024 : Shape := ⟨2, ![896, 1024]⟩
abbrev S256 : Shape := ⟨1, ![256]⟩
abbrev S256x1 : Shape := ⟨2, ![256, 1]⟩

abbrev nBuf : Space → Nat
  | .hbm => 19
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024x5376, .f32⟩
  | .hbm, ⟨2, _⟩ => ⟨S3x2688, .f32⟩
  | .hbm, ⟨3, _⟩ => ⟨S2688, .f32⟩
  | .hbm, ⟨4, _⟩ => ⟨S2688x1024, .f32⟩
  | .hbm, ⟨5, _⟩ => ⟨S1024, .f32⟩
  | .hbm, ⟨6, _⟩ => ⟨S1024, .f32⟩
  | .hbm, ⟨7, _⟩ => ⟨S1024x5376, .bf16⟩
  | .hbm, ⟨8, _⟩ => ⟨S_, .i32⟩
  | .hbm, ⟨9, _⟩ => ⟨S_, .f32⟩
  | .hbm, ⟨10, _⟩ => ⟨S8x2688, .f32⟩
  | .hbm, ⟨11, _⟩ => ⟨S1x2688, .f32⟩
  | .hbm, ⟨12, _⟩ => ⟨S2688x1024, .bf16⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S8x8x2688, .f32⟩
  | .hbm, ⟨17, _⟩ => ⟨S8x2048x1024, .f32⟩
  | .hbm, ⟨18, _⟩ => ⟨S8x2x2688, .f32⟩
  | .local _ .vmem, ⟨0, _⟩ => ⟨S1x256x1024, .f32⟩
  | .local _ .vmem, ⟨1, _⟩ => ⟨S1x256x1024, .f32⟩
  | .local _ .vmem, ⟨2, _⟩ => ⟨S1024x5376, .bf16⟩
  | .local _ .vmem, ⟨3, _⟩ => ⟨S8x2688, .f32⟩
  | .local _ .vmem, ⟨4, _⟩ => ⟨S1x2688, .f32⟩
  | .local _ .vmem, ⟨5, _⟩ => ⟨S2688x1024, .bf16⟩
  | .local _ .vmem, ⟨6, _⟩ => ⟨S1x1024, .f32⟩
  | .local _ .vmem, ⟨7, _⟩ => ⟨S1x1024, .f32⟩
  | .local _ .vmem, ⟨8, _⟩ => ⟨S1x8x2688, .f32⟩
  | .local _ .vmem, ⟨9, _⟩ => ⟨S1x8x2688, .f32⟩
  | .local _ .vmem, ⟨10, _⟩ => ⟨S1x256x1024, .f32⟩
  | .local _ .vmem, ⟨11, _⟩ => ⟨S1x256x1024, .f32⟩
  | .local _ .vmem, ⟨12, _⟩ => ⟨S1x2x2688, .f32⟩
  | .local _ .vmem, ⟨13, _⟩ => ⟨S1x2x2688, .f32⟩
  | .local _ .vmem, ⟨14, _⟩ => ⟨S1x264x2688, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2688x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x2688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x2688 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== FfnReferenceIdeal.lean ====
abbrev S8x2048x1024 : Shape := ⟨3, ![8, 2048, 1024]⟩
abbrev S1024x5376 : Shape := ⟨2, ![1024, 5376]⟩
abbrev S3x2688 : Shape := ⟨2, ![3, 2688]⟩
abbrev S2688 : Shape := ⟨1, ![2688]⟩
abbrev S2688x1024 : Shape := ⟨2, ![2688, 1024]⟩
abbrev S1024 : Shape := ⟨1, ![1024]⟩
abbrev S8x2048x5376 : Shape := ⟨3, ![8, 2048, 5376]⟩
abbrev S8x2048x2688 : Shape := ⟨3, ![8, 2048, 2688]⟩
abbrev S_ : Shape := ⟨0, ![]⟩
abbrev S8x2x2688 : Shape := ⟨3, ![8, 2, 2688]⟩
abbrev S8x2050x2688 : Shape := ⟨3, ![8, 2050, 2688]⟩
abbrev S1x2688 : Shape := ⟨2, ![1, 2688]⟩
abbrev S1x1x2688 : Shape := ⟨3, ![1, 1, 2688]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x5376, .f32⟩
  | .hbm, ⟨2, _⟩ => ⟨S3x2688, .f32⟩
  | .hbm, ⟨3, _⟩ => ⟨S2688, .f32⟩
  | .hbm, ⟨4, _⟩ => ⟨S2688x1024, .f32⟩
  | .hbm, ⟨5, _⟩ => ⟨S1024, .f32⟩
  | .hbm, ⟨6, _⟩ => ⟨S1024, .f32⟩
  | .hbm, ⟨7, _⟩ => ⟨S8x2048x5376, .f32⟩
  | .hbm, ⟨8, _⟩ => ⟨S8x2048x2688, .f32⟩
  | .hbm, ⟨9, _⟩ => ⟨S8x2048x2688, .f32⟩
  | .hbm, ⟨10, _⟩ => ⟨S_, .f32⟩
  | .hbm, ⟨11, _⟩ => ⟨S8x2x2688, .f32⟩
  | .hbm, ⟨12, _⟩ => ⟨S8x2050x2688, .f32⟩
  | .hbm, ⟨13, _⟩ => ⟨S8x2048x2688, .f32⟩
  | .hbm, ⟨14, _⟩ => ⟨S1x2688, .f32⟩
  | .hbm, ⟨15, _⟩ => ⟨S2688, .f32⟩
  | .hbm, ⟨16, _⟩ => ⟨S1x1x2688, .f32⟩
  | .hbm, ⟨17, _⟩ => ⟨S8x2048x2688, .f32⟩
  | .hbm, ⟨18, _⟩ => ⟨S8x2048x2688, .f32⟩
  | .hbm, ⟨19, _⟩ => ⟨S1x1x2688, .f32⟩
  | .hbm, ⟨20, _⟩ => ⟨S8x2048x2688, .f32⟩
  | .hbm, ⟨21, _⟩ => ⟨S8x2048x2688, .f32⟩
  | .hbm, ⟨22, _⟩ => ⟨S8x2048x2688, .f32⟩
  | .hbm, ⟨23, _⟩ => ⟨S1x2688, .f32⟩
  | .hbm, ⟨24, _⟩ => ⟨S2688, .f32⟩
  | .hbm, ⟨25, _⟩ => ⟨S1x1x2688, .f32⟩
  | .hbm, ⟨26, _⟩ => ⟨S8x2048x2688, .f32⟩
  | .hbm, ⟨27, _⟩ => ⟨S8x2048x2688, .f32⟩
  | .hbm, ⟨28, _⟩ => ⟨S8x2048x2688, .f32⟩
  | .hbm, ⟨29, _⟩ => ⟨S8x2048x2688, .f32⟩
  | .hbm, ⟨30, _⟩ => ⟨S1x2688, .f32⟩
  | .hbm, ⟨31, _⟩ => ⟨S2688, .f32⟩
  | .hbm, ⟨32, _⟩ => ⟨S1x1x2688, .f32⟩
  | .hbm, ⟨33, _⟩ => ⟨S8x2048x2688, .f32⟩
  | .hbm, ⟨34, _⟩ => ⟨S8x2048x2688, .f32⟩
  | .hbm, ⟨35, _⟩ => ⟨S8x2048x2688, .f32⟩
  | .hbm, ⟨36, _⟩ => ⟨S8x2048x2688, .f32⟩
  | .hbm, ⟨37, _⟩ => ⟨S8x2048x2688, .f32⟩
  | .hbm, ⟨38, _⟩ => ⟨S_, .f32⟩
  | .hbm, ⟨39, _⟩ => ⟨S8x2048x2688, .f32⟩
  | .hbm, ⟨40, _⟩ => ⟨S8x2048x2688, .f32⟩
  | .hbm, ⟨41, _⟩ => ⟨S_, .f32⟩
  | .hbm, ⟨42, _⟩ => ⟨S8x2048x2688, .f32⟩
  | .hbm, ⟨43, _⟩ => ⟨S8x2048x2688, .f32⟩
  | .hbm, ⟨44, _⟩ => ⟨S8x2048x2688, .f32⟩
  | .hbm, ⟨45, _⟩ => ⟨S8x2048x2688, .f32⟩
  | .hbm, ⟨46, _⟩ => ⟨S8x2048x1024, .f32⟩
  | .hbm, ⟨47, _⟩ => ⟨S_, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S8x2048x1024, .f32⟩
  | .hbm, ⟨67, _⟩ => ⟨S8x2048x1024, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S1x1x1024, .f32⟩
  | .hbm, ⟨78, _⟩ => ⟨S8x2048x1024, .f32⟩
  | .hbm, ⟨79, _⟩ => ⟨S8x2048x1024, .f32⟩
  | .hbm, ⟨80, _⟩ => ⟨S8x2x2688, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_1 : Ref sig .tc := ⟨.hbm, 51, rfl⟩
abbrev main_v34 : Ref sig .tc := ⟨.hbm, 52, rfl⟩
abbrev main_v35 : Ref sig .tc := ⟨.hbm, 53, rfl⟩
abbrev main_cst_2 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_cst_4 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== OutProj.lean ====
abbrev S8x2048x256 : Shape := ⟨3, ![8, 2048, 256]⟩
abbrev S8x2048x1024 : Shape := ⟨3, ![8, 2048, 1024]⟩
abbrev S1024x1024 : Shape := ⟨2, ![1024, 1024]⟩
abbrev S1024 : Shape := ⟨1, ![1024]⟩
abbrev S512x1024 : Shape := ⟨2, ![512, 1024]⟩
abbrev S256x1024 : Shape := ⟨2, ![256, 1024]⟩
abbrev S768x1024 : Shape := ⟨2, ![768, 1024]⟩
abbrev S1x1024 : Shape := ⟨2, ![1, 1024]⟩
abbrev S8x2048x768 : Shape := ⟨3, ![8, 2048, 768]⟩
abbrev S16384x768 : Shape := ⟨2, ![16384, 768]⟩
abbrev S16384x256 : Shape := ⟨2, ![16384, 256]⟩
abbrev S16384x1024 : Shape := ⟨2, ![16384, 1024]⟩
abbrev S512x768 : Shape := ⟨2, ![512, 768]⟩
abbrev S512x256 : Shape := ⟨2, ![512, 256]⟩
abbrev S512 : Shape := ⟨1, ![512]⟩
abbrev S512x1 : Shape := ⟨2, ![512, 1]⟩

abbrev nBuf : Space → Nat
  | .hbm => 23
  | .vmem => 12
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S8x2048x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S512x1024, .f32⟩
  | .hbm, ⟨9, _⟩ => ⟨S256x1024, .f32⟩
  | .hbm, ⟨10, _⟩ => ⟨S768x1024, .f32⟩
  | .hbm, ⟨11, _⟩ => ⟨S768x1024, .bf16⟩
  | .hbm, ⟨12, _⟩ => ⟨S256x1024, .f32⟩
  | .hbm, ⟨13, _⟩ => ⟨S256x1024, .bf16⟩
  | .hbm, ⟨14, _⟩ => ⟨S1x1024, .f32⟩
  | .hbm, ⟨15, _⟩ => ⟨S1x1024, .f32⟩
  | .hbm, ⟨16, _⟩ => ⟨S8x2048x768, .f32⟩
  | .hbm, ⟨17, _⟩ => ⟨S8x2048x768, .bf16⟩
  | .hbm, ⟨18, _⟩ => ⟨S8x2048x256, .bf16⟩
  | .hbm, ⟨19, _⟩ => ⟨S16384x768, .bf16⟩
  | .hbm, ⟨20, _⟩ => ⟨S16384x256, .bf16⟩
  | .hbm, ⟨21, _⟩ => ⟨S16384x1024, .f32⟩
  | .hbm, ⟨22, _⟩ => ⟨S16384x1024, .f32⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S512x1024, .f32⟩
  | .local _ .vmem, ⟨5, _⟩ => ⟨S512x1024, .f32⟩
  | .local _ .vmem, ⟨6, _⟩ => ⟨S768x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S768x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutProjReferenceIdeal.lean ====
abbrev S8x2048x256 : Shape := ⟨3, ![8, 2048, 256]⟩
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S16384x1024 : Shape := ⟨2, ![16384, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x256, .f32⟩
  | .hbm, ⟨2, _⟩ => ⟨S8x2048x256, .f32⟩
  | .hbm, ⟨3, _⟩ => ⟨S8x2048x256, .f32⟩
  | .hbm, ⟨4, _⟩ => ⟨S8x2048x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S8x2048x1024, .f32⟩
  | .hbm, ⟨9, _⟩ => ⟨S8x2048x1024, .f32⟩
  | .hbm, ⟨10, _⟩ => ⟨S_, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S_, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x2048x1024, .f32⟩
  | .hbm, ⟨36, _⟩ => ⟨S8x2048x1024, .f32⟩
  | .hbm, ⟨37, _⟩ => ⟨S1x1x1024, .f32⟩
  | .hbm, ⟨38, _⟩ => ⟨S8x2048x1024, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S16384x1024, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== FfnSample.lean ====
abbrev S32x16x1024 : Shape := ⟨3, ![32, 16, 1024]⟩
abbrev S32x2x2688 : Shape := ⟨3, ![32, 2, 2688]⟩
abbrev S1024x5376 : Shape := ⟨2, ![1024, 5376]⟩
abbrev S3x2688 : Shape := ⟨2, ![3, 2688]⟩
abbrev S2688 : Shape := ⟨1, ![2688]⟩
abbrev S2688x1024 : Shape := ⟨2, ![2688, 1024]⟩
abbrev S1024 : Shape := ⟨1, ![1024]⟩
abbrev S_ : Shape := ⟨0, ![]⟩
abbrev S8x2688 : Shape := ⟨2, ![8, 2688]⟩
abbrev S1x2688 : Shape := ⟨2, ![1, 2688]⟩
abbrev S1x1024 : Shape := ⟨2, ![1, 1024]⟩
abbrev S32x8x2688 : Shape := ⟨3, ![32, 8, 2688]⟩
abbrev S32x24x2688 : Shape := ⟨3, ![32, 24, 2688]⟩
abbrev S512x1024 : Shape := ⟨2, ![512, 1024]⟩
abbrev S1024x896 : Shape := ⟨2, ![1024, 896]⟩
abbrev S512x896 : Shape := ⟨2, ![512, 896]⟩
abbrev S32x16x896 : Shape := ⟨3, ![32, 16, 896]⟩
abbrev S1x896 : Shape := ⟨2, ![1, 896]⟩
abbrev S1x1x896 : Shape := ⟨3, ![1, 1, 896]⟩
abbrev S896x1024 : Shape := ⟨2, ![896, 1024]⟩
abbrev S512 : Shape := ⟨1, ![512]⟩
abbrev S512x1 : Shape := ⟨2, ![512, 1]⟩

abbrev nBuf : Space → Nat
  | .hbm => 21
  | .vmem => 11
  | .smem => 0
  | _ => 0

abbrev bufTy : (tb : Table) → Fin (tcTables nBuf tb) → BufTy
  | .hbm, ⟨0, _⟩ => ⟨S32x16x1024, .f32⟩
  | .hbm, ⟨1, _⟩ => ⟨S32x2x2688, .f32⟩
  | .hbm, ⟨2, _⟩ => ⟨S1024x5376, .f32⟩
  | .hbm, ⟨3, _⟩ => ⟨S3x2688, .f32⟩
  | .hbm, ⟨4, _⟩ => ⟨S2688, .f32⟩
  | .hbm, ⟨5, _⟩ => ⟨S2688x1024, .f32⟩
  | .hbm, ⟨6, _⟩ => ⟨S1024, .f32⟩
  | .hbm, ⟨7, _⟩ => ⟨S1024, .f32⟩
  | .hbm, ⟨8, _⟩ => ⟨S1024x5376, .bf16⟩
  | .hbm, ⟨9, _⟩ => ⟨S_, .i32⟩
  | .hbm, ⟨10, _⟩ => ⟨S_, .f32⟩
  | .hbm, ⟨11, _⟩ => ⟨S8x2688, .f32⟩
  | .hbm, ⟨12, _⟩ => ⟨S1x2688, .f32⟩
  | .hbm, ⟨13, _⟩ => ⟨S2688x1024, .bf16⟩
  | .hbm, ⟨14, _⟩ => ⟨S1x1024, .f32⟩
  | .hbm, ⟨15, _⟩ => ⟨S1x1024, .f32⟩
  | .hbm, ⟨16, _⟩ => ⟨S_, .i32⟩
  | .hbm, ⟨17, _⟩ => ⟨S_, .f32⟩
  | .hbm, ⟨18, _⟩ => ⟨S32x8x2688, .f32⟩
  | .hbm, ⟨19, _⟩ => ⟨S32x16x1024, .f32⟩
  | .hbm, ⟨20, _⟩ => ⟨S32x2x2688, .f32⟩
  | .local _ .vmem, ⟨0, _⟩ => ⟨S32x16x1024, .f32⟩
  | .local _ .vmem, ⟨1, _⟩ => ⟨S1024x5376, .bf16⟩
  | .local _ .vmem, ⟨2, _⟩ => ⟨S8x2688, .f32⟩
  | .local _ .vmem, ⟨3, _⟩ => ⟨S1x2688, .f32⟩
  | .local _ .vmem, ⟨4, _⟩ => ⟨S2688x1024, .bf16⟩
  | .local _ .vmem, ⟨5, _⟩ => ⟨S1x1024, .f32⟩
  | .local _ .vmem, ⟨6, _⟩ => ⟨S1x1024, .f32⟩
  | .local _ .vmem, ⟨7, _⟩ => ⟨S32x8x2688, .f32⟩
  | .local _ .vmem, ⟨8, _⟩ => ⟨S32x16x1024, .f32⟩
  | .local _ .vmem, ⟨9, _⟩ => ⟨S32x2x2688, .f32⟩
  | .local _ .vmem, ⟨10, _⟩ => ⟨S32x24x2688, .f32⟩
  | _, _ => ⟨S32x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S32x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x5376 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x2688 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2688 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2688x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x8x2688 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S32x16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S32x2x2688 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]
-- ==== FfnSampleReferenceIdeal.lean ====
abbrev S32x16x1024 : Shape := ⟨3, ![32, 16, 1024]⟩
abbrev S32x2x2688 : Shape := ⟨3, ![32, 2, 2688]⟩
abbrev S1024x5376 : Shape := ⟨2, ![1024, 5376]⟩
abbrev S3x2688 : Shape := ⟨2, ![3, 2688]⟩
abbrev S2688 : Shape := ⟨1, ![2688]⟩
abbrev S2688x1024 : Shape := ⟨2, ![2688, 1024]⟩
abbrev S1024 : Shape := ⟨1, ![1024]⟩
abbrev S32x16x5376 : Shape := ⟨3, ![32, 16, 5376]⟩
abbrev S32x16x2688 : Shape := ⟨3, ![32, 16, 2688]⟩
abbrev S32x18x2688 : Shape := ⟨3, ![32, 18, 2688]⟩
abbrev S1x2688 : Shape := ⟨2, ![1, 2688]⟩
abbrev S1x1x2688 : Shape := ⟨3, ![1, 1, 2688]⟩
abbrev S_ : Shape := ⟨0, ![]⟩
abbrev S32x16 : Shape := ⟨2, ![32, 16]⟩
abbrev S32x16x1 : Shape := ⟨3, ![32, 16, 1]⟩
abbrev S1x1x1024 : Shape := ⟨3, ![1, 1, 1024]⟩

abbrev nBuf : Space → Nat
  | .hbm => 80
  | .vmem => 0
  | .smem => 0
  | _ => 0

abbrev bufTy : (tb : Table) → Fin (tcTables nBuf tb) → BufTy
  | .hbm, ⟨0, _⟩ => ⟨S32x16x1024, .f32⟩
  | .hbm, ⟨1, _⟩ => ⟨S32x2x2688, .f32⟩
  | .hbm, ⟨2, _⟩ => ⟨S1024x5376, .f32⟩
  | .hbm, ⟨3, _⟩ => ⟨S3x2688, .f32⟩
  | .hbm, ⟨4, _⟩ => ⟨S2688, .f32⟩
  | .hbm, ⟨5, _⟩ => ⟨S2688x1024, .f32⟩
  | .hbm, ⟨6, _⟩ => ⟨S1024, .f32⟩
  | .hbm, ⟨7, _⟩ => ⟨S1024, .f32⟩
  | .hbm, ⟨8, _⟩ => ⟨S32x16x5376, .f32⟩
  | .hbm, ⟨9, _⟩ => ⟨S32x16x2688, .f32⟩
  | .hbm, ⟨10, _⟩ => ⟨S32x16x2688, .f32⟩
  | .hbm, ⟨11, _⟩ => ⟨S32x18x2688, .f32⟩
  | .hbm, ⟨12, _⟩ => ⟨S32x16x2688, .f32⟩
  | .hbm, ⟨13, _⟩ => ⟨S1x2688, .f32⟩
  | .hbm, ⟨14, _⟩ => ⟨S2688, .f32⟩
  | .hbm, ⟨15, _⟩ => ⟨S1x1x2688, .f32⟩
  | .hbm, ⟨16, _⟩ => ⟨S32x16x2688, .f32⟩
  | .hbm, ⟨17, _⟩ => ⟨S32x16x2688, .f32⟩
  | .hbm, ⟨18, _⟩ => ⟨S1x1x2688, .f32⟩
  | .hbm, ⟨19, _⟩ => ⟨S32x16x2688, .f32⟩
  | .hbm, ⟨20, _⟩ => ⟨S32x16x2688, .f32⟩
  | .hbm, ⟨21, _⟩ => ⟨S32x16x2688, .f32⟩
  | .hbm, ⟨22, _⟩ => ⟨S1x2688, .f32⟩
  | .hbm, ⟨23, _⟩ => ⟨S2688, .f32⟩
  | .hbm, ⟨24, _⟩ => ⟨S1x1x2688, .f32⟩
  | .hbm, ⟨25, _⟩ => ⟨S32x16x2688, .f32⟩
  | .hbm, ⟨26, _⟩ => ⟨S32x16x2688, .f32⟩
  | .hbm, ⟨27, _⟩ => ⟨S32x16x2688, .f32⟩
  | .hbm, ⟨28, _⟩ => ⟨S32x16x2688, .f32⟩
  | .hbm, ⟨29, _⟩ => ⟨S1x2688, .f32⟩
  | .hbm, ⟨30, _⟩ => ⟨S2688, .f32⟩
  | .hbm, ⟨31, _⟩ => ⟨S1x1x2688, .f32⟩
  | .hbm, ⟨32, _⟩ => ⟨S32x16x2688, .f32⟩
  | .hbm, ⟨33, _⟩ => ⟨S32x16x2688, .f32⟩
  | .hbm, ⟨34, _⟩ => ⟨S32x16x2688, .f32⟩
  | .hbm, ⟨35, _⟩ => ⟨S32x16x2688, .f32⟩
  | .hbm, ⟨36, _⟩ => ⟨S32x16x2688, .f32⟩
  | .hbm, ⟨37, _⟩ => ⟨S_, .f32⟩
  | .hbm, ⟨38, _⟩ => ⟨S32x16x2688, .f32⟩
  | .hbm, ⟨39, _⟩ => ⟨S32x16x2688, .f32⟩
  | .hbm, ⟨40, _⟩ => ⟨S_, .f32⟩
  | .hbm, ⟨41, _⟩ => ⟨S32x16x2688, .f32⟩
  | .hbm, ⟨42, _⟩ => ⟨S32x16x2688, .f32⟩
  | .hbm, ⟨43, _⟩ => ⟨S32x16x2688, .f32⟩
  | .hbm, ⟨44, _⟩ => ⟨S32x16x2688, .f32⟩
  | .hbm, ⟨45, _⟩ => ⟨S32x16x1024, .f32⟩
  | .hbm, ⟨46, _⟩ => ⟨S_, .f32⟩
  | .hbm, ⟨47, _⟩ => ⟨S32x16x1024, .f32⟩
  | .hbm, ⟨48, _⟩ => ⟨S32x16x1024, .f32⟩
  | .hbm, ⟨49, _⟩ => ⟨S32x16x1024, .f32⟩
  | .hbm, ⟨50, _⟩ => ⟨S_, .f32⟩
  | .hbm, ⟨51, _⟩ => ⟨S32x16, .f32⟩
  | .hbm, ⟨52, _⟩ => ⟨S32x16x1, .f32⟩
  | .hbm, ⟨53, _⟩ => ⟨S_, .f32⟩
  | .hbm, ⟨54, _⟩ => ⟨S32x16x1, .f32⟩
  | .hbm, ⟨55, _⟩ => ⟨S32x16x1, .f32⟩
  | .hbm, ⟨56, _⟩ => ⟨S32x16x1024, .f32⟩
  | .hbm, ⟨57, _⟩ => ⟨S32x16x1024, .f32⟩
  | .hbm, ⟨58, _⟩ => ⟨S32x16x1024, .f32⟩
  | .hbm, ⟨59, _⟩ => ⟨S_, .f32⟩
  | .hbm, ⟨60, _⟩ => ⟨S32x16, .f32⟩
  | .hbm, ⟨61, _⟩ => ⟨S32x16x1, .f32⟩
  | .hbm, ⟨62, _⟩ => ⟨S_, .f32⟩
  | .hbm, ⟨63, _⟩ => ⟨S32x16x1, .f32⟩
  | .hbm, ⟨64, _⟩ => ⟨S32x16x1, .f32⟩
  | .hbm, ⟨65, _⟩ => ⟨S32x16x1024, .f32⟩
  | .hbm, ⟨66, _⟩ => ⟨S32x16x1024, .f32⟩
  | .hbm, ⟨67, _⟩ => ⟨S_, .f32⟩
  | .hbm, ⟨68, _⟩ => ⟨S32x16x1, .f32⟩
  | .hbm, ⟨69, _⟩ => ⟨S32x16x1, .f32⟩
  | .hbm, ⟨70, _⟩ => ⟨S32x16x1, .f32⟩
  | .hbm, ⟨71, _⟩ => ⟨S32x16x1024, .f32⟩
  | .hbm, ⟨72, _⟩ => ⟨S32x16x1024, .f32⟩
  | .hbm, ⟨73, _⟩ => ⟨S1x1x1024, .f32⟩
  | .hbm, ⟨74, _⟩ => ⟨S32x16x1024, .f32⟩
  | .hbm, ⟨75, _⟩ => ⟨S32x16x1024, .f32⟩
  | .hbm, ⟨76, _⟩ => ⟨S1x1x1024, .f32⟩
  | .hbm, ⟨77, _⟩ => ⟨S32x16x1024, .f32⟩
  | .hbm, ⟨78, _⟩ => ⟨S32x16x1024, .f32⟩
  | .hbm, ⟨79, _⟩ => ⟨S32x2x2688, .f32⟩
  | _, _ => ⟨S32x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_0 : Ref sig .tc := ⟨.hbm, 50, rfl⟩
abbrev main_v33 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_2 : Ref sig .tc := ⟨.hbm, 59, rfl⟩
abbrev main_v40 : Ref sig .tc := ⟨.hbm, 60, rfl⟩
abbrev main_v41 : Ref sig .tc := ⟨.hbm, 61, rfl⟩
abbrev main_cst_3 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_4 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Proof.FlashModel.lean ====
/- The forgetting attention's kernel as functions of the arrays it reads: one step of the online softmax over a tile of
   256 keys, the steps before a tile, and the block it leaves. Every definition is over any float operations. The 1024
   rows of a step are 4 heads times 256 queries; the kernel takes them in strips of 64 rows. -/
module

public import proofs.«01_k».proof.Proof.Gen.KernelIdeal.Skeleton
public import Idealize.ShloMosaic.Lib.Pointwise.Index
public import Idealize.ShloMosaic.Lib.Pipeline.ReadBack
public import Idealize.ShloMosaic.Lib.VecWindow

@[expose] public section

set_option maxRecDepth 65536

noncomputable section

namespace Cert.KernelIdeal.Flash

open Cert.KernelIdeal Cert.KernelIdeal.Gen
open Idealize.ShloMosaic Idealize.ShloMosaic.TcCoe

variable {F : FTy → Type}

/-! ## Strips of rows -/

/-- 64 rows of a 1024-row array, from row `o`. -/
def rows {e : EltTy} {w : Nat} (X : Vec F ⟨2, ![1024, w]⟩ e) (o : Nat) : Vec F ⟨2, ![64, w]⟩ e :=
  fun y => X (ix2 ⟨(o + (y 0).val) % 1024, Nat.mod_lt _ (by decide)⟩ (y 1))

/-- 64 rows of a 256-row array, from row `o`. -/
def rowsA (X : Vec F S256x256 .f32) (o : Nat) : Vec F S64x256 .f32 :=
  fun y => X (ix2 ⟨(o + (y 0).val) % 256, Nat.mod_lt _ (by decide)⟩ (y 1))

/-- A 1024-row array from its sixteen strips. -/
def strips {e : EltTy} {w : Nat} (P : Nat → Vec F ⟨2, ![64, w]⟩ e) : Vec F ⟨2, ![1024, w]⟩ e :=
  fun y => P ((y 0).val / 64) (ix2 ⟨(y 0).val % 64, Nat.mod_lt _ (by decide)⟩ (y 1))

/-- A 256-row array from its four strips. -/
def stripsA (P : Nat → Vec F S64x256 .f32) : Vec F S256x256 .f32 :=
  fun y => P ((y 0).val / 64) (ix2 ⟨(y 0).val % 64, Nat.mod_lt _ (by decide)⟩ (y 1))

/-- A block of 256 rows from its four strips. -/
def stripsO (P : Nat → Vec F S1x64x256 .bf16) : Vec F S1x256x256 .bf16 :=
  fun y => P ((y 1).val / 64) (ix3 (0 : Fin 1) (⟨(y 1).val % 64, Nat.mod_lt _ (by decide)⟩ : Fin 64) (y 2 : Fin 256))

/-- A 1024-row array from four blocks of 256 rows, one for each head. -/
def heads {e : EltTy} {w : Nat} (P : Nat → Vec F ⟨2, ![256, w]⟩ e) : Vec F ⟨2, ![1024, w]⟩ e :=
  fun y => P ((y 0).val / 256) (ix2 ⟨(y 0).val % 256, Nat.mod_lt _ (by decide)⟩ (y 1))

/-! ## A step -/

variable [FloatOps F]

/-- The key decays of head `h` as a row. -/
def dkRow (dk : Vec F S1x1x8x256 .f32) : Nat → FVec F S1x256 .f32
  | 0 => extractStridedSlice S1x256 ![0, 0] (k0_pay3 dk) slices_S8x256_o0_0_S1x256
  | 1 => extractStridedSlice S1x256 ![1, 0] (k0_pay3 dk) slices_S8x256_o1_0_S1x256
  | 2 => extractStridedSlice S1x256 ![2, 0] (k0_pay3 dk) slices_S8x256_o2_0_S1x256
  | _ => extractStridedSlice S1x256 ![3, 0] (k0_pay3 dk) slices_S8x256_o3_0_S1x256

/-- A strip of scores where the key is not after the query; minus infinity elsewhere. `o` is the strip's first query. -/
def maskRow (o : BitVec 32) (s : FVec F S64x256 .f32) : FVec F S64x256 .f32 :=
  select (cmpi .sle (iota .tc S64x256 32 [1] iota_S64x256_d1_w32)
    (addi (broadcast S64x256 o) (iota .tc S64x256 32 [0] iota_S64x256_d0_w32))) s
    (broadcast S64x256 (Scalar.ofBits .f32 0xFF800000#32))

/-- Strip `n`'s scores less the key decays, masked on the diagonal tile. -/
def scores (msk : Bool) (dk : Vec F S1x1x8x256 .f32) (S : FVec F S1024x256 .f32) (n : Nat) : FVec F S64x256 .f32 :=
  match msk with
  | false => k0_pay135 (dkRow dk (n / 4)) (rows (e := .f32) (w := 256) S (64 * n))
  | true => maskRow (BitVec.ofNat 32 (64 * (n % 4))) (k0_pay135 (dkRow dk (n / 4)) (rows (e := .f32) (w := 256) S (64 * n)))

/-- What the kernel carries from one tile of keys to the next: the running maxima, the running sums and the accumulator. -/
structure St (F : FTy → Type) where
  /-- The running maximum of each row, on 128 lanes. -/
  m : FVec F S1024x128 .f32
  /-- The running sum of each row, on 128 lanes. -/
  l : FVec F S1024x128 .f32
  /-- The accumulator: 256 queries by 4 heads of 64 lanes. -/
  a : FVec F S256x256 .f32

/-- What a step reads: the block-diagonal queries, the query decays on 128 lanes, and a tile of keys, values and key decays. -/
structure Tile (F : FTy → Type) where
  /-- The queries, row by head, zero outside the head's lanes. -/
  q : FVec F S1024x256 .bf16
  /-- The query decays. -/
  dq : FVec F S1024x128 .f32
  /-- The keys. -/
  k : Vec F S1x256x256 .bf16
  /-- The values. -/
  v : Vec F S1x256x256 .bf16
  /-- The key decays. -/
  dk : Vec F S1x1x8x256 .f32

/-- The running maxima after a step. -/
def stepM (msk : Bool) (t : Tile F) (M : FVec F S1024x128 .f32) : FVec F S1024x128 .f32 :=
  strips (e := .f32) (w := 128) fun n => k0_pay140 (scores msk t.dk (k0_pay4 t.k t.q) n) (rows (e := .f32) (w := 128) t.dq (64 * n)) (rows (e := .f32) (w := 128) M (64 * n))

/-- The factors by which a step rescales what was summed before. -/
def stepAlpha (msk : Bool) (t : Tile F) (M : FVec F S1024x128 .f32) : FVec F S1024x128 .f32 :=
  strips (e := .f32) (w := 128) fun n => k0_pay141 (scores msk t.dk (k0_pay4 t.k t.q) n) (rows (e := .f32) (w := 128) t.dq (64 * n)) (rows (e := .f32) (w := 128) M (64 * n))

/-- A step's weights, before the division. -/
def stepP (msk : Bool) (t : Tile F) (M : FVec F S1024x128 .f32) : FVec F S1024x256 .bf16 :=
  strips (e := .bf16) (w := 256) fun n => k0_pay142 (scores msk t.dk (k0_pay4 t.k t.q) n) (rows (e := .f32) (w := 128) t.dq (64 * n)) (rows (e := .f32) (w := 128) M (64 * n))

/-- The running sums after a step. -/
def stepL (msk : Bool) (t : Tile F) (M L : FVec F S1024x128 .f32) : FVec F S1024x128 .f32 :=
  strips (e := .f32) (w := 128) fun n => k0_pay139 (scores msk t.dk (k0_pay4 t.k t.q) n) (rows (e := .f32) (w := 128) t.dq (64 * n)) (rows (e := .f32) (w := 128) M (64 * n)) (rows (e := .f32) (w := 128) L (64 * n))

/-- The weights times the tile's values, head by head. -/
def stepPV (msk : Bool) (t : Tile F) (M : FVec F S1024x128 .f32) : FVec F S1024x256 .f32 :=
  k0_pay143 (k0_pay2 t.v) (stepP msk t M)

/-- Strip `r` of the accumulator after a step, from the lanes' heads, the four heads' strips of factors and of products,
    and the strip before. -/
def accStrip (lh : IVec S1x256 32) (A : FVec F S1024x128 .f32) (PV : FVec F S1024x256 .f32) (acc : FVec F S256x256 .f32) (r : Nat) :
    FVec F S64x256 .f32 :=
  k0_pay147 lh (k0_pay145 lh k0_pay144 (rows (e := .f32) (w := 256) PV (64 * r)) (rows (e := .f32) (w := 256) PV (256 + 64 * r)) (rows (e := .f32) (w := 256) PV (512 + 64 * r)))
    (k0_pay146 lh (rows (e := .f32) (w := 128) A (64 * r)) (rows (e := .f32) (w := 128) A (256 + 64 * r)) (rows (e := .f32) (w := 128) A (512 + 64 * r))) (rows (e := .f32) (w := 128) A (768 + 64 * r))
    (rows (e := .f32) (w := 256) PV (768 + 64 * r)) (rowsA acc (64 * r))

/-- The accumulator after a step. -/
def stepA (msk : Bool) (lh : IVec S1x256 32) (t : Tile F) (M : FVec F S1024x128 .f32) (acc : FVec F S256x256 .f32) : FVec F S256x256 .f32 :=
  stripsA (accStrip lh (stepAlpha msk t M) (stepPV msk t M) acc)

/-- One step. -/
def step (msk : Bool) (lh : IVec S1x256 32) (t : Tile F) (s : St F) : St F :=
  ⟨stepM msk t s.m, stepL msk t s.m s.l, stepA msk lh t s.m s.a⟩

/-! ## The whole body -/

/-- The heads' block-diagonal queries. -/
def qHead (v0 : Vec F S1x256x256 .bf16) : Nat → FVec F S256x256 .bf16
  | 0 => k0_pay323 v0
  | 1 => k0_pay326 (k0_pay320 v0) k0_pay321
  | 2 => k0_pay328 (k0_pay320 v0) k0_pay321
  | _ => k0_pay332 (k0_pay320 v0) k0_pay330 (k0_pay331 k0_pay321)

/-- The heads' query decays on 128 lanes. -/
def dqHead (v27 : Vec F S1x256x128 .f32) : Nat → FVec F S256x128 .f32
  | 0 => k0_pay325 (k0_pay324 v27)
  | 1 => k0_pay327 (k0_pay322 v27)
  | 2 => k0_pay329 (k0_pay322 v27)
  | _ => k0_pay333 (k0_pay322 v27)

/-- 256 rows of a 2048-row array of keys or values, from row `256 n`. -/
def keyTile (X : Vec F S1x2048x256 .bf16) (n : Nat) : Vec F S1x256x256 .bf16 :=
  fun y => X (ix3 (0 : Fin 1) (⟨(256 * n + (y 1).val) % 2048, Nat.mod_lt _ (by decide)⟩ : Fin 2048) (y 2 : Fin 256))

/-- The key decays of tile `n`. -/
def dkTile (X : Vec F S1x8x8x256 .f32) (n : Nat) : Vec F S1x1x8x256 .f32 :=
  fun y => X (ix4 (0 : Fin 1) (⟨n % 8, Nat.mod_lt _ (by decide)⟩ : Fin 8) (y 2 : Fin 8) (y 3 : Fin 256))

/-- What step `n` of a block reads. -/
def tile (xq : Vec F S1x256x256 .bf16) (xk xv : Vec F S1x2048x256 .bf16) (xdq : Vec F S1x256x128 .f32) (xdk : Vec F S1x8x8x256 .f32)
    (n : Nat) : Tile F :=
  ⟨heads (e := .bf16) (w := 256) (qHead xq), heads (e := .f32) (w := 128) (dqHead xdq), keyTile xk n, keyTile xv n, dkTile xdk n⟩

/-- What is carried before tile `n`. -/
def state (xq : Vec F S1x256x256 .bf16) (xk xv : Vec F S1x2048x256 .bf16) (xdq : Vec F S1x256x128 .f32) (xdk : Vec F S1x8x8x256 .f32) :
    Nat → St F
  | 0 => ⟨k0_pay334, k0_pay335, k0_pay336⟩
  | n + 1 => step false k0_pay321 (tile xq xk xv xdq xdk n) (state xq xk xv xdq xdk n)

/-- The block that is left, from what is carried after its last tile. -/
def outBlock (lh : IVec S1x256 32) (s : St F) : Vec F S1x256x256 .bf16 :=
  stripsO fun r => k0_pay513 lh (rows (e := .f32) (w := 128) s.l (64 * r)) (rows (e := .f32) (w := 128) s.l (256 + 64 * r)) (rows (e := .f32) (w := 128) s.l (512 + 64 * r)) (rows (e := .f32) (w := 128) s.l (768 + 64 * r))
    (rowsA s.a (64 * r))

/-- The block of 256 queries with `n` tiles of keys before its own. -/
def flashBlock (n : Nat) (xq : Vec F S1x256x256 .bf16) (xk xv : Vec F S1x2048x256 .bf16) (xdq : Vec F S1x256x128 .f32)
    (xdk : Vec F S1x8x8x256 .f32) : Vec F S1x256x256 .bf16 :=
  outBlock k0_pay321 (step true k0_pay321 (tile xq xk xv xdq xdk n) (state xq xk xv xdq xdk n))

/-! ## Reading and writing strips -/

section Views

variable {sg : RefSig} {κ : Kind} {sp : Space} {e : EltTy} {w : Nat}

theorem readAt_rows (v : View sg κ sp ⟨2, ![1024, w]⟩ e) (f : v.ty.Contents (Elt F)) (o : Nat) (ho : o + 64 ≤ 1024)
    (inb : ∀ a, (![o, 0] : Fin 2 → Nat) a + (⟨2, ![64, w]⟩ : Shape).size a ≤ (⟨2, ![1024, w]⟩ : Shape).size a) :
    v.readAt (Elt F) (Rect.unit (s := ⟨2, ![1024, w]⟩) ![o, 0] (⟨2, ![64, w]⟩ : Shape).size inb).toLoadRect f
      = rows (v.read (Elt F) f) o := by
  funext y
  refine congrArg (v.read (Elt F) f) (funext fun a => ?_)
  have h0 : (y 0).val < 64 := (y 0).isLt
  match a with
  | ⟨0, _⟩ => exact Fin.ext (by show o + 1 * (y 0).val = (o + (y 0).val) % 1024; omega)
  | ⟨1, _⟩ => exact Fin.ext (by show 0 + 1 * (y 1).val = (y 1).val; omega)

theorem readAt_rowsA (v : View sg κ sp S256x256 .f32) (f : v.ty.Contents (Elt F)) (o : Nat) (ho : o + 64 ≤ 256)
    (inb : ∀ a, (![o, 0] : Fin 2 → Nat) a + S64x256.size a ≤ S256x256.size a) :
    v.readAt (Elt F) (Rect.unit (s := S256x256) ![o, 0] S64x256.size inb).toLoadRect f = rowsA (v.read (Elt F) f) o := by
  funext y
  refine congrArg (v.read (Elt F) f) (funext fun a => ?_)
  have h0 : (y 0).val < 64 := (y 0).isLt
  match a with
  | ⟨0, _⟩ => exact Fin.ext (by show o + 1 * (y 0).val = (o + (y 0).val) % 256; omega)
  | ⟨1, _⟩ => exact Fin.ext (by show 0 + 1 * (y 1).val = (y 1).val; omega)

omit [FloatOps F] in
theorem strips_emb (P : Nat → Vec F ⟨2, ![64, w]⟩ e) (o : Nat) (ho : o % 64 = 0)
    (inb : ∀ a, (![o, 0] : Fin 2 → Nat) a + (⟨2, ![64, w]⟩ : Shape).size a ≤ (⟨2, ![1024, w]⟩ : Shape).size a)
    (x : (Rect.unit (s := ⟨2, ![1024, w]⟩) ![o, 0] (⟨2, ![64, w]⟩ : Shape).size inb).shape.Idx) :
    strips P ((Rect.unit (s := ⟨2, ![1024, w]⟩) ![o, 0] (⟨2, ![64, w]⟩ : Shape).size inb).emb x) = P (o / 64) x := by
  have h0 : (x 0).val < 64 := (x 0).isLt
  have e0 : (o + 1 * (x 0).val) / 64 = o / 64 := by omega
  have e1 : (o + 1 * (x 0).val) % 64 = (x 0).val := by omega
  show P ((o + 1 * (x 0).val) / 64) _ = _
  rw [e0]
  refine congrArg (P (o / 64)) (funext fun a => ?_)
  match a with
  | ⟨0, _⟩ => exact Fin.ext e1
  | ⟨1, _⟩ => exact Fin.ext (by show 0 + 1 * (x 1).val = (x 1).val; omega)

omit [FloatOps F] in
theorem stripsA_emb (P : Nat → Vec F S64x256 .f32) (o : Nat) (ho : o % 64 = 0)
    (inb : ∀ a, (![o, 0] : Fin 2 → Nat) a + S64x256.size a ≤ S256x256.size a)
    (x : (Rect.unit (s := S256x256) ![o, 0] S64x256.size inb).shape.Idx) :
    stripsA P ((Rect.unit (s := S256x256) ![o, 0] S64x256.size inb).emb x) = P (o / 64) x := by
  have h0 : (x 0).val < 64 := (x 0).isLt
  have e0 : (o + 1 * (x 0).val) / 64 = o / 64 := by omega
  have e1 : (o + 1 * (x 0).val) % 64 = (x 0).val := by omega
  show P ((o + 1 * (x 0).val) / 64) _ = _
  rw [e0]
  refine congrArg (P (o / 64)) (funext fun a => ?_)
  match a with
  | ⟨0, _⟩ => exact Fin.ext e1
  | ⟨1, _⟩ => exact Fin.ext (by show 0 + 1 * (x 1).val = (x 1).val; omega)

omit [FloatOps F] in
theorem stripsO_emb (P : Nat → Vec F S1x64x256 .bf16) (o : Nat) (ho : o % 64 = 0)
    (inb : ∀ a, (![0, o, 0] : Fin 3 → Nat) a + S1x64x256.size a ≤ S1x256x256.size a)
    (x : (Rect.unit (s := S1x256x256) ![0, o, 0] S1x64x256.size inb).shape.Idx) :
    stripsO P ((Rect.unit (s := S1x256x256) ![0, o, 0] S1x64x256.size inb).emb x) = P (o / 64) x := by
  have h0 : (x 1).val < 64 := (x 1).isLt
  have e0 : (o + 1 * (x 1).val) / 64 = o / 64 := by omega
  have e1 : (o + 1 * (x 1).val) % 64 = (x 1).val := by omega
  show P ((o + 1 * (x 1).val) / 64) _ = _
  rw [e0]
  refine congrArg (P (o / 64)) (funext fun a => ?_)
  match a with
  | ⟨0, _⟩ => exact Fin.ext (by have : (x 0).val < 1 := (x 0).isLt; show 0 = (x 0).val; omega)
  | ⟨1, _⟩ => exact Fin.ext e1
  | ⟨2, _⟩ => exact Fin.ext (by show 0 + 1 * (x 2).val = (x 2).val; omega)

omit [FloatOps F] in
theorem heads_emb (P : Nat → Vec F ⟨2, ![256, w]⟩ e) (o : Nat) (ho : o % 256 = 0)
    (inb : ∀ a, (![o, 0] : Fin 2 → Nat) a + (⟨2, ![256, w]⟩ : Shape).size a ≤ (⟨2, ![1024, w]⟩ : Shape).size a)
    (x : (Rect.unit (s := ⟨2, ![1024, w]⟩) ![o, 0] (⟨2, ![256, w]⟩ : Shape).size inb).shape.Idx) :
    heads P ((Rect.unit (s := ⟨2, ![1024, w]⟩) ![o, 0] (⟨2, ![256, w]⟩ : Shape).size inb).emb x) = P (o / 256) x := by
  have h0 : (x 0).val < 256 := (x 0).isLt
  have e0 : (o + 1 * (x 0).val) / 256 = o / 256 := by omega
  have e1 : (o + 1 * (x 0).val) % 256 = (x 0).val := by omega
  show P ((o + 1 * (x 0).val) / 256) _ = _
  rw [e0]
  refine congrArg (P (o / 256)) (funext fun a => ?_)
  match a with
  | ⟨0, _⟩ => exact Fin.ext e1
  | ⟨1, _⟩ => exact Fin.ext (by show 0 + 1 * (x 1).val = (x 1).val; omega)

omit [FloatOps F] in
theorem rows_of_idx (X : Vec F ⟨2, ![1024, w]⟩ e) (o : Nat) (ho : o + 64 ≤ 1024)
    (inb : ∀ a, (![o, 0] : Fin 2 → Nat) a + (⟨2, ![64, w]⟩ : Shape).size a ≤ (⟨2, ![1024, w]⟩ : Shape).size a)
    (x : (Rect.unit (s := ⟨2, ![1024, w]⟩) ![o, 0] (⟨2, ![64, w]⟩ : Shape).size inb).shape.Idx) :
    X ((Rect.unit (s := ⟨2, ![1024, w]⟩) ![o, 0] (⟨2, ![64, w]⟩ : Shape).size inb).idx x) = rows X o x := by
  refine congrArg X (funext fun a => ?_)
  have h0 : (x 0).val < 64 := (x 0).isLt
  match a with
  | ⟨0, _⟩ => exact Fin.ext (by show o + 1 * (x 0).val = (o + (x 0).val) % 1024; omega)
  | ⟨1, _⟩ => exact Fin.ext (by show 0 + 1 * (x 1).val = (x 1).val; omega)

/-- A strip loaded after a store of the whole array is the stored array's strip. -/
theorem readCov_rows (v : View sg κ sp ⟨2, ![1024, w]⟩ e)
    (inb0 : ∀ a, (![0, 0] : Fin 2 → Nat) a + (⟨2, ![1024, w]⟩ : Shape).size a ≤ (⟨2, ![1024, w]⟩ : Shape).size a)
    (X : Vec F ⟨2, ![1024, w]⟩ e) (L : List (View.Piece (Elt F) ⟨2, ![1024, w]⟩ e)) (o : Nat)
    (inb : ∀ a, (![o, 0] : Fin 2 → Nat) a + (⟨2, ![64, w]⟩ : Shape).size a ≤ (⟨2, ![1024, w]⟩ : Shape).size a) :
    v.readCov (⟨Rect.unit (s := ⟨2, ![1024, w]⟩) ![0, 0] (⟨2, ![1024, w]⟩ : Shape).size inb0, X⟩ :: L)
      (Rect.unit (s := ⟨2, ![1024, w]⟩) ![o, 0] (⟨2, ![64, w]⟩ : Shape).size inb).toLoadRect = rows X o := by
  refine (View.readCov_fill v inb0 X L _ (by intro a; fin_cases a <;> rfl)).trans ?_
  exact funext fun x => rows_of_idx X o (by have := inb 0; exact this) inb x

/-- A strip loaded after stores that are all of `X` and leave nothing out is `X`'s strip. -/
theorem readCov_rows_of (v : View sg κ sp ⟨2, ![1024, w]⟩ e) {X : Vec F ⟨2, ![1024, w]⟩ e}
    {L : List (View.Piece (Elt F) ⟨2, ![1024, w]⟩ e)} (hp : View.PiecesOf (Val := Elt F) X L) (hc : ∀ y, ∃ p ∈ L, y ∈ p.1.set) (o : Nat)
    (inb : ∀ a, (![o, 0] : Fin 2 → Nat) a + (⟨2, ![64, w]⟩ : Shape).size a ≤ (⟨2, ![1024, w]⟩ : Shape).size a) :
    v.readCov L (Rect.unit (s := ⟨2, ![1024, w]⟩) ![o, 0] (⟨2, ![64, w]⟩ : Shape).size inb).toLoadRect = rows X o := by
  funext x
  refine (View.read_writes_apply_of_pieces v v.junk X L hp.mem _ (hc _)).trans ?_
  exact rows_of_idx X o (by have := inb 0; exact this) inb x

/-- The whole loaded after stores that are all of `X` and leave nothing out is `X`. -/
theorem readCov_whole_of {S : Shape} (v : View sg κ sp S e) {X : Vec F S e}
    {L : List (View.Piece (Elt F) S e)} (hp : View.PiecesOf (Val := Elt F) X L) (hc : ∀ y, ∃ p ∈ L, y ∈ p.1.set)
    {off : Fin S.rank → Nat} (inb : ∀ a, off a + S.size a ≤ S.size a) :
    v.readCov L (Rect.unit off S.size inb).toLoadRect = X := by
  funext x
  refine (View.read_writes_apply_of_pieces v v.junk X L hp.mem _ (hc _)).trans ?_
  exact congrArg X (Rect.emb_unit_full inb x)

/-- What is read after stores that are all of `X` and leave nothing out is `X`. -/
theorem read_writes_of {S : Shape} (v : View sg κ sp S e) (f : v.ty.Contents (Elt F)) {X : Vec F S e}
    {L : List (View.Piece (Elt F) S e)} (hp : View.PiecesOf (Val := Elt F) X L) (hc : ∀ y, ∃ p ∈ L, y ∈ p.1.set) :
    v.read (Elt F) (v.writes (Elt F) f L) = X :=
  funext fun x => View.read_writes_apply_of_pieces v f X L hp.mem _ (hc _)

omit [FloatOps F] in
theorem strips_cons (P : Nat → Vec F (⟨2, ![64, w]⟩ : Shape) e) (o : Nat) (ho : o % 64 = 0)
    (inb : ∀ a, (![o, 0] : Fin 2 → Nat) a + (⟨2, ![64, w]⟩ : Shape).size a ≤ (⟨2, ![1024, w]⟩ : Shape).size a)
    {L : List (View.Piece (Elt F) (⟨2, ![1024, w]⟩ : Shape) e)} {x : Vec F (⟨2, ![64, w]⟩ : Shape) e} (hx : x = P (o / 64))
    (hL : View.PiecesOf (Val := Elt F) (strips P) L) :
    View.PiecesOf (Val := Elt F) (strips P) (⟨Rect.unit (s := (⟨2, ![1024, w]⟩ : Shape)) (![o, 0] : Fin 2 → Nat) (⟨2, ![64, w]⟩ : Shape).size inb, x⟩ :: L) :=
  ⟨fun y => (congrFun hx y).trans (strips_emb P o ho inb y).symm, hL⟩

omit [FloatOps F] in
theorem heads_cons (P : Nat → Vec F (⟨2, ![256, w]⟩ : Shape) e) (o : Nat) (ho : o % 256 = 0)
    (inb : ∀ a, (![o, 0] : Fin 2 → Nat) a + (⟨2, ![256, w]⟩ : Shape).size a ≤ (⟨2, ![1024, w]⟩ : Shape).size a)
    {L : List (View.Piece (Elt F) (⟨2, ![1024, w]⟩ : Shape) e)} {x : Vec F (⟨2, ![256, w]⟩ : Shape) e} (hx : x = P (o / 256))
    (hL : View.PiecesOf (Val := Elt F) (heads P) L) :
    View.PiecesOf (Val := Elt F) (heads P) (⟨Rect.unit (s := (⟨2, ![1024, w]⟩ : Shape)) (![o, 0] : Fin 2 → Nat) (⟨2, ![256, w]⟩ : Shape).size inb, x⟩ :: L) :=
  ⟨fun y => (congrFun hx y).trans (heads_emb P o ho inb y).symm, hL⟩

omit [FloatOps F] in
theorem stripsA_cons (P : Nat → Vec F S64x256 .f32) (o : Nat) (ho : o % 64 = 0)
    (inb : ∀ a, (![o, 0] : Fin 2 → Nat) a + S64x256.size a ≤ S256x256.size a)
    {L : List (View.Piece (Elt F) S256x256 .f32)} {x : Vec F S64x256 .f32} (hx : x = P (o / 64))
    (hL : View.PiecesOf (Val := Elt F) (stripsA P) L) :
    View.PiecesOf (Val := Elt F) (stripsA P) (⟨Rect.unit (s := S256x256) (![o, 0] : Fin 2 → Nat) S64x256.size inb, x⟩ :: L) :=
  ⟨fun y => (congrFun hx y).trans (stripsA_emb P o ho inb y).symm, hL⟩

omit [FloatOps F] in
theorem stripsO_cons (P : Nat → Vec F S1x64x256 .bf16) (o : Nat) (ho : o % 64 = 0)
    (inb : ∀ a, (![0, o, 0] : Fin 3 → Nat) a + S1x64x256.size a ≤ S1x256x256.size a)
    {L : List (View.Piece (Elt F) S1x256x256 .bf16)} {x : Vec F S1x64x256 .bf16} (hx : x = P (o / 64))
    (hL : View.PiecesOf (Val := Elt F) (stripsO P) L) :
    View.PiecesOf (Val := Elt F) (stripsO P) (⟨Rect.unit (s := S1x256x256) (![0, o, 0] : Fin 3 → Nat) S1x64x256.size inb, x⟩ :: L) :=
  ⟨fun y => (congrFun hx y).trans (stripsO_emb P o ho inb y).symm, hL⟩

end Views

end Cert.KernelIdeal.Flash

end
-- ==== Proof.FlashTrip.lean ====
/- One pass over a tile of 256 keys, and the loop over the tiles before a block's own: what the kernel's buffers read
   afterwards, as the model's step of what they read before. -/
module

public import proofs.«01_k».proof.Proof.FlashModel
public import proofs.«01_k».proof.Proof.Gen.KernelIdeal.Loops
public import proofs.«01_k».proof.Proof.Gen.KernelIdeal.Frame
public import Idealize.ShloMosaic.Lib.LoopRemainder
public import Idealize.ShloMosaic.Lib.Tactic.Stretches

@[expose] public section

set_option maxRecDepth 65536

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The machine's resources beside memory: none of its own. -/
abbrev UU (nD : Nat) (τ : Topo) : Type := UR sig nD τ
/-- No loop variants are needed: every loop is counted. -/
abbrev 𝒱₀ : Variants := Variants.none
local notation "𝕄" => MT nD τ sig Unit (Elt F) ℕ (UR sig nD τ) ℕ

section Trip

variable (c : Dev nD) (i : grid0.Coords)
  (arg2 : Memref sig .tc .vmem S1x256x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x128 .f32) (harg5 : arg5.IsWhole) (arg6 : Memref sig .tc .vmem S1x8x8x256 .f32) (harg6 : arg6.IsWhole) (arg7 : Memref sig .tc .vmem S1x256x256 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S256x256 .f32) (harg15 : arg15.IsWhole) (arg1 : BitVec 32) (v1 : FVec F S256x256 .bf16) (v26 : IVec S1x256 32) (v28 : FVec F S256x128 .f32) (v76 : FVec F S256x256 .bf16) (v78 : IVec S256x256 1)

/-- A whole buffer of the core's, at contents `f`. -/
abbrev own {S : Shape} {e : EltTy} (a : Memref sig .tc .vmem S e) (f : Buf (Elt F) (a.view.loc (c : Thread nD τ))) : sProp 𝕄 :=
  a.view.loc (c : Thread nD τ) ↦[a.view.set]{fullShare} f

/-- The region of the loop over the tiles. -/
abbrev tripG (k : Fin (k0_t1_loop i).trips) : Prog (TpuEff nD τ sig (Elt F) Λ₀ .tc) Unit :=
  k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg1 v1 v26 v28 v76 v78 k ()

variable (X3 : Buf (Elt F) (arg3.view.loc (c : Thread nD τ))) (X4 : Buf (Elt F) (arg4.view.loc (c : Thread nD τ)))
   (X6 : Buf (Elt F) (arg6.view.loc (c : Thread nD τ)))
   (f8 : Buf (Elt F) (arg8.view.loc (c : Thread nD τ))) (f9 : Buf (Elt F) (arg9.view.loc (c : Thread nD τ)))

/-- What step `k` of the loop reads, from the buffers' contents. -/
def loopTile (k : Fin (k0_t1_loop i).trips) : Tile F :=
  ⟨arg8.view.read (Elt F) f8, arg9.view.read (Elt F) f9,
      arg3.view.readAt (Elt F) (Rect.unit (s := S1x2048x256) (k0_off1 i k) S1x256x256.size (k0_off1_inb i k)).toLoadRect X3,
      arg4.view.readAt (Elt F) (Rect.unit (s := S1x2048x256) (k0_off1 i k) S1x256x256.size (k0_off1_inb i k)).toLoadRect X4,
      arg6.view.readAt (Elt F) (Rect.unit (s := S1x8x8x256) (k0_off2 i k) S1x1x8x256.size (k0_off2_inb i k)).toLoadRect X6⟩

set_option maxHeartbeats 4000000 in
set_option sl_exec.parts true in
/-- One trip: the buffers' reads after it are the model's step of their reads before it. -/
theorem tripRun (k : Fin (k0_t1_loop i).trips)
   (f10 : Buf (Elt F) (arg10.view.loc (c : Thread nD τ))) (f11 : Buf (Elt F) (arg11.view.loc (c : Thread nD τ)))
   (f12 : Buf (Elt F) (arg12.view.loc (c : Thread nD τ))) (f13 : Buf (Elt F) (arg13.view.loc (c : Thread nD τ)))
   (f14 : Buf (Elt F) (arg14.view.loc (c : Thread nD τ))) (f15 : Buf (Elt F) (arg15.view.loc (c : Thread nD τ))) :
   iprop(own (F:=F) c arg3 X3 ∗ own (F:=F) c arg4 X4 ∗ own (F:=F) c arg6 X6 ∗ own (F:=F) c arg8 f8 ∗ own (F:=F) c arg9 f9 ∗ own (F:=F) c arg10 f10
     ∗ own (F:=F) c arg11 f11 ∗ own (F:=F) c arg12 f12 ∗ own (F:=F) c arg13 f13 ∗ own (F:=F) c arg14 f14 ∗ own (F:=F) c arg15 f15)
   ⊢ wp frame (wpE (defs₀ (F := F)) 𝒱₀ (c : Thread nD τ) none) Set.univ (tripG i arg2 harg2 arg3 harg3 arg4 harg4 arg5 harg5 arg6 harg6 arg7 harg7 arg8 harg8 arg9 harg9 arg10 harg10 arg11 harg11 arg12 harg12 arg13 harg13 arg14 harg14 arg15 harg15 arg1 v1 v26 v28 v76 v78 k)
     (fun _ => iprop(own (F:=F) c arg3 X3 ∗ own (F:=F) c arg4 X4 ∗ own (F:=F) c arg6 X6 ∗ own (F:=F) c arg8 f8 ∗ own (F:=F) c arg9 f9 ∗ (∃ f, own (F:=F) c arg10 f)
     ∗ (∃ f, own (F:=F) c arg11 f) ∗ (∃ f, own (F:=F) c arg12 f ∗ ⌜arg12.view.read (Elt F) f = stepM false (loopTile c i arg3 arg4 arg6 arg8 arg9 X3 X4 X6 f8 f9 k) (arg12.view.read (Elt F) f12)⌝)
     ∗ (∃ f, own (F:=F) c arg13 f ∗ ⌜arg13.view.read (Elt F) f = stepL false (loopTile c i arg3 arg4 arg6 arg8 arg9 X3 X4 X6 f8 f9 k) (arg12.view.read (Elt F) f12) (arg13.view.read (Elt F) f13)⌝)
     ∗ (∃ f, own (F:=F) c arg14 f)
     ∗ (∃ f, own (F:=F) c arg15 f ∗ ⌜arg15.view.read (Elt F) f = stepA false v26 (loopTile c i arg3 arg4 arg6 arg8 arg9 X3 X4 X6 f8 f9 k) (arg12.view.read (Elt F) f12) (arg15.view.read (Elt F) f15)⌝))) := by
  iintro ⟨H3, H4, H6, H8, H9, H10, H11, H12, H13, H14, H15⟩
  dsimp only [tripG]
  sl_unfold [k0_t1_body]
  sl_exec
  sl_step
  have h12 : View.PiecesOf (Val := Elt F) (stepM false (loopTile c i arg3 arg4 arg6 arg8 arg9 X3 X4 X6 f8 f9 k) (arg12.view.read (Elt F) f12))
      (tripRun.sl.H12_16 c i arg3 arg6 arg8 arg9 arg10 arg12 X3 X6 f8 f9 k f12) := by
    sl_open_run
    iterate 16
      refine strips_cons _ _ rfl _ ?_ ?_
      · rw [readCov_rows, readAt_rows _ _ _ (by decide), readAt_rows _ _ _ (by decide), View.readAt_full]
        rfl
    trivial
  have h11 : View.PiecesOf (Val := Elt F) (stepP false (loopTile c i arg3 arg4 arg6 arg8 arg9 X3 X4 X6 f8 f9 k) (arg12.view.read (Elt F) f12))
      (tripRun.sl.H11_16 c i arg3 arg6 arg8 arg9 arg10 arg12 X3 X6 f8 f9 k f12) := by
    sl_open_run
    iterate 16
      refine strips_cons _ _ rfl _ ?_ ?_
      · rw [readCov_rows, readAt_rows _ _ _ (by decide), readAt_rows _ _ _ (by decide), View.readAt_full]
        rfl
    trivial
  have h14 : View.PiecesOf (Val := Elt F) (stepAlpha false (loopTile c i arg3 arg4 arg6 arg8 arg9 X3 X4 X6 f8 f9 k) (arg12.view.read (Elt F) f12))
      (tripRun.sl.H14_16 c i arg3 arg6 arg8 arg9 arg10 arg12 X3 X6 f8 f9 k f12) := by
    sl_open_run
    iterate 16
      refine strips_cons _ _ rfl _ ?_ ?_
      · rw [readCov_rows, readAt_rows _ _ _ (by decide), readAt_rows _ _ _ (by decide), View.readAt_full]
        rfl
    trivial
  have h13 : View.PiecesOf (Val := Elt F) (stepL false (loopTile c i arg3 arg4 arg6 arg8 arg9 X3 X4 X6 f8 f9 k) (arg12.view.read (Elt F) f12) (arg13.view.read (Elt F) f13))
      (tripRun.sl.H13_16 c i arg3 arg6 arg8 arg9 arg10 arg12 arg13 X3 X6 f8 f9 k f12 f13) := by
    sl_open_run
    iterate 16
      refine strips_cons _ _ rfl _ ?_ ?_
      · rw [readCov_rows, readAt_rows _ _ _ (by decide), readAt_rows _ _ _ (by decide), readAt_rows _ _ _ (by decide), View.readAt_full]
        rfl
    trivial
  have c14 : ∀ (o : Nat) inb, arg14.view.readCov (tripRun.sl.H14_16 c i arg3 arg6 arg8 arg9 arg10 arg12 X3 X6 f8 f9 k f12)
      (Rect.unit (s := S1024x128) ![o, 0] S64x128.size inb).toLoadRect = rows (e := .f32) (w := 128) (stepAlpha false (loopTile c i arg3 arg4 arg6 arg8 arg9 X3 X4 X6 f8 f9 k) (arg12.view.read (Elt F) f12)) o :=
    fun o inb => readCov_rows_of _ h14 (View.cover_of_tiled _ ![64, 128] rfl) o inb
  have c11 : ∀ inb, arg11.view.readCov (tripRun.sl.H11_16 c i arg3 arg6 arg8 arg9 arg10 arg12 X3 X6 f8 f9 k f12)
      (Rect.unit (s := S1024x256) ![0, 0] S1024x256.size inb).toLoadRect = stepP false (loopTile c i arg3 arg4 arg6 arg8 arg9 X3 X4 X6 f8 f9 k) (arg12.view.read (Elt F) f12) :=
    fun inb => readCov_whole_of (S := S1024x256) _ h11 (View.cover_of_tiled _ ![64, 256] rfl) inb
  have h15 : View.PiecesOf (Val := Elt F) (stepA false v26 (loopTile c i arg3 arg4 arg6 arg8 arg9 X3 X4 X6 f8 f9 k) (arg12.view.read (Elt F) f12) (arg15.view.read (Elt F) f15))
      (⟨Rect.unit (s := S256x256) ![192, 0] S64x256.size inb_S256x256_S64x256_192_0,
          k0_pay337 (tripRun.sl.r_49 c i arg3 arg4 arg6 arg8 arg9 arg10 arg11 arg12 arg14 arg15 v26 X3 X4 X6 f8 f9 k f12 f15)⟩ ::
        tripRun.sl.H15_3 c i arg3 arg4 arg6 arg8 arg9 arg10 arg11 arg12 arg14 arg15 v26 X3 X4 X6 f8 f9 k f12 f15) := by
    clear h11 h12 h13 h14
    revert c14 c11
    sl_open_run
    intro c14 c11
    iterate 4
      refine stripsA_cons _ _ rfl _ ?_ ?_
      · rw [c14, c14, c14, c14, c11, readCov_rows, readCov_rows, readCov_rows, readCov_rows, readAt_rowsA _ _ _ (by decide)]
        rfl
    trivial
  iframe
  isplitl [H10]
  · iexists _; iexact H10
  isplitl [H11]
  · iexists _; iexact H11
  isplitl [H12]
  · iexists _; isplitl
    · iexact H12
    · ipureintro; exact read_writes_of (S := S1024x128) _ _ h12 (View.cover_of_tiled _ ![64, 128] rfl)
  isplitl [H13]
  · iexists _; isplitl
    · iexact H13
    · ipureintro; exact read_writes_of (S := S1024x128) _ _ h13 (View.cover_of_tiled _ ![64, 128] rfl)
  isplitl [H14]
  · iexists _; iexact H14
  · iexists _; isplitl
    · iexact H15
    · ipureintro; exact read_writes_of (S := S256x256) _ _ h15 (View.cover_of_tiled _ ![64, 256] rfl)

variable (f12 : Buf (Elt F) (arg12.view.loc (c : Thread nD τ))) (f13 : Buf (Elt F) (arg13.view.loc (c : Thread nD τ)))
  (f15 : Buf (Elt F) (arg15.view.loc (c : Thread nD τ)))

/-- What is carried before step `k`, from the three buffers' contents at the loop's entry. -/
def loopSt : Nat → St F
  | 0 => ⟨arg12.view.read (Elt F) f12, arg13.view.read (Elt F) f13, arg15.view.read (Elt F) f15⟩
  | k + 1 =>
    if h : k < (k0_t1_loop i).trips then
      step false v26 (loopTile c i arg3 arg4 arg6 arg8 arg9 X3 X4 X6 f8 f9 ⟨k, h⟩) (loopSt k)
    else loopSt k

/-- The running maxima's buffer before step `k`. -/
def buf12 : Nat → Buf (Elt F) (arg12.view.loc (c : Thread nD τ))
  | 0 => f12
  | k + 1 => harg12.unread (loopSt c i arg3 arg4 arg6 arg8 arg9 arg12 arg13 arg15 v26 X3 X4 X6 f8 f9 f12 f13 f15 (k + 1)).m

/-- The running sums' buffer before step `k`. -/
def buf13 : Nat → Buf (Elt F) (arg13.view.loc (c : Thread nD τ))
  | 0 => f13
  | k + 1 => harg13.unread (loopSt c i arg3 arg4 arg6 arg8 arg9 arg12 arg13 arg15 v26 X3 X4 X6 f8 f9 f12 f13 f15 (k + 1)).l

/-- The accumulator's buffer before step `k`. -/
def buf15 : Nat → Buf (Elt F) (arg15.view.loc (c : Thread nD τ))
  | 0 => f15
  | k + 1 => harg15.unread (loopSt c i arg3 arg4 arg6 arg8 arg9 arg12 arg13 arg15 v26 X3 X4 X6 f8 f9 f12 f13 f15 (k + 1)).a

theorem read_buf12 (k : Nat) : arg12.view.read (Elt F) (buf12 c i arg3 arg4 arg6 arg8 arg9 arg12 harg12 arg13 arg15 v26 X3 X4 X6 f8 f9 f12 f13 f15 k)
    = (loopSt c i arg3 arg4 arg6 arg8 arg9 arg12 arg13 arg15 v26 X3 X4 X6 f8 f9 f12 f13 f15 k).m := by
  cases k with
  | zero => rfl
  | succ k => exact harg12.read_unread _

theorem read_buf13 (k : Nat) : arg13.view.read (Elt F) (buf13 c i arg3 arg4 arg6 arg8 arg9 arg12 arg13 harg13 arg15 v26 X3 X4 X6 f8 f9 f12 f13 f15 k)
    = (loopSt c i arg3 arg4 arg6 arg8 arg9 arg12 arg13 arg15 v26 X3 X4 X6 f8 f9 f12 f13 f15 k).l := by
  cases k with
  | zero => rfl
  | succ k => exact harg13.read_unread _

theorem read_buf15 (k : Nat) : arg15.view.read (Elt F) (buf15 c i arg3 arg4 arg6 arg8 arg9 arg12 arg13 arg15 harg15 v26 X3 X4 X6 f8 f9 f12 f13 f15 k)
    = (loopSt c i arg3 arg4 arg6 arg8 arg9 arg12 arg13 arg15 v26 X3 X4 X6 f8 f9 f12 f13 f15 k).a := by
  cases k with
  | zero => rfl
  | succ k => exact harg15.read_unread _

/-- What the loop holds before step `k`. -/
abbrev loopRes (k : Nat) : sProp 𝕄 :=
  iprop(own (F:=F) c arg3 X3 ∗ own (F:=F) c arg4 X4 ∗ own (F:=F) c arg6 X6 ∗ own (F:=F) c arg8 f8 ∗ own (F:=F) c arg9 f9
    ∗ (∃ f, own (F:=F) c arg10 f) ∗ (∃ f, own (F:=F) c arg11 f)
    ∗ own (F:=F) c arg12 (buf12 c i arg3 arg4 arg6 arg8 arg9 arg12 harg12 arg13 arg15 v26 X3 X4 X6 f8 f9 f12 f13 f15 k)
    ∗ own (F:=F) c arg13 (buf13 c i arg3 arg4 arg6 arg8 arg9 arg12 arg13 harg13 arg15 v26 X3 X4 X6 f8 f9 f12 f13 f15 k)
    ∗ (∃ f, own (F:=F) c arg14 f)
    ∗ own (F:=F) c arg15 (buf15 c i arg3 arg4 arg6 arg8 arg9 arg12 arg13 arg15 harg15 v26 X3 X4 X6 f8 f9 f12 f13 f15 k))

set_option warn.classDefReducibility false in
/-- The loop over the tiles before the block's own. -/
@[sl_loop] def loopInv1 :
    LoopInvTy_k0_t1 (F := F) Unit ℕ (UU nD τ) ℕ 𝒱₀ c none Set.univ i arg2 harg2 arg3 harg3 arg4 harg4 arg5 harg5 arg6 harg6 arg7 harg7 arg8 harg8 arg9 harg9 arg10 harg10 arg11 harg11 arg12 harg12 arg13 harg13 arg14 harg14 arg15 harg15 arg1 v1 v26 v28 v76 v78 where
  inv k _ := loopRes c i arg3 arg4 arg6 arg8 arg9 arg10 arg11 arg12 harg12 arg13 harg13 arg14 arg15 harg15 v26 X3 X4 X6 f8 f9 f12 f13 f15 k
  step k _ := by
    iintro ⟨H3, H4, H6, H8, H9, ⟨%f10, H10⟩, ⟨%f11, H11⟩, H12, H13, ⟨%f14, H14⟩, H15⟩
    iapply (wp_wand_r Idealize.ShloMosaic.frame (wpE (defs₀ (F := F)) 𝒱₀ (c : Thread nD τ) none) Set.univ)
    isplitl
    · iapply (tripRun c i arg2 harg2 arg3 harg3 arg4 harg4 arg5 harg5 arg6 harg6 arg7 harg7 arg8 harg8 arg9 harg9 arg10 harg10 arg11 harg11 arg12 harg12 arg13 harg13 arg14 harg14 arg15 harg15 arg1 v1 v26 v28 v76 v78 X3 X4 X6 f8 f9 k f10 f11 _ _ f14 _)
      iframe
    · iintro %_ ⟨H3, H4, H6, H8, H9, H10, H11, ⟨%g12, H12, %e12⟩, ⟨%g13, H13, %e13⟩, H14, ⟨%g15, H15, %e15⟩⟩
      have hs : loopSt c i arg3 arg4 arg6 arg8 arg9 arg12 arg13 arg15 v26 X3 X4 X6 f8 f9 f12 f13 f15 (k.val + 1)
          = step false v26 (loopTile c i arg3 arg4 arg6 arg8 arg9 X3 X4 X6 f8 f9 k)
            (loopSt c i arg3 arg4 arg6 arg8 arg9 arg12 arg13 arg15 v26 X3 X4 X6 f8 f9 f12 f13 f15 k.val) := by
        rw [loopSt, dif_pos k.isLt]
      rw [read_buf12] at e12 e13 e15
      rw [read_buf13] at e13
      rw [read_buf15] at e15
      obtain rfl := harg12.eq_unread (e12.trans (congrArg St.m hs).symm)
      obtain rfl := harg13.eq_unread (e13.trans (congrArg St.l hs).symm)
      obtain rfl := harg15.eq_unread (e15.trans (congrArg St.a hs).symm)
      isplitl [H3]; · iexact H3
      isplitl [H4]; · iexact H4
      isplitl [H6]; · iexact H6
      isplitl [H8]; · iexact H8
      isplitl [H9]; · iexact H9
      isplitl [H10]; · iexact H10
      isplitl [H11]; · iexact H11
      isplitl [H12]; · iexact H12
      isplitl [H13]; · iexact H13
      isplitl [H14]; · iexact H14
      iexact H15

end Trip
end Cert.KernelIdeal.Flash
end
-- ==== Proof.FlashBody.lean ====
module

public import proofs.«01_k».proof.Proof.FlashTrip
public import proofs.«01_k».proof.Proof.Gen.KernelIdeal.Loops
public import proofs.«01_k».proof.Proof.Gen.KernelIdeal.Frame
public import Idealize.ShloMosaic.Lib.LoopRemainder
public import Idealize.ShloMosaic.Lib.Tactic.Stretches

@[expose] public section

set_option maxRecDepth 65536

/-!
# One point of the attention's grid, run

`bodyRun`: from any contents of the buffers the body leaves the blocks it reads as they were, and its result's block is
`flashBlock` of those blocks. The loop's share is `tripRun`'s; what the straight text after the loop stores is read off strip
by strip, each strip being the one of the model's arrays at its rows.
-/

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Loads and fills -/

section Views

variable {sg : RefSig} {κ : Kind} {sp : Space} {e : EltTy}

/-- A tile of 256 rows loaded from the keys or the values. -/
theorem readAt_key (v : View sg κ sp S1x2048x256 .bf16) (f : v.ty.Contents (Elt F)) (n : Nat) (hn : n < 8) (off : Fin 3 → Nat)
    (hoff : off = ![0, 256 * n, 0]) (inb : ∀ a, off a + S1x256x256.size a ≤ S1x2048x256.size a) :
    v.readAt (Elt F) (Rect.unit (s := S1x2048x256) off S1x256x256.size inb).toLoadRect f = keyTile (v.read (Elt F) f) n := by
  subst hoff
  funext y
  refine congrArg (v.read (Elt F) f) (funext fun a => ?_)
  have h0 : (y 0).val < 1 := (y 0).isLt
  have h1 : (y 1).val < 256 := (y 1).isLt
  match a with
  | ⟨0, _⟩ => exact Fin.ext (by show 0 + 1 * (y 0).val = 0; omega)
  | ⟨1, _⟩ => exact Fin.ext (by show 256 * n + 1 * (y 1).val = (256 * n + (y 1).val) % 2048; omega)
  | ⟨2, _⟩ => exact Fin.ext (by show 0 + 1 * (y 2).val = (y 2).val; omega)

/-- A tile of key decays loaded. -/
theorem readAt_dk (v : View sg κ sp S1x8x8x256 .f32) (f : v.ty.Contents (Elt F)) (n : Nat) (hn : n < 8) (off : Fin 4 → Nat)
    (hoff : off = ![0, n, 0, 0]) (inb : ∀ a, off a + S1x1x8x256.size a ≤ S1x8x8x256.size a) :
    v.readAt (Elt F) (Rect.unit (s := S1x8x8x256) off S1x1x8x256.size inb).toLoadRect f = dkTile (v.read (Elt F) f) n := by
  subst hoff
  funext y
  refine congrArg (v.read (Elt F) f) (funext fun a => ?_)
  have h0 : (y 0).val < 1 := (y 0).isLt
  have h1 : (y 1).val < 1 := (y 1).isLt
  match a with
  | ⟨0, _⟩ => exact Fin.ext (by show 0 + 1 * (y 0).val = 0; omega)
  | ⟨1, _⟩ => exact Fin.ext (by show n + 1 * (y 1).val = n % 8; omega)
  | ⟨2, _⟩ => exact Fin.ext (by show 0 + 1 * (y 2).val = (y 2).val; omega)
  | ⟨3, _⟩ => exact Fin.ext (by show 0 + 1 * (y 3).val = (y 3).val; omega)

/-- What is read after a store of the whole is what was stored. -/
theorem read_fill {S : Shape} (v : View sg κ sp S e) (f : v.ty.Contents (Elt F)) {off : Fin S.rank → Nat} (inb : ∀ a, off a + S.size a ≤ S.size a)
    (X : Vec F S e) :
    v.read (Elt F) (View.write (Elt F) (v.slice (Rect.unit off S.size inb)) f X Finset.univ) = X := by
  refine read_writes_of v f (L := [⟨Rect.unit off S.size inb, X⟩]) (X := X)
    ⟨fun x => congrArg X (Rect.emb_unit_full inb x).symm, trivial⟩ fun y => ⟨_, List.mem_singleton_self _, ?_⟩
  exact (Rect.mem_set_unit (inb := inb)).2 fun a => ⟨by have := inb a; omega, by have := (y a).isLt; omega⟩

/-- 64 rows of a 256-row array loaded after stores that are all of `X`. -/
theorem readCov_rowsA_of (v : View sg κ sp S256x256 .f32) {X : Vec F S256x256 .f32}
    {L : List (View.Piece (Elt F) S256x256 .f32)} (hp : View.PiecesOf (Val := Elt F) X L) (hc : ∀ y, ∃ p ∈ L, y ∈ p.1.set) (o : Nat)
    (inb : ∀ a, (![o, 0] : Fin 2 → Nat) a + S64x256.size a ≤ S256x256.size a) :
    v.readCov L (Rect.unit (s := S256x256) ![o, 0] S64x256.size inb).toLoadRect = rowsA X o := by
  funext x
  refine (View.read_writes_apply_of_pieces v v.junk X L hp.mem _ (hc _)).trans ?_
  refine congrArg X (funext fun a => ?_)
  have h0 : (x 0).val < 64 := (x 0).isLt
  have hb : o + 64 ≤ 256 := inb 0
  match a with
  | ⟨0, _⟩ => exact Fin.ext (by show o + 1 * (x 0).val = (o + (x 0).val) % 256; omega)
  | ⟨1, _⟩ => exact Fin.ext (by show 0 + 1 * (x 1).val = (x 1).val; omega)

end Views

section Body

variable (c : Dev nD) (i : grid0.Coords)
  (arg2 : Memref sig .tc .vmem S1x256x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x128 .f32) (harg5 : arg5.IsWhole) (arg6 : Memref sig .tc .vmem S1x8x8x256 .f32) (harg6 : arg6.IsWhole) (arg7 : Memref sig .tc .vmem S1x256x256 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S256x256 .f32) (harg15 : arg15.IsWhole)

variable (X3 : Buf (Elt F) (arg3.view.loc (c : Thread nD τ))) (X4 : Buf (Elt F) (arg4.view.loc (c : Thread nD τ)))
   (X6 : Buf (Elt F) (arg6.view.loc (c : Thread nD τ)))
   (f8 : Buf (Elt F) (arg8.view.loc (c : Thread nD τ))) (f9 : Buf (Elt F) (arg9.view.loc (c : Thread nD τ)))
   (f12 : Buf (Elt F) (arg12.view.loc (c : Thread nD τ))) (f13 : Buf (Elt F) (arg13.view.loc (c : Thread nD τ)))
   (f15 : Buf (Elt F) (arg15.view.loc (c : Thread nD τ)))

/-- What is carried before step `k`, by the blocks read. -/
theorem loopSt_eq {xq : Vec F S1x256x256 .bf16} {xdq : Vec F S1x256x128 .f32}
    (h8 : arg8.view.read (Elt F) f8 = heads (e := .bf16) (w := 256) (qHead xq))
    (h9 : arg9.view.read (Elt F) f9 = heads (e := .f32) (w := 128) (dqHead xdq))
    (h12 : arg12.view.read (Elt F) f12 = k0_pay334) (h13 : arg13.view.read (Elt F) f13 = k0_pay335)
    (h15 : arg15.view.read (Elt F) f15 = k0_pay336) (k : Nat) (hk : k ≤ (k0_t1_loop i).trips) :
    loopSt c i arg3 arg4 arg6 arg8 arg9 arg12 arg13 arg15 k0_pay321 X3 X4 X6 f8 f9 f12 f13 f15 k
      = state xq (arg3.view.read (Elt F) X3) (arg4.view.read (Elt F) X4) xdq (arg6.view.read (Elt F) X6) k := by
  induction k with
  | zero => rw [loopSt, state, h12, h13, h15]
  | succ k ih =>
    have h7 : (k0_t1_loop i).trips ≤ 7 := (k0_t1_abs i).2.1
    rw [loopSt, dif_pos (by omega), ih (by omega), state]
    refine congrArg (step false k0_pay321 · _) ?_
    rw [loopTile, tile, h8, h9, readAt_key _ _ k (by omega) _ (k0_off1_eq i _), readAt_key _ _ k (by omega) _ (k0_off1_eq i _),
      readAt_dk _ _ k (by omega) _ (k0_off2_eq i _)]

end Body

section Run

variable (c : Dev nD) (i : grid0.Coords)
  (arg2 : Memref sig .tc .vmem S1x256x256 .bf16) (harg2 : arg2.IsWhole) (arg3 : Memref sig .tc .vmem S1x2048x256 .bf16) (harg3 : arg3.IsWhole) (arg4 : Memref sig .tc .vmem S1x2048x256 .bf16) (harg4 : arg4.IsWhole) (arg5 : Memref sig .tc .vmem S1x256x128 .f32) (harg5 : arg5.IsWhole) (arg6 : Memref sig .tc .vmem S1x8x8x256 .f32) (harg6 : arg6.IsWhole) (arg7 : Memref sig .tc .vmem S1x256x256 .bf16) (harg7 : arg7.IsWhole) (arg8 : Memref sig .tc .vmem S1024x256 .bf16) (harg8 : arg8.IsWhole) (arg9 : Memref sig .tc .vmem S1024x128 .f32) (harg9 : arg9.IsWhole) (arg10 : Memref sig .tc .vmem S1024x256 .f32) (harg10 : arg10.IsWhole) (arg11 : Memref sig .tc .vmem S1024x256 .bf16) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S256x256 .f32) (harg15 : arg15.IsWhole)

set_option maxHeartbeats 16000000 in
set_option sl_exec.parts true in
/-- The body at one point, its result by the blocks it reads. -/
theorem bodyRun (ht : (k0_t1_loop i).trips = (i 1).val) (X2 : Buf (Elt F) (arg2.view.loc (c : Thread nD τ))) (X3 : Buf (Elt F) (arg3.view.loc (c : Thread nD τ)))
    (X4 : Buf (Elt F) (arg4.view.loc (c : Thread nD τ))) (X5 : Buf (Elt F) (arg5.view.loc (c : Thread nD τ)))
    (X6 : Buf (Elt F) (arg6.view.loc (c : Thread nD τ))) :
   iprop(own (F:=F) c arg2 X2 ∗ own (F:=F) c arg3 X3 ∗ own (F:=F) c arg4 X4 ∗ own (F:=F) c arg5 X5 ∗ own (F:=F) c arg6 X6
     ∗ (∃ f, own (F:=F) c arg7 f) ∗ (∃ f, own (F:=F) c arg8 f) ∗ (∃ f, own (F:=F) c arg9 f) ∗ (∃ f, own (F:=F) c arg10 f)
     ∗ (∃ f, own (F:=F) c arg11 f) ∗ (∃ f, own (F:=F) c arg12 f) ∗ (∃ f, own (F:=F) c arg13 f) ∗ (∃ f, own (F:=F) c arg14 f)
     ∗ (∃ f, own (F:=F) c arg15 f))
   ⊢ wp frame (wpE (defs₀ (F := F)) 𝒱₀ (c : Thread nD τ) none) Set.univ
     (cc0_fox_prompt (F := F) i arg2 harg2 arg3 harg3 arg4 harg4 arg5 harg5 arg6 harg6 arg7 harg7 arg8 harg8 arg9 harg9 arg10 harg10
       arg11 harg11 arg12 harg12 arg13 harg13 arg14 harg14 arg15 harg15)
     (fun _ => iprop(own (F:=F) c arg2 X2 ∗ own (F:=F) c arg3 X3 ∗ own (F:=F) c arg4 X4 ∗ own (F:=F) c arg5 X5 ∗ own (F:=F) c arg6 X6
     ∗ (∃ f, own (F:=F) c arg7 f ∗ ⌜arg7.view.read (Elt F) f = flashBlock (i 1).val (arg2.view.read (Elt F) X2) (arg3.view.read (Elt F) X3)
       (arg4.view.read (Elt F) X4) (arg5.view.read (Elt F) X5) (arg6.view.read (Elt F) X6)⌝)
     ∗ (∃ f, own (F:=F) c arg8 f) ∗ (∃ f, own (F:=F) c arg9 f) ∗ (∃ f, own (F:=F) c arg10 f)
     ∗ (∃ f, own (F:=F) c arg11 f) ∗ (∃ f, own (F:=F) c arg12 f) ∗ (∃ f, own (F:=F) c arg13 f) ∗ (∃ f, own (F:=F) c arg14 f)
     ∗ (∃ f, own (F:=F) c arg15 f))) := by
  rw [cc0_fox_prompt_eq_skeleton]
  iintro ⟨H2, H3, H4, H5, H6, ⟨%f7, H7⟩, ⟨%f8, H8⟩, ⟨%f9, H9⟩, ⟨%f10, H10⟩, ⟨%f11, H11⟩, ⟨%f12, H12⟩, ⟨%f13, H13⟩, ⟨%f14, H14⟩, ⟨%f15, H15⟩⟩
  sl_unfold [cc0_fox_prompt_skel]
  sl_exec
  sl_step
  have h8 : View.PiecesOf (Val := Elt F) (heads (e := .bf16) (w := 256) (qHead (arg2.view.read (Elt F) X2))) (bodyRun.sl.H8_4 c arg2 X2) := by
    sl_open_run
    iterate 4
      refine heads_cons _ _ rfl _ ?_ ?_
      · rw [View.readAt_full]
        rfl
    trivial
  have h9 : View.PiecesOf (Val := Elt F) (heads (e := .f32) (w := 128) (dqHead (arg5.view.read (Elt F) X5))) (bodyRun.sl.H9_4 c arg5 X5) := by
    sl_open_run
    iterate 4
      refine heads_cons _ _ rfl _ ?_ ?_
      · rw [View.readAt_full]
        rfl
    trivial
  have hst := loopSt_eq c i arg3 arg4 arg6 arg8 arg9 arg12 arg13 arg15 X3 X4 X6
    (arg8.view.writes (Elt F) arg8.view.junk (bodyRun.sl.H8_4 c arg2 X2)) (arg9.view.writes (Elt F) arg9.view.junk (bodyRun.sl.H9_4 c arg5 X5))
    (View.write (Elt F) (arg12.view.slice (Rect.unit ![0, 0] S1024x128.size inb_S1024x128_S1024x128_0_0)) (arg12.view.writes (Elt F) arg12.view.junk []) k0_pay334 Finset.univ)
    (View.write (Elt F) (arg13.view.slice (Rect.unit ![0, 0] S1024x128.size inb_S1024x128_S1024x128_0_0)) (arg13.view.writes (Elt F) arg13.view.junk []) k0_pay335 Finset.univ)
    (View.write (Elt F) (arg15.view.slice (Rect.unit ![0, 0] S256x256.size inb_S256x256_S256x256_0_0)) (arg15.view.writes (Elt F) arg15.view.junk []) k0_pay336 Finset.univ)
    (read_writes_of (S := S1024x256) _ _ h8 (View.cover_of_tiled _ ![256, 256] rfl))
    (read_writes_of (S := S1024x128) _ _ h9 (View.cover_of_tiled _ ![256, 128] rfl))
    (read_fill _ _ _ _) (read_fill _ _ _ _) (read_fill _ _ _ _) (Scf.trips (k0_t1_loop i).lb (k0_t1_loop i).ub (k0_t1_loop i).st) le_rfl
  replace hst := hst.trans (congrArg (state _ _ _ _ _) ht)
  have k3 := readAt_key arg3.view X3 _ (i 1).isLt _ (k0_off5_eq i) (k0_off5_inb i)
  have k4 := readAt_key arg4.view X4 _ (i 1).isLt _ (k0_off5_eq i) (k0_off5_inb i)
  have k6 := readAt_dk arg6.view X6 _ (i 1).isLt _ (k0_off6_eq i) (k0_off6_inb i)
  have c8 : ∀ inb, arg8.view.readCov (bodyRun.sl.H8_4 c arg2 X2) (Rect.unit (s := S1024x256) ![0, 0] S1024x256.size inb).toLoadRect
      = heads (e := .bf16) (w := 256) (qHead (arg2.view.read (Elt F) X2)) :=
    fun inb => readCov_whole_of (S := S1024x256) _ h8 (View.cover_of_tiled _ ![256, 256] rfl) inb
  have c9 : ∀ (o : Nat) inb, arg9.view.readCov (bodyRun.sl.H9_4 c arg5 X5) (Rect.unit (s := S1024x128) ![o, 0] S64x128.size inb).toLoadRect
      = rows (e := .f32) (w := 128) (heads (e := .f32) (w := 128) (dqHead (arg5.view.read (Elt F) X5))) o :=
    fun o inb => readCov_rows_of _ h9 (View.cover_of_tiled _ ![256, 128] rfl) o inb
  clear h8 h9
  generalize hT : tile (arg2.view.read (Elt F) X2) (arg3.view.read (Elt F) X3) (arg4.view.read (Elt F) X4) (arg5.view.read (Elt F) X5)
    (arg6.view.read (Elt F) X6) (i 1).val = T
  generalize hS : state (arg2.view.read (Elt F) X2) (arg3.view.read (Elt F) X3) (arg4.view.read (Elt F) X4) (arg5.view.read (Elt F) X5)
    (arg6.view.read (Elt F) X6) (i 1).val = S at hst
  have h12 : View.PiecesOf (Val := Elt F) (stepM true T S.m)
      (bodyRun.sl.H12_16 c i arg2 arg3 arg4 arg5 arg6 arg8 arg9 arg10 arg12 harg12 arg13 arg15 X2 X3 X4 X5 X6) := by
    revert c8 c9 hst
    sl_open_run
    intro c8 c9 hst
    subst hT
    iterate 16
      refine strips_cons _ _ rfl _ ?_ ?_
      · rw [readCov_rows, c8, c9, k3, k6, readAt_rows _ _ _ (by decide), read_buf12, hst]
        rfl
    trivial
  have h11 : View.PiecesOf (Val := Elt F) (stepP true T S.m)
      (bodyRun.sl.H11_16 c i arg2 arg3 arg4 arg5 arg6 arg8 arg9 arg10 arg12 harg12 arg13 arg15 X2 X3 X4 X5 X6) := by
    revert c8 c9 hst
    sl_open_run
    intro c8 c9 hst
    subst hT
    iterate 16
      refine strips_cons _ _ rfl _ ?_ ?_
      · rw [readCov_rows, c8, c9, k3, k6, readAt_rows _ _ _ (by decide), read_buf12, hst]
        rfl
    trivial
  have h14 : View.PiecesOf (Val := Elt F) (stepAlpha true T S.m)
      (bodyRun.sl.H14_16 c i arg2 arg3 arg4 arg5 arg6 arg8 arg9 arg10 arg12 harg12 arg13 arg15 X2 X3 X4 X5 X6) := by
    revert c8 c9 hst
    sl_open_run
    intro c8 c9 hst
    subst hT
    iterate 16
      refine strips_cons _ _ rfl _ ?_ ?_
      · rw [readCov_rows, c8, c9, k3, k6, readAt_rows _ _ _ (by decide), read_buf12, hst]
        rfl
    trivial
  have h13 : View.PiecesOf (Val := Elt F) (stepL true T S.m S.l)
      (bodyRun.sl.H13_16 c i arg2 arg3 arg4 arg5 arg6 arg8 arg9 arg10 arg12 harg12 arg13 harg13 arg15 X2 X3 X4 X5 X6) := by
    revert c8 c9 hst
    sl_open_run
    intro c8 c9 hst
    subst hT
    iterate 16
      refine strips_cons _ _ rfl _ ?_ ?_
      · rw [readCov_rows, c8, c9, k3, k6, readAt_rows _ _ _ (by decide), readAt_rows _ _ _ (by decide), read_buf12, read_buf13, hst]
        rfl
    trivial
  have c14 : ∀ (o : Nat) inb, arg14.view.readCov (bodyRun.sl.H14_16 c i arg2 arg3 arg4 arg5 arg6 arg8 arg9 arg10 arg12 harg12 arg13 arg15 X2 X3 X4 X5 X6)
      (Rect.unit (s := S1024x128) ![o, 0] S64x128.size inb).toLoadRect = rows (e := .f32) (w := 128) (stepAlpha true T S.m) o :=
    fun o inb => readCov_rows_of _ h14 (View.cover_of_tiled _ ![64, 128] rfl) o inb
  have c11 : ∀ inb, arg11.view.readCov (bodyRun.sl.H11_16 c i arg2 arg3 arg4 arg5 arg6 arg8 arg9 arg10 arg12 harg12 arg13 arg15 X2 X3 X4 X5 X6)
      (Rect.unit (s := S1024x256) ![0, 0] S1024x256.size inb).toLoadRect = stepP true T S.m :=
    fun inb => readCov_whole_of (S := S1024x256) _ h11 (View.cover_of_tiled _ ![64, 256] rfl) inb
  have c13 : ∀ (o : Nat) inb, arg13.view.readCov (bodyRun.sl.H13_16 c i arg2 arg3 arg4 arg5 arg6 arg8 arg9 arg10 arg12 harg12 arg13 harg13 arg15 X2 X3 X4 X5 X6)
      (Rect.unit (s := S1024x128) ![o, 0] S64x128.size inb).toLoadRect = rows (e := .f32) (w := 128) (stepL true T S.m S.l) o :=
    fun o inb => readCov_rows_of _ h13 (View.cover_of_tiled _ ![64, 128] rfl) o inb
  clear h11 h12 h13 h14 c8 c9
  have h15 : View.PiecesOf (Val := Elt F) (stepA true k0_pay321 T S.m S.a)
      (bodyRun.sl.H15_4 c i arg2 arg3 arg4 arg5 arg6 arg8 arg9 arg10 arg11 arg12 harg12 arg13 arg14 arg15 harg15 X2 X3 X4 X5 X6) := by
    revert c14 c11 hst
    sl_open_run
    intro hst c14 c11
    subst hT
    iterate 4
      refine stripsA_cons _ _ rfl _ ?_ ?_
      · rw [c14, c14, c14, c14, c11, readCov_rows, readCov_rows, readCov_rows, readCov_rows, readAt_rowsA _ _ _ (by decide), read_buf15, hst, k4]
        rfl
    trivial
  have c15 : ∀ (o : Nat) inb, arg15.view.readCov
      (bodyRun.sl.H15_4 c i arg2 arg3 arg4 arg5 arg6 arg8 arg9 arg10 arg11 arg12 harg12 arg13 arg14 arg15 harg15 X2 X3 X4 X5 X6)
      (Rect.unit (s := S256x256) ![o, 0] S64x256.size inb).toLoadRect = rowsA (stepA true k0_pay321 T S.m S.a) o :=
    fun o inb => readCov_rowsA_of _ h15 (View.cover_of_tiled _ ![64, 256] rfl) o inb
  clear h15 c14 c11
  isplitl [H2]; · iexact H2
  isplitl [H3]; · iexact H3
  isplitl [H4]; · iexact H4
  isplitl [H5]; · iexact H5
  isplitl [H6]; · iexact H6
  isplitl [H7]
  · iexists _; isplitl
    · iexact H7
    · ipureintro
      rw [flashBlock, hT, hS, outBlock]
      refine read_writes_of (S := S1x256x256) _ _ ?_ (View.cover_of_tiled _ ![1, 64, 256] rfl)
      revert c13 c15
      sl_open_run
      intro c13 c15
      iterate 4
        refine stripsO_cons _ _ rfl _ ?_ ?_
        · rw [c13, c13, c13, c13, c15]
          rfl
      trivial
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  iexists _; iexact H15

end Run

end Cert.KernelIdeal.Flash
end
-- ==== Proof.FlashFrame.lean ====
/- The attention program runs: its proof data (every input's buffer at its block, the output's at the model's
   block of them), the body's obligation from the whole body's run, the launch, and the frame. -/
module

public import proofs.«01_k».proof.Proof.FlashBody
public import Idealize.ShloMosaic.Lib.Claim

@[expose] public section

set_option maxRecDepth 16384

noncomputable section

namespace Cert.KernelIdeal.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The loop over the key tiles before a query tile makes as many trips as the tile's number. -/
theorem trips_eq (t : Fin cfg0.N) : (k0_t1_loop (grid0.coords t)).trips = (grid0.coords t 1).val := by
  revert t
  decide +kernel

/-- The output block the body leaves at point `t`. -/
def outAt (c : Dev nD) (t : Fin cfg0.N) : Vec F S1x256x256 .bf16 :=
  flashBlock (grid0.coords t 1).val (iblk m c 0 t) (iblk m c 1 t) (iblk m c 2 t) (iblk m c 3 t) (iblk m c 4 t)

/-- The proof data: each input's buffer keeps its block, the output's takes the model's; nothing is carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- A whole buffer at some contents, as the region's invariant owns it and as the body's run does. -/
theorem own_whole (c : Dev nD) (b : Ref sig .tc) (f : Buf (Elt F) ((c : Thread nD τ).loc b)) :
    ((((c : Thread nD τ).loc b) ↦{fullShare} f : sProp 𝕄))
      = ((Memref.whole b).view.loc (c : Thread nD τ) ↦[(Memref.whole b).view.set]{fullShare} f) := by
  simp only [Memref.view_whole, View.set_whole]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t))

set_option maxHeartbeats 3200000 in
/-- The body at any point: the inputs' buffers hold their blocks, the scratch buffers anything, so the whole body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5,
    show (dats m 0 c).Φ t.succ = Pipeline.ΦA spec0 c from rfl, show (dats m 0 c).Φ t.castSucc = Pipeline.ΦA spec0 c from rfl]
  unfold Pipeline.ΦA
  rw [scopedRest0_eq]
  simp only [own_whole]
  unfold owns
  iintro ⟨⟨⟨H8, H9, H10, H11, H12, H13, H14, H15⟩, Hg⟩, Ho, ⟨%d0, %f0, %h0, H2⟩, ⟨%d1, %f1, %h1, H3⟩, ⟨%d2, %f2, %h2, H4⟩,
    ⟨%d3, %f3, %h3, H5⟩, ⟨%d4, %f4, %h4, H6⟩, ⟨%d5, %f5, %h5, H7⟩⟩
  iapply (wp_wand_r Idealize.ShloMosaic.frame (wpE (defs₀ (F := F)) Variants.none (c : Thread nD τ) none) Set.univ)
  isplitr [Hg Ho]
  · iapply (bodyRun c (grid0.coords t) _ _ _ _ _ _ _ _ _ _ _ _ _ _ _ _ _ _ _ _ _ _ _ _ _ _ _ _ (trips_eq t) f0 f1 f2 f3 f4)
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iexact H15
  · iintro %u ⟨H2, H3, H4, H5, H6, ⟨%e7, H7, %h7⟩, H8, H9, H10, H11, H12, H13, H14, H15⟩
    isplitl [H8 H9 H10 H11 H12 H13 H14 H15 Hg]
    · isplitr [Hg]
      · isplitl [H8]; · iexact H8
        isplitl [H9]; · iexact H9
        isplitl [H10]; · iexact H10
        isplitl [H11]; · iexact H11
        isplitl [H12]; · iexact H12
        isplitl [H13]; · iexact H13
        isplitl [H14]; · iexact H14
        iexact H15
      · iexact Hg
    isplitl [Ho]; · iexact Ho
    isplitl [H2]
    · iexists f0; isplitr; · ipureintro; exact h0
      iexact H2
    isplitl [H3]
    · iexists f1; isplitr; · ipureintro; exact h1
      iexact H3
    isplitl [H4]
    · iexists f2; isplitr; · ipureintro; exact h2
      iexact H4
    isplitl [H5]
    · iexists f3; isplitr; · ipureintro; exact h3
      iexact H5
    isplitl [H6]
    · iexists f4; isplitr; · ipureintro; exact h4
      iexact H6
    iexists e7; isplitr
    · ipureintro
      rw [h7, h0, h1, h2, h3, h4]
      rfl
    iexact H7

/-- The body table's row at point `t`'s slots is the body at that point. -/
theorem row (t : Fin cfg0.N) :
    defs₀ (F := F) .tc cfg0.body (cfg0.bodyArgs t (cfg0.slots t)) = bodyAt0 t := by
  unfold defs₀; rw [Defs.onTc_tc]

/-- The body's obligation, at every point. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The launch: every array of the pipeline ends at what the proof data says, every counter at zero. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

theorem run_post : θ_run defs (onTc (τ := τ) (main (F := F))) (s₀ m ρ) (Pipeline.FramePost cfgs (dats m) 0 (V m)) :=
  (θ_run defs _ _).mono (fun _ h => h.1) (run_quiescent m ρ)

/-- The frame: the arguments end as launched and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_post m ρ)) ((θ_run defs _ _).mono (fun _ h => h.2) (run_quiescent m ρ))

end Cert.KernelIdeal.Flash

end
-- ==== Proof.FfnBlock.lean ====
module

public import proofs.«01_k».proof.Proof.Gen.FfnIdeal.Value
public import Idealize.ShloMosaic.Lib.Pipeline.ValueKit
public import Idealize.ShloMosaic.Lib.Pointwise
public import Idealize.ShloMosaic.Lib.Pipeline.ReadBack

@[expose] public section

set_option maxRecDepth 65536

/-!
# One point of the feed-forward kernel's grid, as arithmetic

`ext` is the rows the convolution of a tile sees: the eight carried ones, then the tile's own gates. In both cases of a point
the block of the result is `blockOut` over them, read at an index by `blockOut_apply`; the state is their last two rows, and
the carry of the next tile their last eight.
-/

noncomputable section

namespace Cert.FfnIdeal.Flow

open Cert.FfnIdeal Cert.FfnIdeal.Gen
open Idealize.ShloMosaic Idealize.ShloMosaic.TcCoe Idealize.ShloMosaic.Tactic
open Idealize.ShloMosaic.Pipeline (Dat)

variable (x0 : Vec Ideal S1x256x1024 .f32) (x1 : Vec Ideal S1024x5376 .bf16) (x2 : Vec Ideal S8x2688 .f32) (x3 : Vec Ideal S1x2688 .f32)
  (x4 : Vec Ideal S2688x1024 .bf16) (x5 x6 : Vec Ideal S1x1024 .f32) (k : Vec Ideal S1x8x2688 .f32) (Y : Vec Ideal S1x264x2688 .f32)

/-- A hidden unit: its gate's activation times its value. -/
def hidden (u v : EReal) : EReal := u * Ideal.div 1 (1 + Ideal.exp (0 - u)) * v

/-- The three taps and the bias at row `r` of the tile, from the rows `Y` the convolution sees. -/
def conv (r : Fin 256) (c : Fin 2688) : EReal :=
  Y (ix3 0 ⟨6 + r.val, by omega⟩ c) * x2 (ix2 0 c) + Y (ix3 0 ⟨7 + r.val, by omega⟩ c) * x2 (ix2 1 c)
    + (∑ q : Fin 1024, x0 (ix3 0 r q) * x1 (ix2 q ⟨c.val, by omega⟩)) * x2 (ix2 2 c) + x3 (ix2 0 c)

/-- The residual sum at row `r` of the tile. -/
def resid (r : Fin 256) (d : Fin 1024) : EReal :=
  Ideal.ofBits FTy.f32 1068827891#32 * x0 (ix3 0 r d)
    + ∑ c : Fin 2688, hidden (conv x0 x1 x2 x3 Y r c) (∑ q : Fin 1024, x0 (ix3 0 r q) * x1 (ix2 q ⟨2688 + c.val, by omega⟩)) * x4 (ix2 c d)

/-- A row normalised, scaled and shifted. -/
def norm (z g b : Fin 1024 → EReal) (d : Fin 1024) : EReal :=
  (z d - Ideal.div (∑ x, z x) (Ideal.ofBits FTy.f32 1149239296#32))
    * Ideal.rsqrt (Ideal.div (∑ y, (z y - Ideal.div (∑ x, z x) (Ideal.ofBits FTy.f32 1149239296#32))
        * (z y - Ideal.div (∑ x, z x) (Ideal.ofBits FTy.f32 1149239296#32))) (Ideal.ofBits FTy.f32 1149239296#32)
      + Ideal.ofBits FTy.f32 925353388#32) * g d + b d

/-- The sum before the normalisation, of the last chunk's parts. -/
def raw (v4 v106 : FVec Ideal S256x1024 .f32) (v112 : FVec Ideal S256x896 .f32) (v140 v143 v144 : FVec Ideal S1x256x896 .f32)
    (v153 : Vec Ideal S896x1024 .bf16) (r : Fin 256) (d : Fin 1024) : EReal :=
  Ideal.ofBits FTy.f32 1068827891#32 * v4 (ix2 r d) + (v106 (ix2 r d)
    + ∑ x, v140 (ix3 0 r x) * Ideal.div 1 (v144 (ix3 0 r x) + v143 (ix3 0 r x)) * v112 (ix2 r x) * v153 (ix2 x d))

theorem p25 (v4 v106 : FVec Ideal S256x1024 .f32) (v112 : FVec Ideal S256x896 .f32) (v140 v143 v144 : FVec Ideal S1x256x896 .f32)
    (v153 : Vec Ideal S896x1024 .bf16) (r : Fin 256) (d : Fin 1024) :
    k0_pay25 v4 v106 v112 v140 v143 v144 v153 (ix2 r d) = raw v4 v106 v112 v140 v143 v144 v153 r d
      - Ideal.div (∑ x, raw v4 v106 v112 v140 v143 v144 v153 r x) (Ideal.ofBits FTy.f32 1149239296#32) := by
  unfold raw
  pointwise [k0_pay25]

theorem p26 (v4 v106 : FVec Ideal S256x1024 .f32) (v112 : FVec Ideal S256x896 .f32) (v140 v143 v144 : FVec Ideal S1x256x896 .f32)
    (v153 : Vec Ideal S896x1024 .bf16) (r : Fin 256) :
    k0_pay26 v4 v106 v112 v140 v143 v144 v153 (ix2 r 0) = ∑ y, (raw v4 v106 v112 v140 v143 v144 v153 r y
      - Ideal.div (∑ x, raw v4 v106 v112 v140 v143 v144 v153 r x) (Ideal.ofBits FTy.f32 1149239296#32)) * (raw v4 v106 v112 v140 v143 v144 v153 r y
      - Ideal.div (∑ x, raw v4 v106 v112 v140 v143 v144 v153 r x) (Ideal.ofBits FTy.f32 1149239296#32)) := by
  have h : k0_pay26 v4 v106 v112 v140 v143 v144 v153 (ix2 r 0)
      = ∑ y : Fin 1024, k0_pay25 v4 v106 v112 v140 v143 v144 v153 (ix2 r y) * k0_pay25 v4 v106 v112 v140 v143 v144 v153 (ix2 r y) := by
    pointwise [k0_pay26]
  rw [h]
  exact Finset.sum_congr rfl fun y _ => by rw [p25]

theorem p1 (v167 v169 : FVec Ideal S1x1024 .f32) (v175 : FVec Ideal S256x1024 .f32) (v178 : FVec Ideal S256x1 .f32) (r : Fin 256) (d : Fin 1024) :
    k0_pay1 v167 v169 v175 v178 (ix3 0 r d) = v175 (ix2 r d) * Ideal.rsqrt (Ideal.div (v178 (ix2 r 0)) (Ideal.ofBits FTy.f32 1149239296#32)
      + Ideal.ofBits FTy.f32 925353388#32) * v167 (ix2 0 d) + v169 (ix2 0 d) := by
  pointwise [k0_pay1]

/-- A sum over the hidden units, by the three chunks of 896. -/
theorem sum_chunks (f : Fin 2688 → EReal) :
    ∑ c, f c = ∑ c : Fin 896, f ⟨c.val, by omega⟩ + ∑ c : Fin 896, f ⟨896 + c.val, by omega⟩ + ∑ c : Fin 896, f ⟨1792 + c.val, by omega⟩ := by
  rw [show ∑ c, f c = _ from Fin.sum_univ_add (a := 1792) (b := 896) f,
    Fin.sum_univ_add (a := 896) (b := 896) (fun c : Fin 1792 => f (Fin.castAdd 896 c))]
  refine congrArg₂ (· + ·) (congrArg₂ (· + ·) rfl (Finset.sum_congr rfl fun c _ => congrArg f (Fin.ext rfl)))
    (Finset.sum_congr rfl fun c _ => congrArg f (Fin.ext rfl))

theorem raw_block (r : Fin 256) (d : Fin 1024) :
    raw  (k0_pay3 x0)
        (k0_pay14
          (k0_pay10 k0_pay5
            (k0_pay6 x0 (View.ld x1 (Rect.unit ![0, 2688] ![1024, 896] inb_S1024x5376_S1024x896_0_2688)))
            (k0_pay7 x0 (View.ld x1 (Rect.unit ![0, 0] ![1024, 896] inb_S1024x5376_S1024x896_0_0)))
            (k0_pay9
              (View.ld Y (Rect.unit ![0, 6, 0] ![1, 256, 896] inb_S1x264x2688_S1x256x896_0_6_0))
              (View.ld x2 (Rect.unit ![0, 0] ![1, 896] inb_S8x2688_S1x896_0_0))
              (View.ld Y (Rect.unit ![0, 7, 0] ![1, 256, 896] inb_S1x264x2688_S1x256x896_0_7_0))
              (View.ld x2 (Rect.unit ![1, 0] ![1, 896] inb_S8x2688_S1x896_1_0)))
            (View.ld x2 (Rect.unit ![2, 0] ![1, 896] inb_S8x2688_S1x896_2_0))
            (View.ld x3 (Rect.unit ![0, 0] ![1, 896] inb_S1x2688_S1x896_0_0))
            (View.ld x4 (Rect.unit ![0, 0] ![896, 1024] inb_S2688x1024_S896x1024_0_0)))
          (k0_pay11 (k0_pay4 x0) (View.ld x1 (Rect.unit ![0, 3584] ![1024, 896] inb_S1024x5376_S1024x896_0_3584)))
          (k0_pay12 (k0_pay4 x0) (View.ld x1 (Rect.unit ![0, 896] ![1024, 896] inb_S1024x5376_S1024x896_0_896)))
          (View.ld Y (Rect.unit ![0, 6, 896] ![1, 256, 896] inb_S1x264x2688_S1x256x896_0_6_896))
          (View.ld x2 (Rect.unit ![0, 896] ![1, 896] inb_S8x2688_S1x896_0_896))
          (View.ld Y (Rect.unit ![0, 7, 896] ![1, 256, 896] inb_S1x264x2688_S1x256x896_0_7_896))
          (View.ld x2 (Rect.unit ![1, 896] ![1, 896] inb_S8x2688_S1x896_1_896))
          (View.ld x2 (Rect.unit ![2, 896] ![1, 896] inb_S8x2688_S1x896_2_896))
          (View.ld x3 (Rect.unit ![0, 896] ![1, 896] inb_S1x2688_S1x896_0_896))
          (View.ld x4 (Rect.unit ![896, 0] ![896, 1024] inb_S2688x1024_S896x1024_896_0)))
        (k0_pay16 (k0_pay4 x0) (View.ld x1 (Rect.unit ![0, 4480] ![1024, 896] inb_S1024x5376_S1024x896_0_4480)))
        (k0_pay19 (k0_pay4 x0)
          (k0_pay15 (View.ld x1 (Rect.unit ![0, 1792] ![1024, 896] inb_S1024x5376_S1024x896_0_1792)))
          (View.ld Y (Rect.unit ![0, 6, 1792] ![1, 256, 896] inb_S1x264x2688_S1x256x896_0_6_1792))
          (View.ld x2 (Rect.unit ![0, 1792] ![1, 896] inb_S8x2688_S1x896_0_1792))
          (View.ld Y (Rect.unit ![0, 7, 1792] ![1, 256, 896] inb_S1x264x2688_S1x256x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        (k0_pay20 (k0_pay4 x0)
          (k0_pay15 (View.ld x1 (Rect.unit ![0, 1792] ![1024, 896] inb_S1024x5376_S1024x896_0_1792)))
          (View.ld Y (Rect.unit ![0, 6, 1792] ![1, 256, 896] inb_S1x264x2688_S1x256x896_0_6_1792))
          (View.ld x2 (Rect.unit ![0, 1792] ![1, 896] inb_S8x2688_S1x896_0_1792))
          (View.ld Y (Rect.unit ![0, 7, 1792] ![1, 256, 896] inb_S1x264x2688_S1x256x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        k0_pay21 (View.ld x4 (Rect.unit ![1792, 0] ![896, 1024] inb_S2688x1024_S896x1024_1792_0)) r d = resid x0 x1 x2 x3 x4 Y r d := by
  unfold raw resid
  rw [sum_chunks]
  unfold hidden conv
  pointwise [k0_pay3, k0_pay4, k0_pay5, k0_pay6, k0_pay7, k0_pay9, k0_pay10, k0_pay11, k0_pay12, k0_pay14, k0_pay15, k0_pay16, k0_pay17, k0_pay19, k0_pay20, k0_pay21]
  simp only [← Nat.add_assoc, Nat.reduceAdd]

/-- The block of the result at one point, from the rows `Y` the convolution sees. -/
def blockOut : FVec Ideal S1x256x1024 .f32 :=
  k0_pay1 (k0_pay23 x5) (k0_pay24 x6)
      (k0_pay25 (k0_pay3 x0)
        (k0_pay14
          (k0_pay10 k0_pay5
            (k0_pay6 x0 (View.ld x1 (Rect.unit ![0, 2688] ![1024, 896] inb_S1024x5376_S1024x896_0_2688)))
            (k0_pay7 x0 (View.ld x1 (Rect.unit ![0, 0] ![1024, 896] inb_S1024x5376_S1024x896_0_0)))
            (k0_pay9
              (View.ld Y (Rect.unit ![0, 6, 0] ![1, 256, 896] inb_S1x264x2688_S1x256x896_0_6_0))
              (View.ld x2 (Rect.unit ![0, 0] ![1, 896] inb_S8x2688_S1x896_0_0))
              (View.ld Y (Rect.unit ![0, 7, 0] ![1, 256, 896] inb_S1x264x2688_S1x256x896_0_7_0))
              (View.ld x2 (Rect.unit ![1, 0] ![1, 896] inb_S8x2688_S1x896_1_0)))
            (View.ld x2 (Rect.unit ![2, 0] ![1, 896] inb_S8x2688_S1x896_2_0))
            (View.ld x3 (Rect.unit ![0, 0] ![1, 896] inb_S1x2688_S1x896_0_0))
            (View.ld x4 (Rect.unit ![0, 0] ![896, 1024] inb_S2688x1024_S896x1024_0_0)))
          (k0_pay11 (k0_pay4 x0) (View.ld x1 (Rect.unit ![0, 3584] ![1024, 896] inb_S1024x5376_S1024x896_0_3584)))
          (k0_pay12 (k0_pay4 x0) (View.ld x1 (Rect.unit ![0, 896] ![1024, 896] inb_S1024x5376_S1024x896_0_896)))
          (View.ld Y (Rect.unit ![0, 6, 896] ![1, 256, 896] inb_S1x264x2688_S1x256x896_0_6_896))
          (View.ld x2 (Rect.unit ![0, 896] ![1, 896] inb_S8x2688_S1x896_0_896))
          (View.ld Y (Rect.unit ![0, 7, 896] ![1, 256, 896] inb_S1x264x2688_S1x256x896_0_7_896))
          (View.ld x2 (Rect.unit ![1, 896] ![1, 896] inb_S8x2688_S1x896_1_896))
          (View.ld x2 (Rect.unit ![2, 896] ![1, 896] inb_S8x2688_S1x896_2_896))
          (View.ld x3 (Rect.unit ![0, 896] ![1, 896] inb_S1x2688_S1x896_0_896))
          (View.ld x4 (Rect.unit ![896, 0] ![896, 1024] inb_S2688x1024_S896x1024_896_0)))
        (k0_pay16 (k0_pay4 x0) (View.ld x1 (Rect.unit ![0, 4480] ![1024, 896] inb_S1024x5376_S1024x896_0_4480)))
        (k0_pay19 (k0_pay4 x0)
          (k0_pay15 (View.ld x1 (Rect.unit ![0, 1792] ![1024, 896] inb_S1024x5376_S1024x896_0_1792)))
          (View.ld Y (Rect.unit ![0, 6, 1792] ![1, 256, 896] inb_S1x264x2688_S1x256x896_0_6_1792))
          (View.ld x2 (Rect.unit ![0, 1792] ![1, 896] inb_S8x2688_S1x896_0_1792))
          (View.ld Y (Rect.unit ![0, 7, 1792] ![1, 256, 896] inb_S1x264x2688_S1x256x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        (k0_pay20 (k0_pay4 x0)
          (k0_pay15 (View.ld x1 (Rect.unit ![0, 1792] ![1024, 896] inb_S1024x5376_S1024x896_0_1792)))
          (View.ld Y (Rect.unit ![0, 6, 1792] ![1, 256, 896] inb_S1x264x2688_S1x256x896_0_6_1792))
          (View.ld x2 (Rect.unit ![0, 1792] ![1, 896] inb_S8x2688_S1x896_0_1792))
          (View.ld Y (Rect.unit ![0, 7, 1792] ![1, 256, 896] inb_S1x264x2688_S1x256x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        k0_pay21 (View.ld x4 (Rect.unit ![1792, 0] ![896, 1024] inb_S2688x1024_S896x1024_1792_0)))
      (k0_pay26 (k0_pay3 x0)
        (k0_pay14
          (k0_pay10 k0_pay5
            (k0_pay6 x0 (View.ld x1 (Rect.unit ![0, 2688] ![1024, 896] inb_S1024x5376_S1024x896_0_2688)))
            (k0_pay7 x0 (View.ld x1 (Rect.unit ![0, 0] ![1024, 896] inb_S1024x5376_S1024x896_0_0)))
            (k0_pay9
              (View.ld Y (Rect.unit ![0, 6, 0] ![1, 256, 896] inb_S1x264x2688_S1x256x896_0_6_0))
              (View.ld x2 (Rect.unit ![0, 0] ![1, 896] inb_S8x2688_S1x896_0_0))
              (View.ld Y (Rect.unit ![0, 7, 0] ![1, 256, 896] inb_S1x264x2688_S1x256x896_0_7_0))
              (View.ld x2 (Rect.unit ![1, 0] ![1, 896] inb_S8x2688_S1x896_1_0)))
            (View.ld x2 (Rect.unit ![2, 0] ![1, 896] inb_S8x2688_S1x896_2_0))
            (View.ld x3 (Rect.unit ![0, 0] ![1, 896] inb_S1x2688_S1x896_0_0))
            (View.ld x4 (Rect.unit ![0, 0] ![896, 1024] inb_S2688x1024_S896x1024_0_0)))
          (k0_pay11 (k0_pay4 x0) (View.ld x1 (Rect.unit ![0, 3584] ![1024, 896] inb_S1024x5376_S1024x896_0_3584)))
          (k0_pay12 (k0_pay4 x0) (View.ld x1 (Rect.unit ![0, 896] ![1024, 896] inb_S1024x5376_S1024x896_0_896)))
          (View.ld Y (Rect.unit ![0, 6, 896] ![1, 256, 896] inb_S1x264x2688_S1x256x896_0_6_896))
          (View.ld x2 (Rect.unit ![0, 896] ![1, 896] inb_S8x2688_S1x896_0_896))
          (View.ld Y (Rect.unit ![0, 7, 896] ![1, 256, 896] inb_S1x264x2688_S1x256x896_0_7_896))
          (View.ld x2 (Rect.unit ![1, 896] ![1, 896] inb_S8x2688_S1x896_1_896))
          (View.ld x2 (Rect.unit ![2, 896] ![1, 896] inb_S8x2688_S1x896_2_896))
          (View.ld x3 (Rect.unit ![0, 896] ![1, 896] inb_S1x2688_S1x896_0_896))
          (View.ld x4 (Rect.unit ![896, 0] ![896, 1024] inb_S2688x1024_S896x1024_896_0)))
        (k0_pay16 (k0_pay4 x0) (View.ld x1 (Rect.unit ![0, 4480] ![1024, 896] inb_S1024x5376_S1024x896_0_4480)))
        (k0_pay19 (k0_pay4 x0)
          (k0_pay15 (View.ld x1 (Rect.unit ![0, 1792] ![1024, 896] inb_S1024x5376_S1024x896_0_1792)))
          (View.ld Y (Rect.unit ![0, 6, 1792] ![1, 256, 896] inb_S1x264x2688_S1x256x896_0_6_1792))
          (View.ld x2 (Rect.unit ![0, 1792] ![1, 896] inb_S8x2688_S1x896_0_1792))
          (View.ld Y (Rect.unit ![0, 7, 1792] ![1, 256, 896] inb_S1x264x2688_S1x256x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        (k0_pay20 (k0_pay4 x0)
          (k0_pay15 (View.ld x1 (Rect.unit ![0, 1792] ![1024, 896] inb_S1024x5376_S1024x896_0_1792)))
          (View.ld Y (Rect.unit ![0, 6, 1792] ![1, 256, 896] inb_S1x264x2688_S1x256x896_0_6_1792))
          (View.ld x2 (Rect.unit ![0, 1792] ![1, 896] inb_S8x2688_S1x896_0_1792))
          (View.ld Y (Rect.unit ![0, 7, 1792] ![1, 256, 896] inb_S1x264x2688_S1x256x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        k0_pay21 (View.ld x4 (Rect.unit ![1792, 0] ![896, 1024] inb_S2688x1024_S896x1024_1792_0)))

theorem blockOut_apply (r : Fin 256) (d : Fin 1024) :
    blockOut x0 x1 x2 x3 x4 x5 x6 Y (ix3 0 r d)
      = norm (resid x0 x1 x2 x3 x4 Y r) (fun d => x5 (ix2 0 d)) (fun d => x6 (ix2 0 d)) d := by
  unfold blockOut
  rw [p1, p25, p26]
  simp only [raw_block]
  unfold norm
  pointwise [k0_pay23, k0_pay24]

/-! ## The carried rows -/

/-- The rows the convolution of a tile sees: the eight carried ones, then the tile's own gates. -/
def ext : Vec Ideal S1x264x2688 .f32 := fun y =>
  if h : (y 1).val < 8 then k (ix3 0 ⟨(y 1).val, h⟩ ⟨(y 2).val, (y 2).isLt⟩)
  else ∑ q : Fin 1024, x0 (ix3 0 ⟨(y 1).val - 8, by have : (y 1).val < 264 := (y 1).isLt; omega⟩ q)
    * x1 (ix2 q ⟨(y 2).val, lt_of_lt_of_le (y 2).isLt (by decide)⟩)

/-- A chunk of gates is those rows at its place. -/
theorem gate_piece (o : Nat) (ho : o + 896 ≤ 2688) (inb : ∀ a, (![0, 8, o] : Fin 3 → Nat) a + (![1, 256, 896] : Fin 3 → Nat) a ≤ S1x264x2688.size a)
    (w : Vec Ideal S1x256x896 .f32) (hw : ∀ (r : Fin 256) (c : Fin 896), w (ix3 0 r c) = ∑ q : Fin 1024, x0 (ix3 0 r q) * x1 (ix2 q ⟨o + c.val, by omega⟩))
    (x : S1x256x896.Idx) : w x = ext x0 x1 k ((Rect.unit (s := S1x264x2688) ![0, 8, o] ![1, 256, 896] inb).emb x) := by
  have h0 : (x 0).val < 1 := (x 0).isLt
  have h1 : (x 1).val < 256 := (x 1).isLt
  have h2 : (x 2).val < 896 := (x 2).isLt
  have hx : x = ix3 0 ⟨(x 1).val, h1⟩ ⟨(x 2).val, h2⟩ := funext fun a => by
    match a with
    | ⟨0, _⟩ => exact Fin.ext (by show (x 0).val = 0; omega)
    | ⟨1, _⟩ => rfl
    | ⟨2, _⟩ => rfl
  rw [hx, hw, ext, dif_neg (by show ¬(8 + 1 * (x 1).val < 8); omega)]
  refine Finset.sum_congr rfl fun q _ => congrArg₂ (· * ·) (congrArg x0 ?_) (congrArg x1 ?_)
  · exact funext fun a => by
      match a with
      | ⟨0, _⟩ => rfl
      | ⟨1, _⟩ => exact Fin.ext (by show (x 1).val = 8 + 1 * (x 1).val - 8; omega)
      | ⟨2, _⟩ => rfl
  · exact funext fun a => by
      match a with
      | ⟨0, _⟩ => rfl
      | ⟨1, _⟩ => exact Fin.ext (by show o + (x 2).val = o + 1 * (x 2).val; omega)

/-- The first eight rows are the carried ones. -/
theorem carry_piece (inb : ∀ a, (![0, 0, 0] : Fin 3 → Nat) a + (![1, 8, 2688] : Fin 3 → Nat) a ≤ S1x264x2688.size a)
    (x : S1x8x2688.Idx) : k x = ext x0 x1 k ((Rect.unit (s := S1x264x2688) ![0, 0, 0] ![1, 8, 2688] inb).emb x) := by
  have h0 : (x 0).val < 1 := (x 0).isLt
  have h1 : (x 1).val < 8 := (x 1).isLt
  rw [ext, dif_pos (by show 0 + 1 * (x 1).val < 8; omega)]
  refine congrArg k (funext fun a => ?_)
  match a with
  | ⟨0, _⟩ => exact Fin.ext (by show (x 0).val = 0; omega)
  | ⟨1, _⟩ => exact Fin.ext (by show (x 1).val = 0 + 1 * (x 1).val; omega)
  | ⟨2, _⟩ => exact Fin.ext (by show (x 2).val = 0 + 1 * (x 2).val; omega)

/-- The stores of the first, second and third chunk of gates. -/
abbrev g0 : View.Piece (Elt Ideal) S1x264x2688 .f32 := ⟨Rect.unit ![0, 8, 0] ![1, 256, 896] inb_S1x264x2688_S1x256x896_0_8_0,
  k0_pay8 x0 (View.ld x1 (Rect.unit ![0, 0] ![1024, 896] inb_S1024x5376_S1024x896_0_0))⟩
@[inherit_doc g0]
abbrev g1 : View.Piece (Elt Ideal) S1x264x2688 .f32 := ⟨Rect.unit ![0, 8, 896] ![1, 256, 896] inb_S1x264x2688_S1x256x896_0_8_896,
  k0_pay13 (k0_pay4 x0) (View.ld x1 (Rect.unit ![0, 896] ![1024, 896] inb_S1024x5376_S1024x896_0_896))⟩
@[inherit_doc g0]
abbrev g2 : View.Piece (Elt Ideal) S1x264x2688 .f32 := ⟨Rect.unit ![0, 8, 1792] ![1, 256, 896] inb_S1x264x2688_S1x256x896_0_8_1792,
  k0_pay18 (k0_pay4 x0) (k0_pay15 (View.ld x1 (Rect.unit ![0, 1792] ![1024, 896] inb_S1024x5376_S1024x896_0_1792)))⟩
/-- The store of the carried rows. -/
abbrev gk : View.Piece (Elt Ideal) S1x264x2688 .f32 := ⟨Rect.unit ![0, 0, 0] ![1, 8, 2688] inb_S1x264x2688_S1x8x2688_0_0_0, k0_pay2 k⟩

theorem g0_ext (x) : (g0 x0 x1).2 x = ext x0 x1 k ((g0 x0 x1).1.emb x) :=
  gate_piece x0 x1 k 0 (by decide) inb_S1x264x2688_S1x256x896_0_8_0 _ (fun r c => by pointwise [g0, k0_pay8, k0_pay7, k0_pay4, k0_pay3]) x

theorem g1_ext (x) : (g1 x0 x1).2 x = ext x0 x1 k ((g1 x0 x1).1.emb x) :=
  gate_piece x0 x1 k 896 (by decide) inb_S1x264x2688_S1x256x896_0_8_896 _ (fun r c => by pointwise [g1, k0_pay13, k0_pay12, k0_pay4, k0_pay3]) x

theorem g2_ext (x) : (g2 x0 x1).2 x = ext x0 x1 k ((g2 x0 x1).1.emb x) :=
  gate_piece x0 x1 k 1792 (by decide) inb_S1x264x2688_S1x256x896_0_8_1792 _ (fun r c => by pointwise [g2, k0_pay18, k0_pay17, k0_pay15, k0_pay4, k0_pay3]) x

theorem gk_ext (x) : (gk k).2 x = ext x0 x1 k ((gk k).1.emb x) :=
  (congrFun (show k0_pay2 k = k from (shapeCast_id _ _).trans (shapeCast_id _ _)) x).trans (carry_piece x0 x1 k inb_S1x264x2688_S1x8x2688_0_0_0 x)

theorem mem_gk (y : S1x264x2688.Idx) (h : (y 1).val < 8) : y ∈ (gk k).1.set := by
  have h0 : (y 0).val < 1 := (y 0).isLt
  have h2 : (y 2).val < 2688 := (y 2).isLt
  refine (Rect.mem_set_unit (inb := inb_S1x264x2688_S1x8x2688_0_0_0)).2 fun a => ?_
  match a with
  | ⟨0, _⟩ => exact ⟨Nat.zero_le _, by show (y 0).val < 0 + 1; omega⟩
  | ⟨1, _⟩ => exact ⟨Nat.zero_le _, by show (y 1).val < 0 + 8; omega⟩
  | ⟨2, _⟩ => exact ⟨Nat.zero_le _, by show (y 2).val < 0 + 2688; omega⟩

theorem mem_gate (o : Nat) (inb : ∀ a, (![0, 8, o] : Fin 3 → Nat) a + (![1, 256, 896] : Fin 3 → Nat) a ≤ S1x264x2688.size a)
    (y : S1x264x2688.Idx) (h : 8 ≤ (y 1).val) (hl : o ≤ (y 2).val) (hu : (y 2).val < o + 896) :
    y ∈ (Rect.unit (s := S1x264x2688) ![0, 8, o] ![1, 256, 896] inb).set := by
  have h0 : (y 0).val < 1 := (y 0).isLt
  have h1 : (y 1).val < 264 := (y 1).isLt
  refine (Rect.mem_set_unit (inb := inb)).2 fun a => ?_
  match a with
  | ⟨0, _⟩ => exact ⟨Nat.zero_le _, by show (y 0).val < 0 + 1; omega⟩
  | ⟨1, _⟩ => exact ⟨h, by show (y 1).val < 8 + 256; omega⟩
  | ⟨2, _⟩ => exact ⟨hl, hu⟩

/-- After the first chunk's store its columns hold the tile's gates; -/
theorem cov1 (y : S1x264x2688.Idx) (h : 8 ≤ (y 1).val) (hu : (y 2).val < 896) : ∃ p ∈ [g0 x0 x1], y ∈ p.1.set :=
  ⟨g0 x0 x1, by simp, mem_gate 0 inb_S1x264x2688_S1x256x896_0_8_0 y h (Nat.zero_le _) (by omega)⟩

/-- after the second's, its columns as well; -/
theorem cov2 (y : S1x264x2688.Idx) (h : 8 ≤ (y 1).val) (hu : (y 2).val < 1792) : ∃ p ∈ [g1 x0 x1, g0 x0 x1], y ∈ p.1.set := by
  by_cases hy : (y 2).val < 896
  · obtain ⟨p, hp, hm⟩ := cov1 x0 x1 y h hy
    exact ⟨p, List.mem_cons_of_mem _ hp, hm⟩
  · exact ⟨g1 x0 x1, by simp, mem_gate 896 inb_S1x264x2688_S1x256x896_0_8_896 y h (by omega) (by omega)⟩

/-- after the third's, all of them. -/
theorem cov3 (y : S1x264x2688.Idx) (h : 8 ≤ (y 1).val) : ∃ p ∈ [g2 x0 x1, g1 x0 x1, g0 x0 x1], y ∈ p.1.set := by
  have h2 : (y 2).val < 2688 := (y 2).isLt
  by_cases hy : (y 2).val < 1792
  · obtain ⟨p, hp, hm⟩ := cov2 x0 x1 y h hy
    exact ⟨p, List.mem_cons_of_mem _ hp, hm⟩
  · exact ⟨g2 x0 x1, by simp, mem_gate 1792 inb_S1x264x2688_S1x256x896_0_8_1792 y h (by omega) (by omega)⟩

/-- A list of stores of gates, with the carried rows' store under it or not, covers what the gates' stores cover. -/
theorem cov_append {L : List (View.Piece (Elt Ideal) S1x264x2688 .f32)} {y : S1x264x2688.Idx}
    (h : 8 ≤ (y 1).val → ∃ p ∈ L, y ∈ p.1.set) : ∃ p ∈ L ++ [gk k], y ∈ p.1.set := by
  by_cases hy : (y 1).val < 8
  · exact ⟨gk k, by simp, mem_gk k y hy⟩
  · obtain ⟨p, hp, hm⟩ := h (by omega)
    exact ⟨p, List.mem_append_left _ hp, hm⟩

theorem of1 : View.PiecesOf (Val := Elt Ideal) (ext x0 x1 k) [g0 x0 x1] := ⟨g0_ext x0 x1 k, trivial⟩
theorem of2 : View.PiecesOf (Val := Elt Ideal) (ext x0 x1 k) [g1 x0 x1, g0 x0 x1] := ⟨g1_ext x0 x1 k, g0_ext x0 x1 k, trivial⟩
theorem of3 : View.PiecesOf (Val := Elt Ideal) (ext x0 x1 k) [g2 x0 x1, g1 x0 x1, g0 x0 x1] :=
  ⟨g2_ext x0 x1 k, g1_ext x0 x1 k, g0_ext x0 x1 k, trivial⟩

section Reads

variable {sg : RefSig} {κ : Kind} {sp : Space} (v : View sg κ sp S1x264x2688 .f32)

/-- A load after stores that are all of `G` and cover it reads `G`. -/
theorem readCov_of_pieces {G : Vec Ideal S1x264x2688 .f32} {L : List (View.Piece (Elt Ideal) S1x264x2688 .f32)}
    (hL : ∀ p ∈ L, ∀ x, p.2 x = G (p.1.emb x)) (r : Rect S1x264x2688) (hc : ∀ j, ∃ p ∈ L, r.emb j ∈ p.1.set) :
    v.readCov L r.toLoadRect = View.ld G r :=
  funext fun j => View.read_writes_apply_of_pieces v v.junk G L hL _ (hc j)

/-- What is read where the stores cover or what was there before already was `G`. -/
theorem read_writes_of_or {G : Vec Ideal S1x264x2688 .f32} (f : v.ty.Contents (Elt Ideal)) :
    ∀ {L : List (View.Piece (Elt Ideal) S1x264x2688 .f32)}, View.PiecesOf (Val := Elt Ideal) G L → ∀ y,
      ((∃ p ∈ L, y ∈ p.1.set) ∨ v.read (Elt Ideal) f y = G y) → v.read (Elt Ideal) (v.writes (Elt Ideal) f L) y = G y
  | [], _, y, h => h.resolve_left fun ⟨_, hm, _⟩ => absurd hm List.not_mem_nil
  | p :: L, hL, y, h => by
    by_cases hc : ∃ q ∈ p :: L, y ∈ q.1.set
    · exact View.read_writes_apply_of_pieces v f G _ hL.mem y hc
    · have hp : y ∉ Finset.univ.map p.1.emb := by
        rw [Rect.map_emb_univ]
        exact fun hy => hc ⟨p, List.mem_cons_self, hy⟩
      rw [View.writes_cons, View.read_slice_write_of_not_mem p.1 _ _ _ hp]
      refine read_writes_of_or f hL.2 y (h.imp_left fun hq => absurd hq hc)

end Reads

/-- The rows carried in a scratch. -/
abbrev carried (s : Vec Ideal S1x264x2688 .f32) : Vec Ideal S1x8x2688 .f32 :=
  View.ld s (Rect.unit (s := S1x264x2688) ![0, 0, 0] ![1, 8, 2688] inb_S1x264x2688_S1x8x2688_0_0_0)

/-- A scratch's first eight rows are the carried ones. -/
theorem eq_ext (s : Vec Ideal S1x264x2688 .f32) (y : S1x264x2688.Idx) (h : (y 1).val < 8) : s y = ext x0 x1 (carried s) y := by
  have h0 : (y 0).val < 1 := (y 0).isLt
  rw [ext, dif_pos h]
  refine congrArg s (funext fun a => ?_)
  match a with
  | ⟨0, _⟩ => exact Fin.ext (by show (y 0).val = 0 + 1 * 0; omega)
  | ⟨1, _⟩ => exact Fin.ext (by show (y 1).val = 0 + 1 * (y 1).val; omega)
  | ⟨2, _⟩ => exact Fin.ext (by show (y 2).val = 0 + 1 * (y 2).val; omega)

/-- A load after the gates' stores over an earlier scratch. -/
theorem ld_writes_of {L : List (View.Piece (Elt Ideal) S1x264x2688 .f32)} (v : Memref sig .tc .vmem S1x264x2688 .f32) (hv : v.IsWhole)
    (s : Vec Ideal S1x264x2688 .f32) (hL : View.PiecesOf (Val := Elt Ideal) (ext x0 x1 (carried s)) L) (r : Rect S1x264x2688)
    (hc : ∀ j, 8 ≤ (r.emb j 1).val → ∃ p ∈ L, r.emb j ∈ p.1.set) :
    View.ld (View.read (Elt Ideal) v.view (v.view.writes (Elt Ideal) (hv.unread s) L)) r = View.ld (ext x0 x1 (carried s)) r :=
  funext fun j => read_writes_of_or v.view _ hL _ (by
    by_cases h : 8 ≤ (r.emb j 1).val
    · exact Or.inl (hc j h)
    · refine Or.inr (Eq.trans ?_ (eq_ext x0 x1 s (r.emb j) (by omega)))
      exact congrFun (hv.read_unread s) _)

/-! ## The two cases -/

section Cases

variable (cd : Dev nD) (i : grid0.Coords) (arg2 : Memref sig .tc .vmem S1x256x1024 .f32) (harg2 : arg2.IsWhole) (arg3 : Memref sig .tc .vmem S1024x5376 .bf16) (harg3 : arg3.IsWhole) (arg4 : Memref sig .tc .vmem S8x2688 .f32) (harg4 : arg4.IsWhole) (arg5 : Memref sig .tc .vmem S1x2688 .f32) (harg5 : arg5.IsWhole) (arg6 : Memref sig .tc .vmem S2688x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x8x2688 .f32) (harg9 : arg9.IsWhole) (arg10 : Memref sig .tc .vmem S1x256x1024 .f32) (harg10 : arg10.IsWhole) (arg11 : Memref sig .tc .vmem S1x2x2688 .f32) (harg11 : arg11.IsWhole) (arg12 : Memref sig .tc .vmem S1x264x2688 .f32) (harg12 : arg12.IsWhole) (x7 : Vec Ideal S1x8x2688 .f32) (xs0 : Vec Ideal S1x264x2688 .f32)

theorem outA_8 (hc0 : cond0_0 i) : out0_A_8 cd i arg2 harg2 arg3 harg3 arg4 harg4 arg5 harg5 arg6 harg6 arg7 harg7 arg8 harg8 arg9 harg9 arg10 harg10 arg11 harg11 arg12 harg12 hc0 x0 x1 x2 x3 x4 x5 x6 x7 = blockOut x0 x1 x2 x3 x4 x5 x6 (ext x0 x1 x7) := by
  have e1 : ∀ r hc, arg12.view.readCov [g0 x0 x1, gk x7] r.toLoadRect = View.ld (ext x0 x1 x7) r :=
    readCov_of_pieces arg12.view (L := [g0 x0 x1, gk x7]) (View.PiecesOf.mem (L := [g0 x0 x1, gk x7]) ⟨g0_ext x0 x1 x7, gk_ext x0 x1 x7, trivial⟩)
  have e2 : ∀ r hc, arg12.view.readCov [g1 x0 x1, g0 x0 x1, gk x7] r.toLoadRect = View.ld (ext x0 x1 x7) r :=
    readCov_of_pieces arg12.view (L := [g1 x0 x1, g0 x0 x1, gk x7])
      (View.PiecesOf.mem (L := [g1 x0 x1, g0 x0 x1, gk x7]) ⟨g1_ext x0 x1 x7, g0_ext x0 x1 x7, gk_ext x0 x1 x7, trivial⟩)
  have e3 : ∀ r hc, arg12.view.readCov [g2 x0 x1, g1 x0 x1, g0 x0 x1, gk x7] r.toLoadRect = View.ld (ext x0 x1 x7) r :=
    readCov_of_pieces arg12.view (L := [g2 x0 x1, g1 x0 x1, g0 x0 x1, gk x7])
      (View.PiecesOf.mem (L := [g2 x0 x1, g1 x0 x1, g0 x0 x1, gk x7]) ⟨g2_ext x0 x1 x7, g1_ext x0 x1 x7, g0_ext x0 x1 x7, gk_ext x0 x1 x7, trivial⟩)
  have c1 : ∀ (o : Nat) inb (j : (Rect.unit (s := S1x264x2688) ![0, o, 0] ![1, 256, 896] inb).shape.Idx),
      ∃ p ∈ [g0 x0 x1, gk x7], (Rect.unit (s := S1x264x2688) ![0, o, 0] ![1, 256, 896] inb).emb j ∈ p.1.set := fun o inb j =>
    cov_append x7 (L := [g0 x0 x1]) fun h => cov1 x0 x1 _ h (by have : (j 2).val < 896 := (j 2).isLt; show 0 + 1 * (j 2).val < 896; omega)
  have c2 : ∀ (o : Nat) inb (j : (Rect.unit (s := S1x264x2688) ![0, o, 896] ![1, 256, 896] inb).shape.Idx),
      ∃ p ∈ [g1 x0 x1, g0 x0 x1, gk x7], (Rect.unit (s := S1x264x2688) ![0, o, 896] ![1, 256, 896] inb).emb j ∈ p.1.set := fun o inb j =>
    cov_append x7 (L := [g1 x0 x1, g0 x0 x1]) fun h => cov2 x0 x1 _ h (by have : (j 2).val < 896 := (j 2).isLt; show 896 + 1 * (j 2).val < 1792; omega)
  have c3 : ∀ (r : Rect S1x264x2688) j, ∃ p ∈ [g2 x0 x1, g1 x0 x1, g0 x0 x1, gk x7], r.emb j ∈ p.1.set := fun r j =>
    cov_append x7 (L := [g2 x0 x1, g1 x0 x1, g0 x0 x1]) fun h => cov3 x0 x1 _ h
  frame_out
  rw [e1 _ (c1 6 _), e1 _ (c1 7 _), e2 _ (c2 6 _), e2 _ (c2 7 _), e3 _ (c3 _), e3 _ (c3 _)]
  rfl

theorem outA_9 (hc0 : cond0_0 i) : out0_A_9 cd i arg2 harg2 arg3 harg3 arg4 harg4 arg5 harg5 arg6 harg6 arg7 harg7 arg8 harg8 arg9 harg9 arg10 harg10 arg11 harg11 arg12 harg12 hc0 x0 x1 x2 x3 x4 x5 x6 x7
    = View.ld (ext x0 x1 x7) (Rect.unit ![0, 262, 0] ![1, 2, 2688] inb_S1x264x2688_S1x2x2688_0_262_0) := by
  frame_out
  exact readCov_of_pieces arg12.view (L := [g2 x0 x1, g1 x0 x1, g0 x0 x1, gk x7])
      (View.PiecesOf.mem (L := [g2 x0 x1, g1 x0 x1, g0 x0 x1, gk x7]) ⟨g2_ext x0 x1 x7, g1_ext x0 x1 x7, g0_ext x0 x1 x7, gk_ext x0 x1 x7, trivial⟩) _
      fun j => cov_append x7 (L := [g2 x0 x1, g1 x0 x1, g0 x0 x1]) fun h => cov3 x0 x1 _ h

/-- The carry of the next tile: the last eight rows, moved to the front. -/
theorem carried_canon (L : List (View.Piece (Elt Ideal) S1x264x2688 .f32)) (w : Vec Ideal S1x8x2688 .f32) :
    carried (View.canon ((⟨Rect.unit (s := S1x264x2688) ![0, 0, 0] ![1, 8, 2688] inb_S1x264x2688_S1x8x2688_0_0_0, w⟩
      : View.Piece (Elt Ideal) S1x264x2688 .f32) :: L)) = w :=
  funext fun x => View.canon_cons_emb (Val := Elt Ideal)
    (Rect.unit (s := S1x264x2688) ![0, 0, 0] ![1, 8, 2688] inb_S1x264x2688_S1x8x2688_0_0_0) w L x

theorem pay22_eq (w : Vec Ideal S1x8x2688 .f32) : k0_pay22 w = w := shapeCast_id _ _

theorem soutA (hc0 : cond0_0 i) : carried (sout0_A_0 cd i arg2 harg2 arg3 harg3 arg4 harg4 arg5 harg5 arg6 harg6 arg7 harg7 arg8 harg8 arg9 harg9 arg10 harg10 arg11 harg11 arg12 harg12 hc0 x0 x1 x2 x3 x4 x5 x6 x7)
    = View.ld (ext x0 x1 x7) (Rect.unit ![0, 256, 0] ![1, 8, 2688] inb_S1x264x2688_S1x8x2688_0_256_0) := by
  have e3 : ∀ r hc, arg12.view.readCov [g2 x0 x1, g1 x0 x1, g0 x0 x1, gk x7] r.toLoadRect = View.ld (ext x0 x1 x7) r :=
    readCov_of_pieces arg12.view (L := [g2 x0 x1, g1 x0 x1, g0 x0 x1, gk x7])
      (View.PiecesOf.mem (L := [g2 x0 x1, g1 x0 x1, g0 x0 x1, gk x7]) ⟨g2_ext x0 x1 x7, g1_ext x0 x1 x7, g0_ext x0 x1 x7, gk_ext x0 x1 x7, trivial⟩)
  rw [← e3 _ fun j => cov_append x7 (L := [g2 x0 x1, g1 x0 x1, g0 x0 x1]) fun h => cov3 x0 x1 _ h]
  refine Eq.trans (congrArg carried ?_) (carried_canon [g2 x0 x1, g1 x0 x1, g0 x0 x1, gk x7] _)
  refine Eq.trans ?_ (congrArg (fun w => View.canon ((⟨Rect.unit (s := S1x264x2688) ![0, 0, 0] ![1, 8, 2688]
    inb_S1x264x2688_S1x8x2688_0_0_0, w⟩ : View.Piece (Elt Ideal) S1x264x2688 .f32) :: [g2 x0 x1, g1 x0 x1, g0 x0 x1, gk x7])) (pay22_eq _))
  frame_out

theorem outB_8 (hc0 : ¬cond0_0 i) : out0_B_8 cd i arg2 harg2 arg3 harg3 arg4 harg4 arg5 harg5 arg6 harg6 arg7 harg7 arg8 harg8 arg9 harg9 arg10 harg10 arg11 harg11 arg12 harg12 hc0 x0 x1 x2 x3 x4 x5 x6 x7 xs0 = blockOut x0 x1 x2 x3 x4 x5 x6 (ext x0 x1 (carried xs0)) := by
  frame_out
  have c1 : ∀ (o : Nat) inb, View.ld (View.read (Elt Ideal) arg12.view (arg12.view.writes (Elt Ideal) (harg12.unread xs0) [g0 x0 x1]))
      (Rect.unit (s := S1x264x2688) ![0, o, 0] ![1, 256, 896] inb) = View.ld (ext x0 x1 (carried xs0)) (Rect.unit ![0, o, 0] ![1, 256, 896] inb) := fun o inb =>
    ld_writes_of x0 x1 arg12 harg12 xs0 (of1 x0 x1 _) _ fun j h =>
      cov1 x0 x1 _ h (by have : (j 2).val < 896 := (j 2).isLt; show 0 + 1 * (j 2).val < 896; omega)
  have c2 : ∀ (o : Nat) inb, View.ld (View.read (Elt Ideal) arg12.view (arg12.view.writes (Elt Ideal) (harg12.unread xs0) [g1 x0 x1, g0 x0 x1]))
      (Rect.unit (s := S1x264x2688) ![0, o, 896] ![1, 256, 896] inb) = View.ld (ext x0 x1 (carried xs0)) (Rect.unit ![0, o, 896] ![1, 256, 896] inb) := fun o inb =>
    ld_writes_of x0 x1 arg12 harg12 xs0 (of2 x0 x1 _) _ fun j h =>
      cov2 x0 x1 _ h (by have : (j 2).val < 896 := (j 2).isLt; show 896 + 1 * (j 2).val < 1792; omega)
  have c3 : ∀ r, View.ld (View.read (Elt Ideal) arg12.view (arg12.view.writes (Elt Ideal) (harg12.unread xs0) [g2 x0 x1, g1 x0 x1, g0 x0 x1])) r
      = View.ld (ext x0 x1 (carried xs0)) r := fun r =>
    ld_writes_of x0 x1 arg12 harg12 xs0 (of3 x0 x1 _) _ fun j h => cov3 x0 x1 _ h
  rw [c1 6, c1 7, c2 6, c2 7, c3, c3]
  rfl

theorem outB_9 (hc0 : ¬cond0_0 i) : out0_B_9 cd i arg2 harg2 arg3 harg3 arg4 harg4 arg5 harg5 arg6 harg6 arg7 harg7 arg8 harg8 arg9 harg9 arg10 harg10 arg11 harg11 arg12 harg12 hc0 x0 x1 x2 x3 x4 x5 x6 x7 xs0
    = View.ld (ext x0 x1 (carried xs0)) (Rect.unit ![0, 262, 0] ![1, 2, 2688] inb_S1x264x2688_S1x2x2688_0_262_0) := by
  frame_out
  exact readCov_of_pieces arg12.view (of3 x0 x1 _).mem _ fun j => cov3 x0 x1 _ (by show 8 ≤ 262 + 1 * (j 1).val; omega)

theorem soutB (hc0 : ¬cond0_0 i) : carried (sout0_B_0 cd i arg2 harg2 arg3 harg3 arg4 harg4 arg5 harg5 arg6 harg6 arg7 harg7 arg8 harg8 arg9 harg9 arg10 harg10 arg11 harg11 arg12 harg12 hc0 x0 x1 x2 x3 x4 x5 x6 x7 xs0)
    = View.ld (ext x0 x1 (carried xs0)) (Rect.unit ![0, 256, 0] ![1, 8, 2688] inb_S1x264x2688_S1x8x2688_0_256_0) := by
  rw [← readCov_of_pieces arg12.view (of3 x0 x1 (carried xs0)).mem _ fun j => cov3 x0 x1 _ (by show 8 ≤ 256 + 1 * (j 1).val; omega)]
  refine Eq.trans (congrArg carried ?_) (carried_canon [g2 x0 x1, g1 x0 x1, g0 x0 x1] _)
  refine Eq.trans ?_ (congrArg (fun w => View.canon ((⟨Rect.unit (s := S1x264x2688) ![0, 0, 0] ![1, 8, 2688]
    inb_S1x264x2688_S1x8x2688_0_0_0, w⟩ : View.Piece (Elt Ideal) S1x264x2688 .f32) :: [g2 x0 x1, g1 x0 x1, g0 x0 x1])) (pay22_eq _))
  frame_out

end Cases

end Cert.FfnIdeal.Flow

end
-- ==== Proof.FfnValue.lean ====
module

public import proofs.«01_k».proof.Proof.FfnBlock
public import Idealize.ShloMosaic.Lib.Claim
public import Idealize.ShloMosaic.Lib.StableHlo.ReadAt

@[expose] public section

set_option maxRecDepth 65536

/-!
# The feed-forward kernel's results, by its arguments

`G8_eq`: the array of the result at an index is `ffn` there; `G9_eq`: the state array is the last two rows of the gates.
-/

noncomputable section

namespace Cert.FfnIdeal.Flow

open Cert.FfnIdeal Cert.FfnIdeal.Gen
open Idealize.ShloMosaic Idealize.ShloMosaic.TcCoe Idealize.ShloMosaic.Tactic
open Idealize.ShloMosaic.Pipeline (Dat)

/-! ## The layer's feed-forward part, by its arguments -/

section Spec

variable (X : (⟨3, ![8, 2048, 1024]⟩ : Shape).Idx → EReal) (Wu : (⟨2, ![1024, 5376]⟩ : Shape).Idx → EReal) (Wc : (⟨2, ![3, 2688]⟩ : Shape).Idx → EReal)
  (Bc : (⟨1, ![2688]⟩ : Shape).Idx → EReal) (Wd : (⟨2, ![2688, 1024]⟩ : Shape).Idx → EReal) (G B : (⟨1, ![1024]⟩ : Shape).Idx → EReal)

/-- The up projection. -/
def up (b : Fin 8) (s : Fin 2048) (n : Fin 5376) : EReal := ∑ q : Fin 1024, X (ix3 b s q) * Wu (ix2 q n)

/-- The gates with two rows of zeros before them. -/
def past (b : Fin 8) (s : Fin 2050) (c : Fin 2688) : EReal :=
  if h : s.val < 2 then 0 else up X Wu b ⟨s.val - 2, by omega⟩ ⟨c.val, by omega⟩

/-- The causal convolution of three taps. -/
def taps (b : Fin 8) (s : Fin 2048) (c : Fin 2688) : EReal :=
  past X Wu b ⟨s.val, by omega⟩ c * Wc (ix2 0 c) + past X Wu b ⟨s.val + 1, by omega⟩ c * Wc (ix2 1 c)
    + past X Wu b ⟨s.val + 2, by omega⟩ c * Wc (ix2 2 c) + Bc (ix1 c)

/-- The residual sum. -/
def sumOf (b : Fin 8) (s : Fin 2048) (d : Fin 1024) : EReal :=
  Ideal.ofBits FTy.f32 1068827891#32 * X (ix3 b s d)
    + ∑ c : Fin 2688, hidden (taps X Wu Wc Bc b s c) (up X Wu b s ⟨2688 + c.val, by omega⟩) * Wd (ix2 c d)

/-- The result. -/
def ffn (b : Fin 8) (s : Fin 2048) (d : Fin 1024) : EReal :=
  norm (sumOf X Wu Wc Bc Wd b s) (fun d => G (ix1 d)) (fun d => B (ix1 d)) d

end Spec

/-! ## The blocks a point reads -/

section Points

variable (m : (l : Loc nD τ sig) → Buf (Elt Ideal) l) (c : Dev nD)

theorem idx : ∀ t : Fin cfg0.N, win0_0.index t = ![t.val / 8, t.val % 8, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val / 8, 0, 0] :=
  (by decide +kernel : ∀ t : Fin grid0.N, _)

theorem blk0 (t : Fin cfg0.N) (r : Fin 256) (q : Fin 1024) : iblk m c 0 t (ix3 0 r q)
    = m ((c : Thread nD τ).loc main_arg0) (ix3 ⟨t.val / 8, by have := t.isLt.trans_eq N_0; omega⟩ ⟨256 * (t.val % 8) + r.val, by omega⟩ q) := by
  have ⟨h0, h1, h2, h3, h4, h5, h6, h7⟩ := idx t
  blk_ext [iblk, V, h0]

theorem blk1 (t : Fin cfg0.N) (q : Fin 1024) (n : Fin 5376) : iblk m c 1 t (ix2 q n) = m ((c : Thread nD τ).loc main_arg1) (ix2 q n) := by
  have ⟨h0, h1, h2, h3, h4, h5, h6, h7⟩ := idx t
  blk_ext [iblk, V, h1]

theorem V2 (n : Fin 3) (d : Fin 2688) : V m c main_v1 (ix2 ⟨n.val, by omega⟩ d) = m ((c : Thread nD τ).loc main_arg2) (ix2 n d) := by
  unfold V
  after_reads_at

theorem blk2 (t : Fin cfg0.N) (n : Fin 3) (d : Fin 2688) : iblk m c 2 t (ix2 ⟨n.val, by omega⟩ d) = m ((c : Thread nD τ).loc main_arg2) (ix2 n d) := by
  have ⟨h0, h1, h2, h3, h4, h5, h6, h7⟩ := idx t
  refine Eq.trans ?_ (V2 m c n d)
  blk_ext [iblk, h2]

theorem V3 (d : Fin 2688) : V m c main_v2 (ix2 0 d) = m ((c : Thread nD τ).loc main_arg3) (ix1 d) := by
  unfold V
  after_reads_at

theorem blk3 (t : Fin cfg0.N) (d : Fin 2688) : iblk m c 3 t (ix2 0 d) = m ((c : Thread nD τ).loc main_arg3) (ix1 d) := by
  have ⟨h0, h1, h2, h3, h4, h5, h6, h7⟩ := idx t
  refine Eq.trans ?_ (V3 m c d)
  blk_ext [iblk, h3]

theorem blk4 (t : Fin cfg0.N) (q : Fin 2688) (d : Fin 1024) : iblk m c 4 t (ix2 q d) = m ((c : Thread nD τ).loc main_arg4) (ix2 q d) := by
  have ⟨h0, h1, h2, h3, h4, h5, h6, h7⟩ := idx t
  blk_ext [iblk, V, h4]

theorem V5 (d : Fin 1024) : V m c main_v4 (ix2 0 d) = m ((c : Thread nD τ).loc main_arg5) (ix1 d) := by
  unfold V
  after_reads_at

theorem blk5 (t : Fin cfg0.N) (d : Fin 1024) : iblk m c 5 t (ix2 0 d) = m ((c : Thread nD τ).loc main_arg5) (ix1 d) := by
  have ⟨h0, h1, h2, h3, h4, h5, h6, h7⟩ := idx t
  refine Eq.trans ?_ (V5 m c d)
  blk_ext [iblk, h5]

theorem V6 (d : Fin 1024) : V m c main_v5 (ix2 0 d) = m ((c : Thread nD τ).loc main_arg6) (ix1 d) := by
  unfold V
  after_reads_at

theorem blk6 (t : Fin cfg0.N) (d : Fin 1024) : iblk m c 6 t (ix2 0 d) = m ((c : Thread nD τ).loc main_arg6) (ix1 d) := by
  have ⟨h0, h1, h2, h3, h4, h5, h6, h7⟩ := idx t
  refine Eq.trans ?_ (V6 m c d)
  blk_ext [iblk, h6]

theorem V7 (b n : Fin 8) (d : Fin 2688) : V m c main_v6 (ix3 b n d) = (0 : EReal) := by
  unfold V
  after_reads_at

theorem blk7 (t : Fin cfg0.N) (n : Fin 8) (d : Fin 2688) : iblk m c 7 t (ix3 0 n d) = (0 : EReal) := by
  have ⟨h0, h1, h2, h3, h4, h5, h6, h7⟩ := idx t
  refine Eq.trans ?_ (V7 m c ⟨t.val / 8, by have := t.isLt.trans_eq N_0; omega⟩ n d)
  blk_ext [iblk, h7]

/-! ## The points -/

/-- The arguments, by name. -/
abbrev aX : S8x2048x1024.Idx → EReal := m ((c : Thread nD τ).loc main_arg0)
@[inherit_doc aX]
abbrev aWu : S1024x5376.Idx → EReal := m ((c : Thread nD τ).loc main_arg1)
@[inherit_doc aX]
abbrev aWc : S3x2688.Idx → EReal := m ((c : Thread nD τ).loc main_arg2)
@[inherit_doc aX]
abbrev aBc : S2688.Idx → EReal := m ((c : Thread nD τ).loc main_arg3)
@[inherit_doc aX]
abbrev aWd : S2688x1024.Idx → EReal := m ((c : Thread nD τ).loc main_arg4)
@[inherit_doc aX]
abbrev aG : S1024.Idx → EReal := m ((c : Thread nD τ).loc main_arg5)
@[inherit_doc aX]
abbrev aB : S1024.Idx → EReal := m ((c : Thread nD τ).loc main_arg6)

/-- The blocks a point reads, by window. -/
abbrev b0 (t : Fin cfg0.N) : Vec Ideal S1x256x1024 .f32 := iblk m c 0 t
@[inherit_doc b0]
abbrev b1 (t : Fin cfg0.N) : Vec Ideal S1024x5376 .bf16 := iblk m c 1 t
@[inherit_doc b0]
abbrev b2 (t : Fin cfg0.N) : Vec Ideal S8x2688 .f32 := iblk m c 2 t
@[inherit_doc b0]
abbrev b3 (t : Fin cfg0.N) : Vec Ideal S1x2688 .f32 := iblk m c 3 t
@[inherit_doc b0]
abbrev b4 (t : Fin cfg0.N) : Vec Ideal S2688x1024 .bf16 := iblk m c 4 t
@[inherit_doc b0]
abbrev b5 (t : Fin cfg0.N) : Vec Ideal S1x1024 .f32 := iblk m c 5 t
@[inherit_doc b0]
abbrev b6 (t : Fin cfg0.N) : Vec Ideal S1x1024 .f32 := iblk m c 6 t
@[inherit_doc b0]
abbrev b7 (t : Fin cfg0.N) : Vec Ideal S1x8x2688 .f32 := iblk m c 7 t

/-- The rows carried into a point: zeros at a sequence's first tile, else what the point before left. -/
def carryIn (t : Fin cfg0.N) : Vec Ideal S1x8x2688 .f32 :=
  if t.val % 8 = 0 then b7 m c t else carried (outsAt0 m c (t.val - 1) (Nat.lt_of_le_of_lt (Nat.sub_le _ _) t.isLt)).2.2

/-- The rows the convolution sees at a point. -/
abbrev seen (t : Fin cfg0.N) : Vec Ideal S1x264x2688 .f32 := ext (b0 m c t) (b1 m c t) (carryIn m c t)

theorem outs_eq (t : Fin cfg0.N) :
    (outsAt0 m c t.val t.isLt).1 = blockOut (b0 m c t) (b1 m c t) (b2 m c t) (b3 m c t) (b4 m c t) (b5 m c t) (b6 m c t) (seen m c t)
    ∧ (outsAt0 m c t.val t.isLt).2.1 = View.ld (seen m c t) (Rect.unit ![0, 262, 0] ![1, 2, 2688] inb_S1x264x2688_S1x2x2688_0_262_0)
    ∧ carried (outsAt0 m c t.val t.isLt).2.2 = View.ld (seen m c t) (Rect.unit ![0, 256, 0] ![1, 8, 2688] inb_S1x264x2688_S1x8x2688_0_256_0) := by
  unfold seen carryIn
  by_cases h : t.val % 8 = 0
  · rw [outsAt0_A m c t h, if_pos h]
    dsimp only
    refine ⟨outA_8 .., outA_9 .., soutA ..⟩
  · rw [outsAt0_B m c t h, if_neg h]
    dsimp only
    refine ⟨outB_8 .., outB_9 .., soutB ..⟩

theorem ext_ge (x0 : Vec Ideal S1x256x1024 .f32) (x1 : Vec Ideal S1024x5376 .bf16) (k : Vec Ideal S1x8x2688 .f32) (r : Fin 256) (R : Fin 264)
    (hR : R.val = 8 + r.val) (d : Fin 2688) : ext x0 x1 k (ix3 0 R d) = ∑ q : Fin 1024, x0 (ix3 0 r q) * x1 (ix2 q ⟨d.val, by omega⟩) := by
  rw [ext, dif_neg (by show ¬R.val < 8; omega)]
  refine Finset.sum_congr rfl fun q _ => congrArg₂ (· * ·) (congrArg x0 (congrArg (fun r => ix3 0 r q) (Fin.ext ?_))) rfl
  show R.val - 8 = r.val
  omega

/-- The sequence of a point. -/
abbrev bOf (t : Fin cfg0.N) : Fin 8 := ⟨t.val / 8, by have := t.isLt.trans_eq N_0; omega⟩

theorem gate_eq (t : Fin cfg0.N) (r : Fin 256) (n : Fin 5376) :
    (∑ q : Fin 1024, (b0 m c t (ix3 0 r q) : EReal) * b1 m c t (ix2 q n)) = up (aX m c) (aWu m c) (bOf t) ⟨256 * (t.val % 8) + r.val, by omega⟩ n :=
  Finset.sum_congr rfl fun q _ => congrArg₂ (· * ·) (blk0 m c t r q) (blk1 m c t q n)

/-- The last two carried rows are the two gates before the tile. -/
theorem carryIn_eq (t : Fin cfg0.N) (R : Fin 8) (hR : 6 ≤ R.val) (d : Fin 2688) :
    carryIn m c t (ix3 0 R d) = past (aX m c) (aWu m c) (bOf t) ⟨256 * (t.val % 8) + R.val - 6, by omega⟩ d := by
  have hN := t.isLt.trans_eq N_0
  unfold carryIn past
  by_cases h : t.val % 8 = 0
  · rw [if_pos h, dif_pos (by show 256 * (t.val % 8) + R.val - 6 < 2; omega)]
    exact blk7 m c t R d
  · rw [if_neg h, dif_neg (by show ¬256 * (t.val % 8) + R.val - 6 < 2; omega)]
    have e := (outs_eq m c ⟨t.val - 1, by omega⟩).2.2
    refine (congrFun e _).trans ?_
    refine (ext_ge _ _ _ ⟨248 + R.val, by omega⟩ ⟨256 + R.val, by omega⟩ (by show 256 + R.val = 8 + (248 + R.val); omega) d |> Eq.trans (congrArg _ ?_)).trans ?_
    · exact funext fun a => by
        match a with
        | ⟨0, _⟩ => rfl
        | ⟨1, _⟩ => exact Fin.ext (by show 256 + 1 * R.val = 256 + R.val; omega)
        | ⟨2, _⟩ => exact Fin.ext (by show 0 + 1 * d.val = d.val; omega)
    · rw [gate_eq]
      have h1 : (t.val - 1) / 8 = t.val / 8 := by omega
      have h2 : (t.val - 1) % 8 = t.val % 8 - 1 := by omega
      refine congrArg₂ (fun b s => up (aX m c) (aWu m c) b s _) (Fin.ext h1) (Fin.ext ?_)
      show 256 * ((t.val - 1) % 8) + (248 + R.val) = 256 * (t.val % 8) + R.val - 6 - 2
      omega

/-- The rows the convolution sees are the sequence's. -/
theorem seen_eq (t : Fin cfg0.N) (R : Fin 264) (hR : 6 ≤ R.val) (d : Fin 2688) :
    seen m c t (ix3 0 R d) = past (aX m c) (aWu m c) (bOf t) ⟨256 * (t.val % 8) + R.val - 6, by omega⟩ d := by
  by_cases h : R.val < 8
  · refine Eq.trans ?_ (carryIn_eq m c t ⟨R.val, h⟩ hR d)
    exact dif_pos h
  · rw [seen, ext_ge _ _ _ ⟨R.val - 8, by omega⟩ R (by show R.val = 8 + (R.val - 8); omega) d, gate_eq, past, dif_neg (by show ¬256 * (t.val % 8) + R.val - 6 < 2; omega)]
    refine congrArg (fun s => up (aX m c) (aWu m c) _ s _) (Fin.ext ?_)
    show 256 * (t.val % 8) + (R.val - 8) = 256 * (t.val % 8) + R.val - 6 - 2
    omega

theorem conv_eq (t : Fin cfg0.N) (r : Fin 256) (d : Fin 2688) :
    conv (b0 m c t) (b1 m c t) (b2 m c t) (b3 m c t) (seen m c t) r d
      = taps (aX m c) (aWu m c) (aWc m c) (aBc m c) (bOf t) ⟨256 * (t.val % 8) + r.val, by omega⟩ d := by
  unfold conv taps
  rw [seen_eq m c t _ (by show 6 ≤ 6 + r.val; omega), seen_eq m c t _ (by show 6 ≤ 7 + r.val; omega), gate_eq]
  refine congrArg₂ (· + ·) (congrArg₂ (· + ·) (congrArg₂ (· + ·) (congrArg₂ (· * ·) ?_ (blk2 m c t 0 d)) (congrArg₂ (· * ·) ?_ (blk2 m c t 1 d)))
    (congrArg₂ (· * ·) ?_ (blk2 m c t 2 d))) (blk3 m c t d)
  · refine congrArg (fun s => past (aX m c) (aWu m c) _ s d) (Fin.ext ?_)
    show 256 * (t.val % 8) + (6 + r.val) - 6 = 256 * (t.val % 8) + r.val
    omega
  · refine congrArg (fun s => past (aX m c) (aWu m c) _ s d) (Fin.ext ?_)
    show 256 * (t.val % 8) + (7 + r.val) - 6 = 256 * (t.val % 8) + r.val + 1
    omega
  · rw [past, dif_neg (by show ¬256 * (t.val % 8) + r.val + 2 < 2; omega)]
    rfl

theorem resid_eq (t : Fin cfg0.N) (r : Fin 256) (d : Fin 1024) :
    resid (b0 m c t) (b1 m c t) (b2 m c t) (b3 m c t) (b4 m c t) (seen m c t) r d
      = sumOf (aX m c) (aWu m c) (aWc m c) (aBc m c) (aWd m c) (bOf t) ⟨256 * (t.val % 8) + r.val, by omega⟩ d := by
  unfold resid sumOf
  refine congrArg₂ (· + ·) (congrArg₂ (· * ·) rfl (blk0 m c t r d)) (Finset.sum_congr rfl fun k _ => congrArg₂ (· * ·) ?_ (blk4 m c t k d))
  rw [conv_eq, gate_eq]

/-- The result's block at a point. -/
theorem out_eq (t : Fin cfg0.N) (r : Fin 256) (d : Fin 1024) :
    (outsAt0 m c t.val t.isLt).1 (ix3 0 r d)
      = ffn (aX m c) (aWu m c) (aWc m c) (aBc m c) (aWd m c) (aG m c) (aB m c) (bOf t) ⟨256 * (t.val % 8) + r.val, by omega⟩ d := by
  rw [(outs_eq m c t).1, blockOut_apply]
  unfold ffn
  rw [show resid (b0 m c t) (b1 m c t) (b2 m c t) (b3 m c t) (b4 m c t) (seen m c t) r = _ from funext (resid_eq m c t r),
    show (fun d => (b5 m c t (ix2 0 d) : EReal)) = _ from funext (blk5 m c t), show (fun d => (b6 m c t (ix2 0 d) : EReal)) = _ from funext (blk6 m c t)]

/-- The state's block at a sequence's last point: its last two gates. -/
theorem state_eq (t : Fin cfg0.N) (h : t.val % 8 = 7) (n : Fin 2) (d : Fin 2688) :
    (outsAt0 m c t.val t.isLt).2.1 (ix3 0 n d) = past (aX m c) (aWu m c) (bOf t) ⟨2048 + n.val, by omega⟩ d := by
  rw [(outs_eq m c t).2.1]
  refine Eq.trans (congrArg (seen m c t) ?_) ((seen_eq m c t ⟨262 + n.val, by omega⟩ (by show 6 ≤ 262 + n.val; omega) d).trans ?_)
  · exact funext fun a => by
      match a with
      | ⟨0, _⟩ => rfl
      | ⟨1, _⟩ => exact Fin.ext (by show 262 + 1 * n.val = 262 + n.val; omega)
      | ⟨2, _⟩ => exact Fin.ext (by show 0 + 1 * d.val = d.val; omega)
  · refine congrArg (fun s => past (aX m c) (aWu m c) _ s d) (Fin.ext ?_)
    show 256 * (t.val % 8) + (262 + n.val) - 6 = 2048 + n.val
    omega

/-! ## The arrays -/

theorem G8_eq (b : Fin 8) (s : Fin 2048) (d : Fin 1024) :
    Value.G8 m c (ix3 b s d) = ffn (aX m c) (aWu m c) (aWc m c) (aBc m c) (aWd m c) (aG m c) (aB m c) b s d := by
  have hp : Value.pt8Of (ix3 b s d) = 8 * b.val + s.val / 256 := by
    show 8 * (b.val / 1 - 0) + 1 * (s.val / 256 - 0) + 1 * (d.val / 1024 - 0) = _
    omega
  have ht : 8 * b.val + s.val / 256 < cfg0.N := by rw [show cfg0.N = 64 from N_0]; omega
  unfold Value.G8
  rw [dif_pos (by rw [hp]; exact ht), ← Value.outsAt0_sweep m c _ (by rw [hp]; exact ht)]
  have e := out_eq m c ⟨8 * b.val + s.val / 256, ht⟩ ⟨s.val % 256, by omega⟩ d
  refine Eq.trans ?_ (e.trans ?_)
  · have : ∀ (n n' : ℕ) (h : n < cfg0.N) (h' : n' < cfg0.N), n = n' → outsAt0 m c n h = outsAt0 m c n' h' := by
      rintro n _ h h' rfl
      rfl
    rw [this _ _ _ ht hp]
    refine congrArg _ (funext fun a => ?_)
    match a with
    | ⟨0, _⟩ => exact Fin.ext (by show b.val % 1 = 0; omega)
    | ⟨1, _⟩ => rfl
    | ⟨2, _⟩ => exact Fin.ext (by show d.val % 1024 = d.val; omega)
  · refine congrArg₂ (fun b s => ffn (aX m c) (aWu m c) (aWc m c) (aBc m c) (aWd m c) (aG m c) (aB m c) b s d) (Fin.ext ?_) (Fin.ext ?_)
    · show (8 * b.val + s.val / 256) / 8 = b.val
      omega
    · show 256 * ((8 * b.val + s.val / 256) % 8) + s.val % 256 = s.val
      omega

theorem G9_eq (b : Fin 8) (n : Fin 2) (d : Fin 2688) : Value.G9 m c (ix3 b n d) = past (aX m c) (aWu m c) b ⟨2048 + n.val, by omega⟩ d := by
  have hp : Value.pt9Of (ix3 b n d) = 8 * b.val + 7 := by
    unfold Value.pt9Of Value.run9Of
    have := b.isLt; have := n.isLt; have := d.isLt
    simp
    omega
  have ht : 8 * b.val + 7 < cfg0.N := by rw [show cfg0.N = 64 from N_0]; omega
  unfold Value.G9
  rw [dif_pos (by rw [hp]; exact ht), ← Value.outsAt0_sweep m c _ (by rw [hp]; exact ht)]
  have e := state_eq m c ⟨8 * b.val + 7, ht⟩ (by show (8 * b.val + 7) % 8 = 7; omega) n d
  refine Eq.trans ?_ (e.trans ?_)
  · have : ∀ (n n' : ℕ) (h : n < cfg0.N) (h' : n' < cfg0.N), n = n' → outsAt0 m c n h = outsAt0 m c n' h' := by
      rintro n _ h h' rfl
      rfl
    rw [this _ _ _ ht hp]
    refine congrArg _ (funext fun a => ?_)
    match a with
    | ⟨0, _⟩ => exact Fin.ext (by show b.val % 1 = 0; omega)
    | ⟨1, _⟩ => exact Fin.ext (by show n.val % 2 = n.val; omega)
    | ⟨2, _⟩ => exact Fin.ext (by show d.val % 2688 = d.val; omega)
  · refine congrArg (fun b => past (aX m c) (aWu m c) b _ d) (Fin.ext ?_)
    show (8 * b.val + 7) / 8 = b.val
    omega

end Points

end Cert.FfnIdeal.Flow

end
-- ==== Proof.FfnReference.lean ====
/- The plain FFN reference read index by index: its two results are the spec of the kernel's value module, and so the two programs agree. -/
module

public import proofs.«01_k».proof.Proof.FfnValue
public import proofs.«01_k».proof.Proof.Gen.FfnReferenceIdeal.Run
public import proofs.«01_k».proof.Defs
public import proofs.«01_k».proof.Proof.Gen.FfnReferenceIdeal.Read

@[expose] public section

set_option maxRecDepth 65536

noncomputable section

namespace Cert.FfnReferenceIdeal.Flow

open Cert.FfnReferenceIdeal Cert.FfnReferenceIdeal.Gen Cert.FfnReferenceIdeal.Read
open Cert.FfnIdeal.Flow (up past taps sumOf ffn)
open Idealize.SL.Sem
open Idealize.ShloMosaic Idealize.ShloMosaic.TcCoe Idealize.ShloMosaic.Tactic

variable (x0 : S8x2048x1024.Idx → EReal) (x1 : S1024x5376.Idx → EReal) (x2 : S3x2688.Idx → EReal) (x3 : S2688.Idx → EReal) (x4 : S2688x1024.Idx → EReal)
  (x5 x6 : S1024.Idx → EReal)

theorem v0_eq (b : Fin 8) (s : Fin 2048) (n : Fin 5376) : val_main_v0 (F := Ideal) x0 x1 (ix3 b s n) = up x0 x1 b s n := by
  unfold up
  pointwise [val_main_v0]

theorem v4_eq (b : Fin 8) (s : Fin 2050) (n : Fin 2688) : val_main_v4 (F := Ideal) x0 x1 (ix3 b s n) = past x0 x1 b s n := by
  unfold past
  simp only [← v0_eq]
  pointwise [val_main_v4, val_main_v1, val_main_v3, val_main_cst]

theorem v27_eq (b : Fin 8) (s : Fin 2048) (n : Fin 2688) : val_main_v27 (F := Ideal) x0 x1 x2 x3 (ix3 b s n) = taps x0 x1 x2 x3 b s n := by
  unfold taps
  simp only [← v4_eq]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5]
  simp only [Nat.add_comm 1 s.val, Nat.add_comm 2 s.val]
  rw [add_comm _ (x3 (ix1 n)), ← add_assoc, ← add_assoc]

theorem v29_eq (b : Fin 8) (s : Fin 2048) (n : Fin 2688) : val_main_v29 (F := Ideal) x0 x1 x2 x3 (ix3 b s n)
    = Cert.FfnIdeal.Flow.hidden (taps x0 x1 x2 x3 b s n) (up x0 x1 b s ⟨2688 + n.val, by omega⟩) := by
  unfold Cert.FfnIdeal.Flow.hidden
  rw [← v27_eq, ← v0_eq]
  pointwise [val_main_v29, val_main_v28, val_main_v2, val_main_call0_v5, val_main_call0_v4, val_main_call0_v3, val_main_call0_v2, val_main_call0_v1, val_main_call0_v0, val_main_call0_cst, val_main_call0_cst_0]
  rw [zero_sub]

theorem v33_eq (b : Fin 8) (s : Fin 2048) (d : Fin 1024) : val_main_v33 (F := Ideal) x0 x1 x2 x3 x4 (ix3 b s d) = sumOf x0 x1 x2 x3 x4 b s d := by
  unfold sumOf
  simp only [← v29_eq]
  pointwise [val_main_v33, val_main_v32, val_main_v31, val_main_v30, val_main_cst_0]

theorem v57_eq (b : Fin 8) (s : Fin 2048) (d : Fin 1024) : val_main_v57 (F := Ideal) x0 x1 x2 x3 x4 x5 x6 (ix3 b s d) = ffn x0 x1 x2 x3 x4 x5 x6 b s d := by
  unfold ffn Cert.FfnIdeal.Flow.norm
  simp only [← v33_eq]
  pointwise [val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_cst_1, val_main_cst_2, val_main_cst_3, val_main_cst_4, val_main_cst_5]

theorem v58_eq (b : Fin 8) (n : Fin 2) (d : Fin 2688) : val_main_v58 (F := Ideal) x0 x1 (ix3 b n d) = past x0 x1 b ⟨2048 + n.val, by omega⟩ d := by
  rw [← v4_eq]
  pointwise [val_main_v58]

/-- The first result as a whole array. -/
theorem v57_all : val_main_v57 (F := Ideal) x0 x1 x2 x3 x4 x5 x6 = fun j => ffn x0 x1 x2 x3 x4 x5 x6 (j 0) (j 1) (j 2) := by
  funext j
  have h := v57_eq x0 x1 x2 x3 x4 x5 x6 (j 0) (j 1) (j 2)
  rwa [← eq_ix3 j] at h

/-- The second result as a whole array. -/
theorem v58_all : val_main_v58 (F := Ideal) x0 x1 = fun j => past x0 x1 (j 0) ⟨2048 + (j 1).val, by have := (j 1).isLt; change _ < 2 at this; omega⟩ (j 2) := by
  funext j
  have h := v58_eq x0 x1 (j 0) (j 1) (j 2)
  rwa [← eq_ix3 j] at h

theorem G8_all (m : (ℓ : Loc Cert.FfnIdeal.nD Cert.FfnIdeal.τ Cert.FfnIdeal.sig) → Buf (Elt Ideal) ℓ) (c : Dev Cert.FfnIdeal.nD) :
    Cert.FfnIdeal.Value.G8 m c = fun j => ffn (Cert.FfnIdeal.Flow.aX m c) (Cert.FfnIdeal.Flow.aWu m c) (Cert.FfnIdeal.Flow.aWc m c) (Cert.FfnIdeal.Flow.aBc m c)
      (Cert.FfnIdeal.Flow.aWd m c) (Cert.FfnIdeal.Flow.aG m c) (Cert.FfnIdeal.Flow.aB m c) (j 0) (j 1) (j 2) := by
  funext j
  have h := Cert.FfnIdeal.Flow.G8_eq m c (j 0) (j 1) (j 2)
  rwa [← eq_ix3 j] at h

theorem G9_all (m : (ℓ : Loc Cert.FfnIdeal.nD Cert.FfnIdeal.τ Cert.FfnIdeal.sig) → Buf (Elt Ideal) ℓ) (c : Dev Cert.FfnIdeal.nD) :
    Cert.FfnIdeal.Value.G9 m c = fun j => past (Cert.FfnIdeal.Flow.aX m c) (Cert.FfnIdeal.Flow.aWu m c) (j 0)
      ⟨2048 + (j 1).val, by have := (j 1).isLt; change _ < 2 at this; omega⟩ (j 2) := by
  funext j
  have h := Cert.FfnIdeal.Flow.G9_eq m c (j 0) (j 1) (j 2)
  rwa [← eq_ix3 j] at h

/-- The FFN kernel and the reference end with equal results, whatever the arguments. -/
theorem algebraic : Cert.algebraic_FfnIdeal_FfnReferenceIdeal := by
  intro m g m' g' _ hargs
  refine ⟨fun c => Cert.FfnIdeal.Value.G8 m c, fun c => Cert.FfnIdeal.Value.G9 m c, Cert.FfnIdeal.Value.run m g,
    (θ_run _ _ _).mono (fun r h c => ?_) (Cert.FfnReferenceIdeal.Value.run m' g')⟩
  obtain ⟨h0, h1, hk⟩ := h c
  obtain ⟨e0, e1, e2, e3, e4, e5, e6⟩ := hargs c
  refine ⟨h0.trans ?_, h1.trans ?_, hk⟩
  · rw [val_main_v57_eq, v57_all]
    refine Eq.trans ?_ (G8_all m c).symm
    rw [e0, e1, e2, e3, e4, e5, e6]
    rfl
  · rw [val_main_v58_eq, v58_all]
    refine Eq.trans ?_ (G9_all m c).symm
    rw [e0, e1]
    rfl

end Cert.FfnReferenceIdeal.Flow

end
-- ==== Proof.FlashEntry.lean ====
/- One step of the attention's kernel over the extended reals, entry by entry: the scores, the running maxima, the
   weights, the running sums, the accumulator and the block that is left. -/
module

public import proofs.«01_k».proof.Proof.FlashModel
public import Idealize.ShloMosaic.Lib.Pointwise
public import Idealize.ShloMosaic.Lib.WordCmp
public import Idealize.ShloMosaic.PureOps.Ideal

@[expose] public section

set_option maxRecDepth 65536

noncomputable section

namespace Cert.KernelIdeal.Flash

open Cert.KernelIdeal Cert.KernelIdeal.Gen
open Idealize.ShloMosaic Idealize.ShloMosaic.WordCmp Idealize.ShloMosaic.TcCoe Idealize.ShloMosaic.Tactic

theorem negInf : Ideal.ofBits FTy.f32 4286578688#32 = (⊥ : EReal) := by
  show Ideal.ieee 8 23 4286578688#32 = ⊥
  unfold Ideal.ieee
  rw [if_pos (by decide), if_pos (by decide), if_pos (by decide)]

theorem select_eq {α : Type} (a b : Nat) (ha : a < 2 ^ 32) (hb : b < 2 ^ 32) (x y : α) :
    Scalar.select (IntOp.cmpi .eq (BitVec.ofNat 32 a) (BitVec.ofNat 32 b)) x y = if a = b then x else y := by
  unfold Scalar.select
  rw [cmpi_eq_ofNat ha hb]
  by_cases h : a = b <;> simp [h]

theorem select_le {α : Type} (a b : Nat) (ha : a < 2 ^ 31) (hb : b < 2 ^ 31) (x y : α) :
    Scalar.select (IntOp.cmpi .sle (BitVec.ofNat 32 a) (BitVec.ofNat 32 b)) x y = if a ≤ b then x else y := by
  unfold Scalar.select
  rw [cmpi_sle_ofNat ha hb]
  by_cases h : a ≤ b <;> simp [h]

/-- The lanes' heads. -/
theorem lanes (x : Fin 256) : k0_pay321 (ix2 (0 : Fin 1) x) = BitVec.ofNat 32 (x.val / 64) := by
  revert x
  decide +kernel

theorem qHead_apply (h : Nat) (hh : h < 4) (v0 : Vec Ideal S1x256x256 .bf16) (r x : Fin 256) :
    qHead v0 h (ix2 r x) = if x.val / 64 = h then v0 (ix3 0 r x) else (0 : EReal) := by
  rw [← select_eq (x.val / 64) h (by have := x.isLt; omega) (by omega)]
  match h, hh with
  | 0, _ => unfold qHead; pointwise [k0_pay323, k0_pay320, k0_pay322]; rw [lanes]
  | 1, _ => unfold qHead; pointwise [k0_pay326, k0_pay320, lanes]
  | 2, _ => unfold qHead; pointwise [k0_pay328, k0_pay320, lanes]
  | 3, _ => unfold qHead; pointwise [k0_pay332, k0_pay331, k0_pay330, k0_pay320, lanes]

theorem dqHead_apply (h : Nat) (hh : h < 4) (v0 : Vec Ideal S1x256x128 .f32) (r : Fin 256) (x : Fin 128) :
    dqHead v0 h (ix2 r x) = (v0 (ix3 0 r ⟨h, by omega⟩) : EReal) := by
  match h, hh with
  | 0, _ => unfold dqHead; pointwise [k0_pay325, k0_pay324, k0_pay322]
  | 1, _ => unfold dqHead; pointwise [k0_pay327, k0_pay322]
  | 2, _ => unfold dqHead; pointwise [k0_pay329, k0_pay322]
  | 3, _ => unfold dqHead; pointwise [k0_pay333, k0_pay322]

theorem dkRow_apply (h : Nat) (hh : h < 4) (dk : Vec Ideal S1x1x8x256 .f32) (x : Fin 256) :
    dkRow dk h (ix2 0 x) = (dk (ix4 0 0 ⟨h, by omega⟩ x) : EReal) := by
  match h, hh with
  | 0, _ => unfold dkRow; pointwise [k0_pay3]
  | 1, _ => unfold dkRow; pointwise [k0_pay3]
  | 2, _ => unfold dkRow; pointwise [k0_pay3]
  | 3, _ => unfold dkRow; pointwise [k0_pay3]

theorem maskRow_apply (o : Nat) (ho : o < 256) (s : FVec Ideal S64x256 .f32) (r : Fin 64) (c : Fin 256) :
    maskRow (BitVec.ofNat 32 o) s (ix2 r c) = if c.val ≤ o + r.val then s (ix2 r c) else (⊥ : EReal) := by
  have e : IntOp.addi (BitVec.ofNat 32 o) (BitVec.ofNat 32 r.val) = BitVec.ofNat 32 (o + r.val) := by
    rw [BitVec.ofNat_add]; rfl
  unfold maskRow
  pointwise []
  rw [e, negInf, select_le _ _ (by have := c.isLt; omega) (by have := r.isLt; omega)]

/-- A head's row of queries against a row of keys. -/
theorem raw_apply (k : Vec Ideal S1x256x256 .bf16) (q : FVec Ideal S1024x256 .bf16) (R : Fin 1024) (c : Fin 256) :
    k0_pay4 k q (ix2 R c) = ∑ x : Fin 256, (q (ix2 R x) : EReal) * k (ix3 0 c x) := by
  pointwise [k0_pay4]

/-- The score of row `R` and key `c` of a tile. -/
def sc (msk : Bool) (t : Tile Ideal) (R : Fin 1024) (c : Fin 256) : EReal :=
  if msk = true → c.val ≤ R.val % 256 then (∑ x : Fin 256, (t.q (ix2 R x) : EReal) * t.k (ix3 0 c x)) - (t.dk (ix4 0 0 ⟨R.val / 256, by omega⟩ c) : EReal) else ⊥

theorem rows_at {e : EltTy} {w : Nat} (X : Vec Ideal ⟨2, ![1024, w]⟩ e) (R : Fin 1024) (c : Fin w) :
    rows (e := e) (w := w) X (64 * (R.val / 64)) (ix2 ⟨R.val % 64, Nat.mod_lt _ (by decide)⟩ c) = X (ix2 R c) := by
  unfold rows
  refine congrArg X (congrArg (fun a => ix2 a c) (Fin.ext ?_))
  show (64 * (R.val / 64) + R.val % 64) % 1024 = R.val
  omega

theorem scores_at (msk : Bool) (t : Tile Ideal) (R : Fin 1024) (c : Fin 256) :
    scores msk t.dk (k0_pay4 t.k t.q) (R.val / 64) (ix2 ⟨R.val % 64, Nat.mod_lt _ (by decide)⟩ c) = sc msk t R c := by
  have hR := R.isLt
  have e : ∀ s : FVec Ideal S1x256 .f32, k0_pay135 s (rows (e := .f32) (w := 256) (k0_pay4 t.k t.q) (64 * (R.val / 64))) (ix2 ⟨R.val % 64, Nat.mod_lt _ (by decide)⟩ c)
      = (∑ x : Fin 256, (t.q (ix2 R x) : EReal) * t.k (ix3 0 c x)) - (s (ix2 0 c) : EReal) := by
    intro s
    rw [← raw_apply, ← rows_at (e := .f32) (w := 256) (k0_pay4 t.k t.q) R c]
    pointwise [k0_pay135]
  have e4 : R.val / 64 / 4 = R.val / 256 := by omega
  unfold scores sc
  match msk with
  | false =>
    refine (e _).trans ?_
    rw [dkRow_apply _ (by omega)]
    simp [e4]
  | true =>
    refine (maskRow_apply _ (by omega) _ _ _).trans ?_
    rw [e, dkRow_apply _ (by omega)]
    have e5 : 64 * (R.val / 64 % 4) + R.val % 64 = R.val % 256 := by omega
    simp [e4, e5]

theorem stepM_at (msk : Bool) (t : Tile Ideal) (M : FVec Ideal S1024x128 .f32) (R : Fin 1024) (c : Fin 128) :
    stepM msk t M (ix2 R c) = max (M (ix2 R c) : EReal) (t.dq (ix2 R c) + Finset.univ.sup fun x : Fin 256 => sc msk t R x) := by
  rw [← rows_at (e := .f32) (w := 128) M, ← rows_at (e := .f32) (w := 128) t.dq]
  simp only [← scores_at]
  unfold stepM strips
  pointwise [k0_pay140, k0_pay136]
  rw [negInf]
  rfl

theorem stepAlpha_at (msk : Bool) (t : Tile Ideal) (M : FVec Ideal S1024x128 .f32) (R : Fin 1024) (c : Fin 128) :
    stepAlpha msk t M (ix2 R c) = Ideal.exp ((M (ix2 R c) : EReal) - stepM msk t M (ix2 R c)) := by
  rw [← rows_at (e := .f32) (w := 128) M]
  unfold stepAlpha stepM strips
  pointwise [k0_pay140, k0_pay141, k0_pay138]

theorem stepP_at (msk : Bool) (t : Tile Ideal) (M : FVec Ideal S1024x128 .f32) (R : Fin 1024) (x : Fin 256) :
    stepP msk t M (ix2 R x) = Ideal.exp (sc msk t R x + ((t.dq (ix2 R ⟨x.val % 128, by omega⟩) : EReal) - stepM msk t M (ix2 R ⟨x.val % 128, by omega⟩))) := by
  rw [← rows_at (e := .f32) (w := 128) t.dq, ← scores_at]
  unfold stepP stepM strips
  have h256 := x.isLt
  pointwise [k0_pay140, k0_pay142, k0_pay137]
  split
  · rename_i h
    have e : (⟨x.val % 128, Nat.mod_lt _ (by decide)⟩ : Fin 128) = ⟨x.val, h⟩ := Fin.ext (by show x.val % 128 = x.val; omega)
    rw [e]
  · rename_i h
    have e : (⟨x.val % 128, Nat.mod_lt _ (by decide)⟩ : Fin 128) = ⟨x.val - 128, by omega⟩ := Fin.ext (by show x.val % 128 = x.val - 128; omega)
    rw [e]

theorem stepL_at (msk : Bool) (t : Tile Ideal) (M L : FVec Ideal S1024x128 .f32) (R : Fin 1024) (c : Fin 128) :
    stepL msk t M L (ix2 R c) = (stepAlpha msk t M (ix2 R c) : EReal) * L (ix2 R c) + ∑ x : Fin 256, (stepP msk t M (ix2 R x) : EReal) := by
  rw [← rows_at (e := .f32) (w := 128) L]
  unfold stepL stepP stepAlpha strips
  pointwise [k0_pay139, k0_pay141, k0_pay142]

theorem stepPV_at (msk : Bool) (t : Tile Ideal) (M : FVec Ideal S1024x128 .f32) (R : Fin 1024) (x : Fin 256) :
    stepPV msk t M (ix2 R x) = ∑ y : Fin 256, (stepP msk t M (ix2 R y) : EReal) * t.v (ix3 0 y x) := by
  unfold stepPV
  pointwise [k0_pay143, k0_pay2]

/-- Row `r` of head `x / 64`. -/
def hrow (r x : Fin 256) : Fin 1024 := ⟨256 * (x.val / 64) + r.val, by omega⟩

/-- Lane `x` of 128. -/
def lane (x : Fin 256) : Fin 128 := ⟨x.val % 128, Nat.mod_lt _ (by decide)⟩

theorem rows_head {e : EltTy} {w : Nat} (X : Vec Ideal ⟨2, ![1024, w]⟩ e) (r x : Fin 256) (o : Nat) (ho : o = 256 * (x.val / 64) + 64 * (r.val / 64)) (c : Fin w) :
    rows (e := e) (w := w) X o (ix2 ⟨r.val % 64, Nat.mod_lt _ (by decide)⟩ c) = X (ix2 (hrow r x) c) := by
  unfold rows hrow
  refine congrArg X (congrArg (fun a => ix2 a c) (Fin.ext ?_))
  show (o + r.val % 64) % 1024 = 256 * (x.val / 64) + r.val
  omega

theorem rowsA_at (X : FVec Ideal S256x256 .f32) (r x : Fin 256) :
    rowsA (F := Ideal) X (64 * (r.val / 64)) (ix2 ⟨r.val % 64, Nat.mod_lt _ (by decide)⟩ x) = X (ix2 r x) := by
  unfold rowsA
  refine congrArg X (congrArg (fun a => ix2 a x) (Fin.ext ?_))
  show (64 * (r.val / 64) + r.val % 64) % 256 = r.val
  omega

theorem twice {α : Type} (x : Fin 256) (f : Fin 128 → α) (h' : ¬ x.val < 128 → x.val - 128 < 128) :
    (if h : x.val < 128 then f ⟨x.val, h⟩ else f ⟨x.val - 128, h' h⟩) = f (lane x) := by
  have h256 := x.isLt
  unfold lane
  split
  · rename_i h
    exact congrArg f (Fin.ext (by show x.val = x.val % 128; omega))
  · rename_i h
    exact congrArg f (Fin.ext (by show x.val - 128 = x.val % 128; omega))

theorem rows_twice (X : FVec Ideal S1024x128 .f32) (r x : Fin 256) (o : Nat) (ho : o = 256 * (x.val / 64) + 64 * (r.val / 64))
    (h' : ¬ x.val < 128 → x.val - 128 < 128) :
    (if h : x.val < 128 then (rows (F := Ideal) (e := .f32) (w := 128) X o (ix2 ⟨r.val % 64, Nat.mod_lt _ (by decide)⟩ ⟨x.val, h⟩) : EReal)
      else rows (F := Ideal) (e := .f32) (w := 128) X o (ix2 ⟨r.val % 64, Nat.mod_lt _ (by decide)⟩ ⟨x.val - 128, h' h⟩)) = X (ix2 (hrow r x) (lane x)) :=
  (twice x (fun c => (rows (F := Ideal) (e := .f32) (w := 128) X o (ix2 ⟨r.val % 64, Nat.mod_lt _ (by decide)⟩ c) : EReal)) h').trans
    (rows_head (e := .f32) (w := 128) X r x o ho (lane x))

theorem pick (n : Nat) (hn : n < 4) {g0 g1 g2 g3 z v : EReal} (h0 : n = 0 → g0 = v) (h1 : n = 1 → g1 = v) (h2 : n = 2 → g2 = v)
    (h3 : n = 3 → g3 = v) :
    Scalar.select (IntOp.cmpi .eq (BitVec.ofNat 32 n) 3#32) g3 (Scalar.select (IntOp.cmpi .eq (BitVec.ofNat 32 n) 2#32) g2
      (Scalar.select (IntOp.cmpi .eq (BitVec.ofNat 32 n) 1#32) g1 (Scalar.select (IntOp.cmpi .eq (BitVec.ofNat 32 n) 0#32) g0 z))) = v := by
  rw [select_eq n 3 (by omega) (by omega), select_eq n 2 (by omega) (by omega), select_eq n 1 (by omega) (by omega),
    select_eq n 0 (by omega) (by omega)]
  match n, hn with
  | 0, _ => simpa using h0 rfl
  | 1, _ => simpa using h1 rfl
  | 2, _ => simpa using h2 rfl
  | 3, _ => simpa using h3 rfl

theorem stepA_at (msk : Bool) (t : Tile Ideal) (M : FVec Ideal S1024x128 .f32) (acc : FVec Ideal S256x256 .f32) (r x : Fin 256) :
    stepA msk k0_pay321 t M acc (ix2 r x)
      = (acc (ix2 r x) : EReal) * stepAlpha msk t M (ix2 (hrow r x) (lane x)) + stepPV msk t M (ix2 (hrow r x) x) := by
  rw [← rowsA_at acc]
  have hx := x.isLt
  unfold stepA stripsA accStrip
  generalize stepAlpha msk t M = A
  generalize stepPV msk t M = P
  pointwise [k0_pay147, k0_pay146, k0_pay145, k0_pay144, lanes]
  refine congrArg₂ (· + ·) (congrArg (_ * ·) (pick _ (by omega) (fun h => ?_) (fun h => ?_) (fun h => ?_) (fun h => ?_)))
    (pick _ (by omega) (fun h => ?_) (fun h => ?_) (fun h => ?_) (fun h => ?_))
  iterate 4 exact rows_twice A r x _ (by omega) _
  iterate 4 exact rows_head (e := .f32) (w := 256) P r x _ (by omega) _

theorem outBlock_at (s : St Ideal) (r x : Fin 256) :
    outBlock k0_pay321 s (ix3 0 r x) = Ideal.div (s.a (ix2 r x)) (s.l (ix2 (hrow r x) (lane x))) := by
  rw [← rowsA_at s.a]
  have hx := x.isLt
  unfold outBlock stripsO
  pointwise [k0_pay513, lanes]
  refine congrArg (Ideal.div _) (pick _ (by omega) (fun h => ?_) (fun h => ?_) (fun h => ?_) (fun h => ?_))
  iterate 4 exact rows_twice s.l r x _ (by omega) _

end Cert.KernelIdeal.Flash

end
-- ==== Proof.FlashMath.lean ====
/- The running form of the attention's weighted mean over the extended reals: a row's state after some keys, one more
   tile of keys, and the quotient at the end. -/
module

public import Idealize.ShloMosaic.PureOps.Ideal

@[expose] public section

noncomputable section

namespace Cert.Attn

open Idealize.ShloMosaic

/-- The weight of key `j` under query `t`, less the shift `M`: none for a key after the query. -/
def E (S : Nat → ℝ) (t : Nat) (M : ℝ) (j : Nat) : ℝ := if j ≤ t then Real.exp (S j - M) else 0

theorem E_nonneg (S : Nat → ℝ) (t : Nat) (M : ℝ) (j : Nat) : 0 ≤ E S t M j := by
  unfold E
  split
  · exact (Real.exp_pos _).le
  · exact le_refl _

theorem E_shift (S : Nat → ℝ) (t : Nat) (M M' : ℝ) (j : Nat) : E S t M j * Real.exp (M - M') = E S t M' j := by
  unfold E
  split
  · rw [← Real.exp_add]; congr 1; ring
  · simp

/-- A row's state after `N` keys: nothing yet, or a real shift, the weights' sum and the weighted values' sum. -/
def Inv (S : Nat → ℝ) (t : Nat) (v : Nat → EReal) (N : Nat) (m l acc : EReal) : Prop :=
  (N = 0 ∧ m = ⊥ ∧ l = 0 ∧ acc = 0) ∨
    ∃ M : ℝ, m = (M : EReal) ∧ l = ((∑ j ∈ Finset.range N, E S t M j : ℝ) : EReal)
      ∧ acc = ∑ j ∈ Finset.range N, (E S t M j : EReal) * v j

theorem sum_mul_real {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_split {α : Type} [AddCommMonoid α] (f : Nat → α) (N : Nat) :
    ∑ j ∈ Finset.range (N + 256), f j = ∑ j ∈ Finset.range N, f j + ∑ c : Fin 256, f (N + c.val) := by
  rw [Finset.sum_range_add, Finset.sum_range (fun x => f (N + x))]

/-- A largest score is real once one of the scores is. -/
theorem sup_real {n : Nat} (sm : Fin n → EReal) (hr : ∀ c, sm c = ⊥ ∨ ∃ r : ℝ, sm c = r) (c0 : Fin n) (h0 : sm c0 ≠ ⊥) :
    ∃ r : ℝ, Finset.univ.sup sm = r := by
  obtain ⟨i, -, hi⟩ := Finset.exists_mem_eq_sup Finset.univ ⟨c0, Finset.mem_univ _⟩ sm
  rcases hr i with h | ⟨r, h⟩
  · exfalso
    apply h0
    have := Finset.le_sup (f := sm) (Finset.mem_univ c0)
    rw [hi, h] at this
    exact le_bot_iff.mp this
  · exact ⟨r, hi.trans h⟩

theorem inv_step {S : Nat → ℝ} {t : Nat} {v : Nat → EReal} {N : Nat} {m l acc : EReal} (h : Inv S t v N m l acc) (hN : N ≤ t) (δ : ℝ)
    (sm vt : Fin 256 → EReal) (hs : ∀ c, sm c = if N + c.val ≤ t then ((S (N + c.val) - δ : ℝ) : EReal) else ⊥)
    (hv : ∀ c, vt c = v (N + c.val)) (m' : EReal) (hm : m' = max m ((δ : EReal) + Finset.univ.sup sm)) :
    Inv S t v (N + 256) m' (Ideal.exp (m - m') * l + ∑ c, Ideal.exp (sm c + ((δ : EReal) - m')))
      (acc * Ideal.exp (m - m') + ∑ c, Ideal.exp (sm c + ((δ : EReal) - m')) * vt c) := by
  obtain ⟨r, hr⟩ := sup_real sm (fun c => by
    rw [hs c]
    split
    · exact Or.inr ⟨_, rfl⟩
    · exact Or.inl rfl) ⟨0, by decide⟩ (by rw [hs, if_pos (by simpa using hN)]; exact EReal.coe_ne_bot _)
  have hp : ∀ M' : ℝ, m' = (M' : EReal) → ∀ c : Fin 256, Ideal.exp (sm c + ((δ : EReal) - m')) = (E S t M' (N + c.val) : EReal) := by
    intro M' hM' c
    rw [hM', hs c]
    unfold E
    by_cases hc : N + c.val ≤ t
    · rw [if_pos hc, if_pos hc, ← EReal.coe_sub, ← EReal.coe_add, Ideal.exp_coe]
      congr 2
      ring
    · rw [if_neg hc, if_neg hc, EReal.bot_add, Ideal.exp_bot]
      rfl
  rw [hr] at hm
  rcases h with ⟨rfl, rfl, rfl, rfl⟩ | ⟨M, rfl, rfl, rfl⟩
  · have hM' : m' = ((δ + r : ℝ) : EReal) := by rw [hm, max_eq_right bot_le, EReal.coe_add]
    refine Or.inr ⟨δ + r, hM', ?_, ?_⟩
    · rw [coe_sum, sum_split, Finset.range_zero, Finset.sum_empty, mul_zero]
      simp only [hp _ hM']
    · rw [sum_split, Finset.range_zero, Finset.sum_empty, zero_mul]
      simp only [hp _ hM', hv]
  · have hM' : m' = ((max M (δ + r) : ℝ) : EReal) := by
      rw [hm, ← EReal.coe_add]
      exact (EReal.coe_strictMono.monotone.map_max).symm
    have ha : Ideal.exp ((M : EReal) - m') = (Real.exp (M - max M (δ + r)) : EReal) := by
      rw [hM', ← EReal.coe_sub, Ideal.exp_coe]
    refine Or.inr ⟨max M (δ + r), hM', ?_, ?_⟩
    · rw [ha, mul_comm, coe_sum, coe_sum, sum_split, sum_mul_real _ _ _ (Real.exp_pos _).le]
      simp only [hp _ hM', ← EReal.coe_mul, E_shift]
    · rw [sum_split, ha, sum_mul_real _ _ _ (Real.exp_pos _).le]
      simp only [hp _ hM', hv]
      congr 1
      refine Finset.sum_congr rfl fun j _ => ?_
      rw [mul_right_comm, ← EReal.coe_mul, E_shift]

theorem div_real (a : EReal) (r : ℝ) (hr : 0 < r) : Ideal.div a (r : EReal) = a * ((r⁻¹ : ℝ) : EReal) := by
  unfold Ideal.div
  rw [if_neg (by exact_mod_cast hr.ne'), EReal.coe_inv]

theorem E_sum_pos (S : Nat → ℝ) (t : Nat) (M : ℝ) (N : Nat) (hN : 0 < N) : 0 < ∑ j ∈ Finset.range N, E S t M j := by
  refine Finset.sum_pos' (fun j _ => E_nonneg S t M j) ⟨0, Finset.mem_range.mpr hN, ?_⟩
  unfold E
  rw [if_pos (Nat.zero_le _)]
  exact Real.exp_pos _

/-- The running form's quotient is the mean under the weights' quotients, whatever the two shifts. -/
theorem quotient {S : Nat → ℝ} {t : Nat} {v : Nat → EReal} {N : Nat} {m l acc : EReal} (h : Inv S t v N m l acc) (hN : 0 < N)
    (htN : t < N) (W : Nat) (hW : N ≤ W) (M' : ℝ) :
    Ideal.div acc l = ∑ j ∈ Finset.range W, v j * Ideal.div (E S t M' j : EReal) ((∑ i ∈ Finset.range W, E S t M' i : ℝ) : EReal) := by
  have hW0 := E_sum_pos S t M' W (by omega)
  have cut : ∀ M : ℝ, ∀ j ∈ Finset.range W, j ∉ Finset.range N → E S t M j = 0 := by
    intro M j _ hj
    unfold E
    rw [if_neg (by have := mt Finset.mem_range.mpr hj; omega)]
  have hsub : Finset.range N ⊆ Finset.range W := Finset.range_subset_range.mpr hW
  rcases h with ⟨rfl, -⟩ | ⟨M, rfl, rfl, rfl⟩
  · omega
  · have hL := E_sum_pos S t M N hN
    rw [div_real _ _ hL, sum_mul_real _ _ _ (inv_nonneg.mpr hL.le)]
    rw [Finset.sum_subset hsub (fun j hj hn => by rw [cut M j hj hn]; simp)]
    refine Finset.sum_congr rfl fun j _ => ?_
    rw [div_real _ _ hW0, mul_right_comm, ← EReal.coe_mul, ← EReal.coe_mul, mul_comm]
    congr 2
    rw [← Finset.sum_subset hsub (cut M')]
    have e : ∑ i ∈ Finset.range N, E S t M' i = (∑ i ∈ Finset.range N, E S t M i) * Real.exp (M - M') := by
      rw [Finset.sum_mul]
      exact Finset.sum_congr rfl fun i _ => (E_shift S t M M' i).symm
    rw [e, ← E_shift S t M M' j]
    have := (Real.exp_pos (M - M')).ne'
    have := hL.ne'
    field_simp

end Cert.Attn

end
-- ==== Proof.FlashValue.lean ====
/- The block of the attention's kernel over the extended reals: the mean of the values under the weights' quotients. -/
module

public import proofs.«01_k».proof.Proof.FlashEntry
public import proofs.«01_k».proof.Proof.FlashMath

@[expose] public section

set_option maxRecDepth 65536

noncomputable section

namespace Cert.KernelIdeal.Flash

open Cert.KernelIdeal Cert.KernelIdeal.Gen Cert.Attn
open Idealize.ShloMosaic Idealize.ShloMosaic.TcCoe Idealize.ShloMosaic.Tactic

theorem start_m (y : S1024x128.Idx) : k0_pay334 (F := Ideal) y = (⊥ : EReal) := by
  obtain ⟨a, b, rfl⟩ : ∃ (a : Fin 1024) (b : Fin 128), y = ix2 a b := ⟨y 0, y 1, eq_ix2 y⟩
  pointwise [k0_pay334]
  exact negInf

theorem start_l (y : S1024x128.Idx) : k0_pay335 (F := Ideal) y = (0 : EReal) := by
  obtain ⟨a, b, rfl⟩ : ∃ (a : Fin 1024) (b : Fin 128), y = ix2 a b := ⟨y 0, y 1, eq_ix2 y⟩
  pointwise [k0_pay335]

theorem start_a (y : S256x256.Idx) : k0_pay336 (F := Ideal) y = (0 : EReal) := by
  obtain ⟨a, b, rfl⟩ : ∃ (a : Fin 256) (b : Fin 256), y = ix2 a b := ⟨y 0, y 1, eq_ix2 y⟩
  pointwise [k0_pay336]

/-- A row of the carried state, alike on all lanes, and one lane of the accumulator, after `N` keys. -/
def RowInv (S : Nat → ℝ) (t : Nat) (v : Nat → EReal) (N : Nat) (r x : Fin 256) (s : St Ideal) : Prop :=
  ∃ m l : EReal, (∀ c : Fin 128, s.m (ix2 (hrow r x) c) = m) ∧ (∀ c : Fin 128, s.l (ix2 (hrow r x) c) = l) ∧ Inv S t v N m l (s.a (ix2 r x))

theorem step_row {S : Nat → ℝ} {t : Nat} {v : Nat → EReal} {N : Nat} {r x : Fin 256} {s : St Ideal} (h : RowInv S t v N r x s)
    (hN : N ≤ t) (msk : Bool) (tl : Tile Ideal) (δ : ℝ) (hd : ∀ c : Fin 128, tl.dq (ix2 (hrow r x) c) = (δ : EReal))
    (hs : ∀ c : Fin 256, sc msk tl (hrow r x) c = if N + c.val ≤ t then ((S (N + c.val) - δ : ℝ) : EReal) else ⊥)
    (hv : ∀ c : Fin 256, (tl.v (ix3 0 c x) : EReal) = v (N + c.val)) : RowInv S t v (N + 256) r x (step msk k0_pay321 tl s) := by
  obtain ⟨m, l, hm, hl, hi⟩ := h
  have hM : ∀ c : Fin 128, stepM msk tl s.m (ix2 (hrow r x) c) = max m ((δ : EReal) + Finset.univ.sup fun y : Fin 256 => sc msk tl (hrow r x) y) := by
    intro c
    rw [stepM_at, hm, hd]
  have hP : ∀ y : Fin 256, stepP msk tl s.m (ix2 (hrow r x) y) = Ideal.exp (sc msk tl (hrow r x) y
      + ((δ : EReal) - max m ((δ : EReal) + Finset.univ.sup fun y : Fin 256 => sc msk tl (hrow r x) y))) := by
    intro y
    rw [stepP_at, hM, hd]
  have hA : ∀ c : Fin 128, stepAlpha msk tl s.m (ix2 (hrow r x) c)
      = Ideal.exp (m - max m ((δ : EReal) + Finset.univ.sup fun y : Fin 256 => sc msk tl (hrow r x) y)) := by
    intro c
    rw [stepAlpha_at, hM, hm]
  have hL : ∀ c : Fin 128, stepL msk tl s.m s.l (ix2 (hrow r x) c) = Ideal.exp (m - max m ((δ : EReal) + Finset.univ.sup fun y : Fin 256 => sc msk tl (hrow r x) y)) * l
      + ∑ y : Fin 256, Ideal.exp (sc msk tl (hrow r x) y + ((δ : EReal) - max m ((δ : EReal) + Finset.univ.sup fun y : Fin 256 => sc msk tl (hrow r x) y))) := by
    intro c
    rw [stepL_at, hA, hl]
    simp only [hP]
  have hAcc : stepA msk k0_pay321 tl s.m s.a (ix2 r x) = (s.a (ix2 r x) : EReal) * Ideal.exp (m - max m ((δ : EReal) + Finset.univ.sup fun y : Fin 256 => sc msk tl (hrow r x) y))
      + ∑ y : Fin 256, Ideal.exp (sc msk tl (hrow r x) y + ((δ : EReal) - max m ((δ : EReal) + Finset.univ.sup fun y : Fin 256 => sc msk tl (hrow r x) y))) * (tl.v (ix3 0 y x) : EReal) := by
    rw [stepA_at, hA, stepPV_at]
    simp only [hP]
  have hi' := inv_step hi hN δ (fun y => sc msk tl (hrow r x) y) (fun y => tl.v (ix3 0 y x)) hs hv _ rfl
  rw [← hAcc] at hi'
  exact ⟨_, _, hM, hL, hi'⟩

section Block

variable (xq : Vec Ideal S1x256x256 .bf16) (xk xv : Vec Ideal S1x2048x256 .bf16) (xdq : Vec Ideal S1x256x128 .f32)
  (xdk : Vec Ideal S1x8x8x256 .f32)

/-- The scores of row `r` of head `h`, less the query decay. -/
def rawScore (h : Nat) (r : Fin 256) (j : Nat) : EReal :=
  (∑ x : Fin 256, (if x.val / 64 = h then (xq (ix3 0 r x) : EReal) else 0) * xk (ix3 (0 : Fin 1) (⟨j % 2048, Nat.mod_lt _ (by decide)⟩ : Fin 2048) x))
    - (xdk (ix4 (0 : Fin 1) (⟨j / 256 % 8, Nat.mod_lt _ (by decide)⟩ : Fin 8) (⟨h % 8, Nat.mod_lt _ (by decide)⟩ : Fin 8)
        (⟨j % 256, Nat.mod_lt _ (by decide)⟩ : Fin 256)) : EReal)

theorem tile_dq (n : Nat) (r x : Fin 256) (c : Fin 128) : (tile xq xk xv xdq xdk n).dq (ix2 (hrow r x) c) = xdq (ix3 0 r ⟨x.val / 64, by omega⟩) := by
  have hx := x.isLt
  have hr := r.isLt
  have e0 : (hrow r x).val / 256 = x.val / 64 := by show (256 * (x.val / 64) + r.val) / 256 = _; omega
  have e1 : (⟨(hrow r x).val % 256, Nat.mod_lt _ (by decide)⟩ : Fin 256) = r := Fin.ext (by show (256 * (x.val / 64) + r.val) % 256 = _; omega)
  show dqHead xdq ((hrow r x).val / 256) (ix2 ⟨(hrow r x).val % 256, Nat.mod_lt _ (by decide)⟩ c) = _
  rw [e0, e1, dqHead_apply _ (by omega)]

theorem tile_q (n : Nat) (r x y : Fin 256) : (tile xq xk xv xdq xdk n).q (ix2 (hrow r x) y)
    = if y.val / 64 = x.val / 64 then xq (ix3 0 r y) else (0 : EReal) := by
  have hx := x.isLt
  have hr := r.isLt
  have e0 : (hrow r x).val / 256 = x.val / 64 := by show (256 * (x.val / 64) + r.val) / 256 = _; omega
  have e1 : (⟨(hrow r x).val % 256, Nat.mod_lt _ (by decide)⟩ : Fin 256) = r := Fin.ext (by show (256 * (x.val / 64) + r.val) % 256 = _; omega)
  show qHead xq ((hrow r x).val / 256) (ix2 ⟨(hrow r x).val % 256, Nat.mod_lt _ (by decide)⟩ y) = _
  rw [e0, e1, qHead_apply _ (by omega)]

theorem tile_sc (n : Nat) (hn : n < 8) (msk : Bool) (r x c : Fin 256) :
    sc msk (tile xq xk xv xdq xdk n) (hrow r x) c = if msk = true → c.val ≤ r.val then rawScore xq xk xdk (x.val / 64) r (256 * n + c.val) else ⊥ := by
  have hx := x.isLt
  have hr := r.isLt
  have hc := c.isLt
  have e0 : (hrow r x).val / 256 = x.val / 64 := by show (256 * (x.val / 64) + r.val) / 256 = _; omega
  have e1 : (hrow r x).val % 256 = r.val := by show (256 * (x.val / 64) + r.val) % 256 = _; omega
  unfold sc rawScore
  simp only [e1, tile_q]
  refine if_congr Iff.rfl (congrArg₂ (· - ·) rfl ?_) rfl
  show xdk (ix4 (0 : Fin 1) (⟨n % 8, Nat.mod_lt _ (by decide)⟩ : Fin 8) (⟨(hrow r x).val / 256, by omega⟩ : Fin 8) c) = _
  congr 1
  have a1 : (⟨n % 8, Nat.mod_lt _ (by decide)⟩ : Fin 8) = ⟨(256 * n + c.val) / 256 % 8, Nat.mod_lt _ (by decide)⟩ := Fin.ext (by show n % 8 = (256 * n + c.val) / 256 % 8; omega)
  have a2 : (⟨(hrow r x).val / 256, by omega⟩ : Fin 8) = ⟨x.val / 64 % 8, Nat.mod_lt _ (by decide)⟩ := Fin.ext (by show (hrow r x).val / 256 = x.val / 64 % 8; omega)
  have a3 : c = (⟨(256 * n + c.val) % 256, Nat.mod_lt _ (by decide)⟩ : Fin 256) := Fin.ext (by show c.val = (256 * n + c.val) % 256; omega)
  rw [a1, a2]
  exact congrArg _ a3

/-- A block's entry is the mean of the values of the keys not after the query, under the weights' quotients. -/
theorem flashBlock_at (i : Nat) (hi : i < 8) (r x : Fin 256) (S : Nat → ℝ) (δ : ℝ)
    (hd : xdq (ix3 0 r ⟨x.val / 64, by omega⟩) = (δ : EReal))
    (hs : ∀ j, j < 2048 → rawScore xq xk xdk (x.val / 64) r j = ((S j - δ : ℝ) : EReal)) (M' : ℝ) :
    flashBlock i xq xk xv xdq xdk (ix3 0 r x)
      = ∑ j ∈ Finset.range 2048, (xv (ix3 (0 : Fin 1) (⟨j % 2048, Nat.mod_lt _ (by decide)⟩ : Fin 2048) x) : EReal)
          * Ideal.div (E S (256 * i + r.val) M' j : EReal) ((∑ j ∈ Finset.range 2048, E S (256 * i + r.val) M' j : ℝ) : EReal) := by
  have hr := r.isLt
  have base : ∀ n, n ≤ i → RowInv S (256 * i + r.val) (fun j => xv (ix3 (0 : Fin 1) (⟨j % 2048, Nat.mod_lt _ (by decide)⟩ : Fin 2048) x)) (256 * n) r x
      (state xq xk xv xdq xdk n) := by
    intro n
    induction n with
    | zero => exact fun _ => ⟨⊥, 0, fun c => start_m (ix2 (hrow r x) c), fun c => start_l (ix2 (hrow r x) c), Or.inl ⟨rfl, rfl, rfl, start_a (ix2 r x)⟩⟩
    | succ n ih =>
      intro hn
      refine step_row (ih (by omega)) (by omega) false _ δ (fun c => (tile_dq xq xk xv xdq xdk n r x c).trans hd) (fun c => ?_) (fun c => rfl)
      have hc := c.isLt
      rw [tile_sc _ _ _ _ _ n (by omega), if_pos (by simp), if_pos (by omega), hs _ (by omega)]
  obtain ⟨m, l, -, hl, hinv⟩ := step_row (base i le_rfl) (by omega) true (tile xq xk xv xdq xdk i) δ (fun c => (tile_dq xq xk xv xdq xdk i r x c).trans hd)
    (fun c => by
      have hc := c.isLt
      rw [tile_sc _ _ _ _ _ i hi, hs _ (by omega)]
      refine if_congr ⟨fun h => by have := h rfl; omega, fun h _ => by omega⟩ rfl rfl) (fun c => rfl)
  unfold flashBlock
  rw [outBlock_at, hl]
  exact quotient hinv (by omega) (by omega) 2048 (by omega) M'

end Block

end Cert.KernelIdeal.Flash

end
-- ==== Proof.FlashArray.lean ====
/- The attention's kernel by its arguments: the blocks a point reads and the array of the result. -/
module

public import proofs.«01_k».proof.Proof.FlashValue
public import proofs.«01_k».proof.Proof.FlashFrame
public import Idealize.ShloMosaic.Lib.Claim
public import Idealize.ShloMosaic.Lib.StableHlo.ReadAt
public import Idealize.ShloMosaic.Lib.Pipeline.ValueKit.Geometry
public import Idealize.ShloMosaic.Lib.Pipeline.ValueKit.Acc

@[expose] public section

set_option maxRecDepth 65536

noncomputable section

namespace Cert.KernelIdeal.Flash

open Cert.KernelIdeal Cert.KernelIdeal.Gen Cert.Attn
open Idealize.ShloMosaic Idealize.ShloMosaic.TcCoe Idealize.ShloMosaic.Tactic

section Points

variable (m : (l : Loc nD τ sig) → Buf (Elt Ideal) l) (c : Dev nD)

theorem idx : ∀ t : Fin cfg0.N, win0_0.index t = ![t.val / 8, t.val % 8, 0] ∧ win0_1.index t = ![t.val / 8, 0, 0] ∧ win0_2.index t = ![t.val / 8, 0, 0]
    ∧ win0_3.index t = ![t.val / 8, t.val % 8, 0] ∧ win0_4.index t = ![t.val / 8, 0, 0, 0] ∧ win0_5.index t = ![t.val / 8, t.val % 8, 0]
    ∧ (grid0.coords t 1).val = t.val % 8 :=
  (by decide +kernel : ∀ t : Fin grid0.N, _)

/-- The head of a lane. -/
def hd (x : Fin 256) : Fin 4 := ⟨x.val / 64, by omega⟩

/-- A lane within its head. -/
def dm (x : Fin 256) : Fin 64 := ⟨x.val % 64, by omega⟩

/-- The arguments, by name. -/
abbrev aQ : S8x2048x4x64.Idx → EReal := m ((c : Thread nD τ).loc main_arg0)
@[inherit_doc aQ]
abbrev aK : S8x2048x4x64.Idx → EReal := m ((c : Thread nD τ).loc main_arg1)
@[inherit_doc aQ]
abbrev aV : S8x2048x4x64.Idx → EReal := m ((c : Thread nD τ).loc main_arg2)
@[inherit_doc aQ]
abbrev aD : S8x2048x4.Idx → EReal := m ((c : Thread nD τ).loc main_arg3)

theorem V0 (b : Fin 8) (s : Fin 2048) (x : Fin 256) : V m c main_v3 (ix3 b s x)
    = aQ m c (ix4 b s (hd x) (dm x)) * Ideal.ofBits FTy.f32 0x3E000000#32 := by
  unfold V
  after_reads_at
  rfl

theorem V1 (b : Fin 8) (s : Fin 2048) (x : Fin 256) : V m c main_v5 (ix3 b s x) = aK m c (ix4 b s (hd x) (dm x)) := by
  unfold V
  after_reads_at
  rfl

theorem V2 (b : Fin 8) (s : Fin 2048) (x : Fin 256) : V m c main_v7 (ix3 b s x) = aV m c (ix4 b s (hd x) (dm x)) := by
  unfold V
  after_reads_at
  rfl

theorem V3 (b : Fin 8) (s : Fin 2048) (h : Fin 4) : V m c main_v8 (ix3 b s ⟨h.val, by omega⟩) = aD m c (ix3 b s h) := by
  unfold V
  after_reads_at

theorem V4 (b n : Fin 8) (h : Fin 4) (y : Fin 256) : V m c main_v11 (ix4 b n ⟨h.val, by omega⟩ y) = aD m c (ix3 b ⟨256 * n.val + y.val, by omega⟩ h) := by
  unfold V
  after_reads_at
  rw [dif_pos (by omega)]
  refine congrArg (fun s => aD m c (ix3 b s h)) (Fin.ext ?_)
  show n.val * 256 + y.val = 256 * n.val + y.val
  omega

/-- The blocks a point reads, by window. -/
abbrev b0 (t : Fin cfg0.N) : Vec Ideal S1x256x256 .bf16 := iblk m c 0 t
@[inherit_doc b0]
abbrev b1 (t : Fin cfg0.N) : Vec Ideal S1x2048x256 .bf16 := iblk m c 1 t
@[inherit_doc b0]
abbrev b2 (t : Fin cfg0.N) : Vec Ideal S1x2048x256 .bf16 := iblk m c 2 t
@[inherit_doc b0]
abbrev b3 (t : Fin cfg0.N) : Vec Ideal S1x256x128 .f32 := iblk m c 3 t
@[inherit_doc b0]
abbrev b4 (t : Fin cfg0.N) : Vec Ideal S1x8x8x256 .f32 := iblk m c 4 t

/-- The batch of a point. -/
abbrev bOf (t : Fin cfg0.N) : Fin 8 := ⟨t.val / 8, by have := t.isLt.trans_eq N_0; omega⟩

/-- The query of a point's row. -/
abbrev sOf (t : Fin cfg0.N) (r : Fin 256) : Fin 2048 := ⟨256 * (t.val % 8) + r.val, by omega⟩

theorem blk0 (t : Fin cfg0.N) (r x : Fin 256) : b0 m c t (ix3 0 r x) = aQ m c (ix4 (bOf t) (sOf t r) (hd x) (dm x)) * Ideal.ofBits FTy.f32 0x3E000000#32 := by
  have ⟨h0, h1, h2, h3, h4, h5, h6⟩ := idx t
  refine Eq.trans ?_ (V0 m c (bOf t) (sOf t r) x)
  blk_ext [iblk, h0]

theorem blk1 (t : Fin cfg0.N) (s : Fin 2048) (x : Fin 256) : b1 m c t (ix3 0 s x) = aK m c (ix4 (bOf t) s (hd x) (dm x)) := by
  have ⟨h0, h1, h2, h3, h4, h5, h6⟩ := idx t
  refine Eq.trans ?_ (V1 m c (bOf t) s x)
  blk_ext [iblk, h1]

theorem blk2 (t : Fin cfg0.N) (s : Fin 2048) (x : Fin 256) : b2 m c t (ix3 0 s x) = aV m c (ix4 (bOf t) s (hd x) (dm x)) := by
  have ⟨h0, h1, h2, h3, h4, h5, h6⟩ := idx t
  refine Eq.trans ?_ (V2 m c (bOf t) s x)
  blk_ext [iblk, h2]

theorem blk3 (t : Fin cfg0.N) (r : Fin 256) (h : Fin 4) : b3 m c t (ix3 0 r ⟨h.val, by omega⟩) = aD m c (ix3 (bOf t) (sOf t r) h) := by
  have ⟨h0, h1, h2, h3, h4, h5, h6⟩ := idx t
  refine Eq.trans ?_ (V3 m c (bOf t) (sOf t r) h)
  blk_ext [iblk, h3]

theorem blk4 (t : Fin cfg0.N) (n : Fin 8) (h : Fin 4) (y : Fin 256) : b4 m c t (ix4 0 n ⟨h.val, by omega⟩ y)
    = aD m c (ix3 (bOf t) ⟨256 * n.val + y.val, by omega⟩ h) := by
  have ⟨h0, h1, h2, h3, h4, h5, h6⟩ := idx t
  refine Eq.trans ?_ (V4 m c (bOf t) n h y)
  blk_ext [iblk, h4]

/-! ## The result's array -/

/-- The point of a query. -/
abbrev ptOf (b : Fin 8) (s : Fin 2048) : Fin cfg0.N := ⟨8 * b.val + s.val / 256, lt_of_lt_of_eq (by omega) N_0.symm⟩

/-- The result, block by block. -/
def G (j : S8x2048x256.Idx) : EReal :=
  outAt m c (ptOf (j 0) (j 1)) (ix3 (0 : Fin 1) (⟨(j 1).val % 256, Nat.mod_lt _ (by decide)⟩ : Fin 256) (j 2 : Fin 256))

theorem arr_eq : (dats m 0 c).arrAt 5 cfg0.N = G m c := by
  refine (dats m 0 c).arrAt_eq_of_covers 5 _ (by decide +kernel) fun t hf y => ?_
  have ⟨h0, h1, h2, h3, h4, h5, h6⟩ := idx t
  blk_simp
  rw [after_5]
  have hN := t.isLt.trans_eq N_0
  have hy0 : (y 0).val < 1 := (y 0).isLt
  have hy1 : (y 1).val < 256 := (y 1).isLt
  have hb0 : ((win0_5.blk t).view.emb y 0).val = t.val / 8 := by blk_simp [h5]
  have hb1 : ((win0_5.blk t).view.emb y 1).val = 256 * (t.val % 8) + (y 1).val := by blk_simp [h5]; omega
  have hb2 : ((win0_5.blk t).view.emb y 2).val = (y 2).val := by blk_simp [h5]
  have ht : t = ptOf ((win0_5.blk t).view.emb y 0) ((win0_5.blk t).view.emb y 1) := Fin.ext (by
    show t.val = 8 * ((win0_5.blk t).view.emb y 0).val + ((win0_5.blk t).view.emb y 1).val / 256
    rw [hb0, hb1]
    omega)
  refine congrArg₂ (fun (t : Fin cfg0.N) (y : S1x256x256.Idx) => outAt m c t y) ht (funext fun a => ?_)
  match a with
  | ⟨0, _⟩ => exact Fin.ext (by show (y 0).val = 0; omega)
  | ⟨1, _⟩ => exact Fin.ext (by show (y 1).val = ((win0_5.blk t).view.emb y 1).val % 256; rw [hb1]; omega)
  | ⟨2, _⟩ => exact Fin.ext hb2.symm

variable (ρ : Dev nD → PrngReg)

/-- The kernel's run: the result is `G`, the arguments end as launched. -/
theorem run : θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Pipeline.FramePost.out_eq h.2 c 5).trans (arr_eq m c), h.1.1 c⟩)
    (θ_run_and (frame_all m ρ) (run_post m ρ))

end Points

end Cert.KernelIdeal.Flash

end
-- ==== Proof.FlashMean.lean ====
/- The attention's kernel, where queries, keys and decays are real: each entry of the result is the mean of the values of
   the keys not after the query, under the softmax of the scores. -/
module

public import proofs.«01_k».proof.Proof.FlashArray

@[expose] public section

set_option maxRecDepth 65536

noncomputable section

namespace Cert.KernelIdeal.Flash

open Cert.KernelIdeal Cert.KernelIdeal.Gen Cert.Attn
open Idealize.ShloMosaic Idealize.ShloMosaic.TcCoe Idealize.ShloMosaic.Tactic

/-- A key's number as an index. -/
abbrev kf (j : Nat) : Fin 2048 := ⟨j % 2048, Nat.mod_lt _ (by decide)⟩

/-- The score of query `t` and key `j` in head `h`: the scaled product with the difference of the decays. -/
def score (fq fk : S8x2048x4x64.Idx → ℝ) (fd : S8x2048x4.Idx → ℝ) (κ : ℝ) (b : Fin 8) (h : Fin 4) (t : Fin 2048) (j : Nat) : ℝ :=
  (∑ d : Fin 64, fq (ix4 b t h d) * fk (ix4 b (kf j) h d)) * κ + fd (ix3 b t h) - fd (ix3 b (kf j) h)

/-- The mean of the values under the weights' quotients. -/
def mean (S : Nat → ℝ) (t : Nat) (M : ℝ) (v : Nat → EReal) : EReal :=
  ∑ j ∈ Finset.range 2048, v j * Ideal.div (E S t M j : EReal) ((∑ j ∈ Finset.range 2048, E S t M j : ℝ) : EReal)

theorem lane_sum (h : Fin 4) (f : Fin 256 → EReal) :
    (∑ y : Fin 256, if y.val / 64 = h.val then f y else 0) = ∑ d : Fin 64, f ⟨64 * h.val + d.val, by omega⟩ := by
  rw [← Equiv.sum_comp (finProdFinEquiv (m := 4) (n := 64)), Fintype.sum_prod_type, Finset.sum_eq_single h]
  · refine Finset.sum_congr rfl fun d _ => ?_
    have e : (finProdFinEquiv (h, d) : Fin 256).val = d.val + 64 * h.val := rfl
    rw [if_pos (by rw [e]; omega)]
    exact congrArg f (Fin.ext (by show d.val + 64 * h.val = 64 * h.val + d.val; omega))
  · intro h' _ hne
    refine Finset.sum_eq_zero fun d _ => ?_
    have e : (finProdFinEquiv (h', d) : Fin 256).val = d.val + 64 * h'.val := rfl
    rw [if_neg (by rw [e]; intro hc; exact hne (Fin.ext (by omega)))]
  · exact fun hn => absurd (Finset.mem_univ _) hn

/-- The scale is a real. -/
theorem scale_real : ∃ κ : ℝ, Ideal.ofBits FTy.f32 0x3E000000#32 = (κ : EReal) := by
  have e : Ideal.ofBits FTy.f32 0x3E000000#32 = Ideal.ieee 8 23 0x3E000000#32 := rfl
  rw [e]
  unfold Ideal.ieee
  rw [if_neg (by decide), if_neg (by decide)]
  exact ⟨_, rfl⟩

section Real

variable (m : (l : Loc nD τ sig) → Buf (Elt Ideal) l) (c : Dev nD) (fq fk : S8x2048x4x64.Idx → ℝ) (fd : S8x2048x4.Idx → ℝ) (κ : ℝ)

theorem raw_eq (hκ : Ideal.ofBits FTy.f32 0x3E000000#32 = (κ : EReal)) (hq : ∀ i, aQ m c i = (fq i : EReal))
    (hk : ∀ i, aK m c i = (fk i : EReal)) (hdc : ∀ i, aD m c i = (fd i : EReal)) (t : Fin cfg0.N) (h : Fin 4) (r : Fin 256) (j : Nat) (hj : j < 2048) :
    rawScore (b0 m c t) (b1 m c t) (b4 m c t) h.val r j = ((score fq fk fd κ (bOf t) h (sOf t r) j - fd (ix3 (bOf t) (sOf t r) h) : ℝ) : EReal) := by
  have hd' : b4 m c t (ix4 (0 : Fin 1) (⟨j / 256 % 8, Nat.mod_lt _ (by decide)⟩ : Fin 8) (⟨h.val % 8, Nat.mod_lt _ (by decide)⟩ : Fin 8)
      (⟨j % 256, Nat.mod_lt _ (by decide)⟩ : Fin 256)) = (fd (ix3 (bOf t) (kf j) h) : EReal) := by
    have e : (⟨h.val % 8, Nat.mod_lt _ (by decide)⟩ : Fin 8) = ⟨h.val, by omega⟩ := Fin.ext (by show h.val % 8 = h.val; omega)
    rw [e]
    refine (blk4 m c t ⟨j / 256 % 8, Nat.mod_lt _ (by decide)⟩ h ⟨j % 256, Nat.mod_lt _ (by decide)⟩).trans ((hdc _).trans ?_)
    refine congrArg (fun s => (fd (ix3 (bOf t) s h) : EReal)) (Fin.ext ?_)
    show 256 * (j / 256 % 8) + j % 256 = j % 2048
    omega
  have hs : (∑ x : Fin 256, (if x.val / 64 = h.val then (b0 m c t (ix3 0 r x) : EReal) else 0) * b1 m c t (ix3 (0 : Fin 1) (kf j) x))
      = (((∑ d : Fin 64, fq (ix4 (bOf t) (sOf t r) h d) * fk (ix4 (bOf t) (kf j) h d)) * κ : ℝ) : EReal) := by
    rw [Finset.sum_mul, coe_sum]
    refine (Finset.sum_congr rfl fun x _ => ite_zero_mul _ _ _).trans ((lane_sum h fun x => (b0 m c t (ix3 0 r x) : EReal) * b1 m c t (ix3 (0 : Fin 1) (kf j) x)).trans ?_)
    refine Finset.sum_congr rfl fun d _ => ?_
    have e1 : hd ⟨64 * h.val + d.val, by omega⟩ = h := Fin.ext (by show (64 * h.val + d.val) / 64 = h.val; omega)
    have e2 : dm ⟨64 * h.val + d.val, by omega⟩ = d := Fin.ext (by show (64 * h.val + d.val) % 64 = d.val; omega)
    rw [blk0, blk1, e1, e2, hq, hk, hκ, ← EReal.coe_mul, ← EReal.coe_mul]
    congr 1
    ring
  refine (congrArg₂ (· - ·) hs hd').trans ?_
  rw [← EReal.coe_sub]
  unfold score
  congr 1
  ring

/-- An entry of the result. -/
theorem G_eq (hκ : Ideal.ofBits FTy.f32 0x3E000000#32 = (κ : EReal)) (hq : ∀ i, aQ m c i = (fq i : EReal))
    (hk : ∀ i, aK m c i = (fk i : EReal)) (hdc : ∀ i, aD m c i = (fd i : EReal)) (b : Fin 8) (s : Fin 2048) (x : Fin 256) (M : ℝ) :
    G m c (ix3 b s x) = mean (score fq fk fd κ b (hd x) s) s.val M fun j => aV m c (ix4 b (kf j) (hd x) (dm x)) := by
  have hs := s.isLt
  have ⟨h0, h1, h2, h3, h4, h5, h6⟩ := idx (ptOf b s)
  have eb : bOf (ptOf b s) = b := Fin.ext (by show (8 * b.val + s.val / 256) / 8 = b.val; omega)
  have em : (ptOf b s).val % 8 = s.val / 256 := by show (8 * b.val + s.val / 256) % 8 = s.val / 256; omega
  have es : sOf (ptOf b s) ⟨s.val % 256, Nat.mod_lt _ (by decide)⟩ = s := Fin.ext (by
    show 256 * ((8 * b.val + s.val / 256) % 8) + s.val % 256 = s.val
    omega)
  show flashBlock (grid0.coords (ptOf b s) 1).val (b0 m c (ptOf b s)) (b1 m c (ptOf b s)) (b2 m c (ptOf b s)) (b3 m c (ptOf b s)) (b4 m c (ptOf b s))
    (ix3 (0 : Fin 1) (⟨s.val % 256, Nat.mod_lt _ (by decide)⟩ : Fin 256) x) = _
  rw [h6, em, flashBlock_at _ _ _ _ _ (s.val / 256) (by omega) ⟨s.val % 256, Nat.mod_lt _ (by decide)⟩ x (score fq fk fd κ b (hd x) s) (fd (ix3 b s (hd x)))
    ?_ ?_ M]
  · have e : 256 * (s.val / 256) + (⟨s.val % 256, Nat.mod_lt _ (by decide)⟩ : Fin 256).val = s.val := by show 256 * (s.val / 256) + s.val % 256 = s.val; omega
    rw [e]
    refine Finset.sum_congr rfl fun j _ => ?_
    rw [blk2, eb]
  · refine (blk3 m c (ptOf b s) ⟨s.val % 256, Nat.mod_lt _ (by decide)⟩ (hd x)).trans ?_
    rw [eb, es, hdc]
  · intro j hj
    refine (raw_eq m c fq fk fd κ hκ hq hk hdc (ptOf b s) (hd x) ⟨s.val % 256, Nat.mod_lt _ (by decide)⟩ j hj).trans ?_
    rw [eb, es]

end Real

end Cert.KernelIdeal.Flash

end
-- ==== Proof.FlashReference.lean ====
/- The plain attention read index by index: where queries, keys and decays are real its result is the kernel's, and so the two programs agree. -/
module

public import proofs.«01_k».proof.Proof.FlashMean
public import proofs.«01_k».proof.Proof.Gen.ReferenceIdeal.Run
public import proofs.«01_k».proof.Defs
public import proofs.«01_k».proof.Proof.Gen.ReferenceIdeal.Read

@[expose] public section

set_option maxRecDepth 65536

noncomputable section

namespace Cert.ReferenceIdeal.Flow

open Cert.ReferenceIdeal Cert.ReferenceIdeal.Gen Cert.ReferenceIdeal.Read
open Cert.KernelIdeal.Flash (kf score mean hd dm negInf select_le)
open Cert.Attn
open Idealize.SL.Sem
open Idealize.ShloMosaic Idealize.ShloMosaic.TcCoe Idealize.ShloMosaic.Tactic

section Read

variable (x0 x1 x2 : S8x2048x4x64.Idx → EReal) (x3 : S8x2048x4.Idx → EReal)

theorem v16_at (b : Fin 8) (h : Fin 4) (t j : Fin 2048) : val_main_v16 (F := Ideal) x0 x1 x3 (ix4 b h t j)
    = if j.val ≤ t.val then (∑ d : Fin 64, x0 (ix4 b t h d) * x1 (ix4 b j h d)) * Ideal.ofBits FTy.f32 0x3E000000#32 + x3 (ix3 b t h) - x3 (ix3 b j h) else ⊥ := by
  rw [← select_le j.val t.val (by omega) (by omega), ← negInf]
  pointwise [val_main_v16, val_main_call0_v2, val_main_call0_v1, val_main_call0_v0, val_main_cst_0, val_main_v15, val_main_v14, val_main_v13, val_main_v12, val_main_v11, val_main_v10, val_main_v9, val_main_v8, val_main_v7, val_main_v6, val_main_v5, val_main_v4, val_main_v3, val_main_v2, val_main_cst, val_main_v1, val_main_v0]
  rfl

theorem red_at (y : FVec Ideal S8x4x2048x2048 .f32) (z : FVec Ideal S_ .f32) (b : Fin 8) (h : Fin 4) (t : Fin 2048) :
    Host.reduce FloatOps.maximumf y z reducesTo_S8x4x2048x2048_S8x4x2048_d3 h_S_ (ix3 b h t)
      = Finset.fold max (z (Shape.Idx.first h_S_)) (fun j : Fin 2048 => y (ix4 b h t j)) Finset.univ := by
  simp only [pointwise]

theorem v19_at (b : Fin 8) (h : Fin 4) (t : Fin 2048) : val_main_v19 (F := Ideal) x0 x1 x3 (ix3 b h t)
    = Finset.univ.sup fun j : Fin 2048 => (val_main_v16 (F := Ideal) x0 x1 x3 (ix4 b h t j) : EReal) := by
  rw [val_main_v19_apply, val_main_v18_apply, val_main_cst_2_apply]
  unfold val_main_v17
  rw [red_at, val_main_cst_1_apply]
  show max (Ideal.ofBits FTy.f32 4286578688#32) (Finset.fold max (Ideal.ofBits FTy.f32 4286578688#32)
    (fun j : Fin 2048 => (val_main_v16 (F := Ideal) x0 x1 x3 (ix4 b h t j) : EReal)) Finset.univ) = _
  rw [negInf]
  exact max_eq_right bot_le

theorem v23_at (b : Fin 8) (h : Fin 4) (t j : Fin 2048) : val_main_v23 (F := Ideal) x0 x1 x3 (ix4 b h t j)
    = Ideal.exp ((val_main_v16 (F := Ideal) x0 x1 x3 (ix4 b h t j) : EReal) - val_main_v19 (F := Ideal) x0 x1 x3 (ix3 b h t)) := by
  pointwise [val_main_v23, val_main_v22, val_main_v21, val_main_v20]

theorem v27_at (b : Fin 8) (h : Fin 4) (t j : Fin 2048) : val_main_v27 (F := Ideal) x0 x1 x3 (ix4 b h t j)
    = Ideal.div (val_main_v23 (F := Ideal) x0 x1 x3 (ix4 b h t j)) (∑ i : Fin 2048, (val_main_v23 (F := Ideal) x0 x1 x3 (ix4 b h t i) : EReal)) := by
  pointwise [val_main_v27, val_main_v26, val_main_v25, val_main_v24, val_main_cst_3]

theorem v31_at (b : Fin 8) (s : Fin 2048) (x : Fin 256) : val_main_v31 (F := Ideal) x0 x1 x2 x3 (ix3 b s x)
    = ∑ j : Fin 2048, x2 (ix4 b j (hd x) (dm x)) * (val_main_v27 (F := Ideal) x0 x1 x3 (ix4 b (hd x) s j) : EReal) := by
  unfold hd dm
  pointwise [val_main_v31, val_main_v30, val_main_v29, val_main_v28]

variable (fq fk : S8x2048x4x64.Idx → ℝ) (fd : S8x2048x4.Idx → ℝ) (κ : ℝ)

/-- An entry of the plain attention's result. -/
theorem v31_mean (hκ : Ideal.ofBits FTy.f32 0x3E000000#32 = (κ : EReal)) (hq : ∀ i, x0 i = (fq i : EReal)) (hk : ∀ i, x1 i = (fk i : EReal))
    (hd' : ∀ i, x3 i = (fd i : EReal)) (b : Fin 8) (s : Fin 2048) (x : Fin 256) :
    ∃ M : ℝ, val_main_v31 (F := Ideal) x0 x1 x2 x3 (ix3 b s x)
      = mean (score fq fk fd κ b (hd x) s) s.val M fun j => x2 (ix4 b (kf j) (hd x) (dm x)) := by
  have ekf : ∀ j : Fin 2048, kf j.val = j := fun j => Fin.ext (Nat.mod_eq_of_lt j.isLt)
  have e16 : ∀ j : Fin 2048, val_main_v16 (F := Ideal) x0 x1 x3 (ix4 b (hd x) s j)
      = if j.val ≤ s.val then (score fq fk fd κ b (hd x) s j.val : EReal) else ⊥ := by
    intro j
    rw [v16_at]
    refine if_congr Iff.rfl ?_ rfl
    unfold score
    simp only [hq, hk, hd', hκ, ekf, ← EReal.coe_mul]
    rw [← coe_sum, ← EReal.coe_mul, ← EReal.coe_add, ← EReal.coe_sub]
  obtain ⟨M, hM⟩ := sup_real (fun j : Fin 2048 => (val_main_v16 (F := Ideal) x0 x1 x3 (ix4 b (hd x) s j) : EReal)) (fun j => by
    rw [e16]
    split
    · exact Or.inr ⟨_, rfl⟩
    · exact Or.inl rfl) ⟨0, by decide⟩ (by rw [e16, if_pos (Nat.zero_le _)]; exact EReal.coe_ne_bot _)
  refine ⟨M, ?_⟩
  have e23 : ∀ j : Fin 2048, val_main_v23 (F := Ideal) x0 x1 x3 (ix4 b (hd x) s j) = (E (score fq fk fd κ b (hd x) s) s.val M j.val : EReal) := by
    intro j
    rw [v23_at, v19_at, hM, e16]
    unfold E
    split
    · rw [← EReal.coe_sub, Ideal.exp_coe]
    · rw [EReal.bot_sub, Ideal.exp_bot]
      rfl
  rw [v31_at]
  unfold mean
  rw [Finset.sum_range (fun j => x2 (ix4 b (kf j) (hd x) (dm x)) * Ideal.div (E (score fq fk fd κ b (hd x) s) s.val M j : EReal)
    ((∑ j ∈ Finset.range 2048, E (score fq fk fd κ b (hd x) s) s.val M j : ℝ) : EReal)), coe_sum, Finset.sum_range (fun j => (E (score fq fk fd κ b (hd x) s) s.val M j : EReal))]
  refine Finset.sum_congr rfl fun j _ => ?_
  rw [v27_at, ekf]
  simp only [e23]

end Read

/-! ## The precondition -/

section Finite

variable [Cert.Pre_finite.Facts] (x0 x1 x2 : S8x2048x4x64.Idx → EReal) (x3 : S8x2048x4.Idx → EReal)

theorem inf_eq : Ideal.ofBits FTy.f32 0x7F800000#32 = (⊤ : EReal) := by
  show Ideal.ieee 8 23 (0x7F800000#32) = (⊤ : EReal)
  unfold Ideal.ieee
  rw [if_pos (by decide), if_pos (by decide), if_neg (by decide)]

/-- A value whose size is below infinity is a real. -/
theorem real_of_lt (x : EReal) (h : max x (-x) < Ideal.ofBits FTy.f32 0x7F800000#32) : ∃ r : ℝ, x = r := by
  rw [inf_eq, max_lt_iff] at h
  refine ⟨x.toReal, (EReal.coe_toReal h.1.ne fun e => ?_).symm⟩
  rw [e] at h
  exact absurd h.2 (by simp)

/-- A conjunction of tests that comes out 1 has every test true. -/
theorem and_ofBool (p q r : Bool) (h : IntOp.andi (IntOp.andi (BitVec.ofBool p) (BitVec.ofBool q)) (BitVec.ofBool r) = 1#1) :
    p = true ∧ q = true ∧ r = true := by
  revert h
  revert p q r
  decide

/-- The precondition, read at one entry: the query, the key and the decay there are real. -/
theorem finite_at (b : Fin 8) (s : Fin 2048) (h : Fin 4) (d : Fin 64) (hp : Cert.Pre_finite.fn (F := Ideal) x0 x1 x2 x3 = fun _ => 1#1) :
    (∃ r : ℝ, x0 (ix4 b s h d) = r) ∧ (∃ r : ℝ, x1 (ix4 b s h d) = r) ∧ ∃ r : ℝ, x3 (ix3 b s h) = r := by
  have e := congrFun hp (ix4 b s h d)
  revert e
  pointwise [Cert.Pre_finite.fn]
  intro e
  obtain ⟨hq, hk, hd⟩ := and_ofBool _ _ _ e
  exact ⟨real_of_lt _ (of_decide_eq_true hq), real_of_lt _ (of_decide_eq_true hk), real_of_lt _ (of_decide_eq_true hd)⟩

end Finite

/-- The attention kernel and the plain attention end with equal results, where queries, keys and decays are finite. -/
theorem algebraic [Cert.Pre_finite.Facts] : Cert.algebraic_KernelIdeal_ReferenceIdeal_pre_finite := by
  intro m g m' g' hpre hargs
  refine ⟨fun c => Cert.KernelIdeal.Flash.G m c, Cert.KernelIdeal.Flash.run m g,
    (θ_run _ _ _).mono (fun r h c => ?_) (Cert.ReferenceIdeal.Value.run m' g')⟩
  obtain ⟨h0, hk⟩ := h c
  obtain ⟨e0, e1, e2, e3⟩ := hargs c
  refine ⟨h0.trans ?_, hk⟩
  have hp := finite_at (Cert.KernelIdeal.Flash.aQ m c) (Cert.KernelIdeal.Flash.aK m c) (Cert.KernelIdeal.Flash.aV m c) (Cert.KernelIdeal.Flash.aD m c)
  have hq : ∀ i, ∃ r : ℝ, Cert.KernelIdeal.Flash.aQ m c i = r := fun i => by
    rw [eq_ix4 i]
    exact (hp (i 0) (i 1) (i 2) (i 3) (hpre c)).1
  have hk' : ∀ i, ∃ r : ℝ, Cert.KernelIdeal.Flash.aK m c i = r := fun i => by
    rw [eq_ix4 i]
    exact (hp (i 0) (i 1) (i 2) (i 3) (hpre c)).2.1
  have hd' : ∀ i, ∃ r : ℝ, Cert.KernelIdeal.Flash.aD m c i = r := fun i => by
    rw [eq_ix3 i]
    exact (hp (i 0) (i 1) (i 2) 0 (hpre c)).2.2
  obtain ⟨fq, hq⟩ := Classical.axiomOfChoice hq
  obtain ⟨fk, hk'⟩ := Classical.axiomOfChoice hk'
  obtain ⟨fd, hd'⟩ := Classical.axiomOfChoice hd'
  obtain ⟨κ, hκ⟩ := Cert.KernelIdeal.Flash.scale_real
  rw [val_main_v31_eq, e0, e1, e2, e3]
  funext j
  obtain ⟨b, s, x, rfl⟩ : ∃ (b : Fin 8) (s : Fin 2048) (x : Fin 256), j = ix3 b s x := ⟨j 0, j 1, j 2, eq_ix3 j⟩
  obtain ⟨M, hM⟩ := v31_mean (Cert.KernelIdeal.Flash.aQ m c) (Cert.KernelIdeal.Flash.aK m c) (Cert.KernelIdeal.Flash.aV m c) (Cert.KernelIdeal.Flash.aD m c)
    fq fk fd κ hκ hq hk' hd' b s x
  exact hM.trans (Cert.KernelIdeal.Flash.G_eq m c fq fk fd κ hκ hq hk' hd' b s x M).symm

end Cert.ReferenceIdeal.Flow

end
-- ==== Proof.OutProj.lean ====
/- The output projection with its residual and norm, by its arguments: what one block of rows computes, the blocks a point reads, the array. -/
module

public import proofs.«01_k».proof.Proof.Gen.OutProjIdeal.Value
public import proofs.«01_k».proof.Proof.FfnBlock
public import Idealize.ShloMosaic.Lib.Claim
public import Idealize.ShloMosaic.Lib.StableHlo.ReadAt
public import Idealize.ShloMosaic.Lib.Pipeline.ValueKit.Geometry
public import Idealize.ShloMosaic.Lib.Pipeline.ValueKit.Acc

@[expose] public section

set_option maxRecDepth 65536

noncomputable section

namespace Cert.OutProjIdeal.Flow

open Cert.OutProjIdeal Cert.OutProjIdeal.Gen
open Idealize.SL.Sem
open Idealize.ShloMosaic Idealize.ShloMosaic.TcCoe Idealize.ShloMosaic.Tactic

/-! ## The block -/

section Block

variable (P0 : Vec Ideal S512x768 .bf16) (P1 : Vec Ideal S512x256 .bf16) (P2 : Vec Ideal S512x1024 .f32) (P3 : Vec Ideal S768x1024 .bf16)
  (P4 : Vec Ideal S256x1024 .bf16) (P5 P6 : Vec Ideal S1x1024 .f32)

/-- The residual sum at row `r` of the block. -/
def resid (r : Fin 512) (d : Fin 1024) : EReal :=
  Ideal.ofBits FTy.f32 1068827891#32 * P2 (ix2 r d) + (∑ q : Fin 768, P0 (ix2 r q) * P3 (ix2 q d) + ∑ q : Fin 256, P1 (ix2 r q) * P4 (ix2 q d))

theorem pay3_at (r : Fin 512) (d : Fin 1024) : k0_pay3 P0 P3 P1 P4 P2 (ix2 r d)
    = (resid P0 P1 P2 P3 P4 r d - Ideal.div (∑ x, resid P0 P1 P2 P3 P4 r x) (Ideal.ofBits FTy.f32 1149239296#32))
    * Ideal.rsqrt (Ideal.div (∑ y, (resid P0 P1 P2 P3 P4 r y - Ideal.div (∑ x, resid P0 P1 P2 P3 P4 r x) (Ideal.ofBits FTy.f32 1149239296#32))
        * (resid P0 P1 P2 P3 P4 r y - Ideal.div (∑ x, resid P0 P1 P2 P3 P4 r x) (Ideal.ofBits FTy.f32 1149239296#32))) (Ideal.ofBits FTy.f32 1149239296#32)
      + Ideal.ofBits FTy.f32 925353388#32) := by
  unfold resid
  pointwise [k0_pay3]

/-- The block of the result: each row's residual sum, normalised. -/
theorem block_at (r : Fin 512) (d : Fin 1024) : out0_7 P0 P1 P2 P3 P4 P5 P6 (ix2 r d)
    = Cert.FfnIdeal.Flow.norm (resid P0 P1 P2 P3 P4 r) (fun d => P5 (ix2 0 d)) (fun d => P6 (ix2 0 d)) d := by
  have z2 : (![0, 0] : Fin 2 → Nat) = fun _ => 0 := funext fun a => by
    match a with
    | ⟨0, _⟩ => rfl
    | ⟨1, _⟩ => rfl
  unfold out0_7 Cert.FfnIdeal.Flow.norm
  rw [Value.canon7_eq, show View.ld P0 r0_0 = P0 from View.ld_unit_zero z2 _ _, show View.ld P3 r0_1 = P3 from View.ld_unit_zero z2 _ _,
    show View.ld P1 r0_2 = P1 from View.ld_unit_zero z2 _ _, show View.ld P4 r0_3 = P4 from View.ld_unit_zero z2 _ _,
    show View.ld P2 r0_4 = P2 from View.ld_unit_zero z2 _ _, show View.ld P5 r0_5 = P5 from View.ld_unit_zero z2 _ _,
    show View.ld P6 r0_5 = P6 from View.ld_unit_zero z2 _ _]
  refine congrArg₂ (fun a b : EReal => a + b) (congrArg₂ (fun a b : EReal => a * b) (Eq.trans (congrArg _ (funext fun a => ?_)) (pay3_at P0 P1 P2 P3 P4 r d))
    (congrArg P5 (funext fun a => ?_))) (congrArg P6 (funext fun a => ?_))
  · match a with
    | ⟨0, _⟩ => rfl
    | ⟨1, _⟩ => rfl
  · match a with
    | ⟨0, _⟩ => rfl
    | ⟨1, _⟩ => rfl
  · match a with
    | ⟨0, _⟩ => rfl
    | ⟨1, _⟩ => rfl

end Block

/-! ## The layer's part, by its arguments -/

section Spec

variable (ya yb yc yd : (⟨3, ![8, 2048, 256]⟩ : Shape).Idx → EReal) (X : (⟨3, ![8, 2048, 1024]⟩ : Shape).Idx → EReal)
  (W : (⟨2, ![1024, 1024]⟩ : Shape).Idx → EReal) (G B : (⟨1, ![1024]⟩ : Shape).Idx → EReal)

/-- One group's part of the projection; its rows of the weight begin at `o`. -/
def part (o : Nat) (ho : o + 256 ≤ 1024) (y : (⟨3, ![8, 2048, 256]⟩ : Shape).Idx → EReal) (b : Fin 8) (s : Fin 2048) (d : Fin 1024) : EReal :=
  ∑ q : Fin 256, y (ix3 b s q) * W (ix2 ⟨o + q.val, by omega⟩ d)

/-- The residual sum. -/
def sumOf (b : Fin 8) (s : Fin 2048) (d : Fin 1024) : EReal :=
  Ideal.ofBits FTy.f32 1068827891#32 * X (ix3 b s d)
    + (part W 0 (by decide) ya b s d + part W 256 (by decide) yb b s d + part W 512 (by decide) yc b s d + part W 768 (by decide) yd b s d)

/-- The result. -/
def proj (b : Fin 8) (s : Fin 2048) (d : Fin 1024) : EReal :=
  Cert.FfnIdeal.Flow.norm (sumOf ya yb yc yd X W b s) (fun d => G (ix1 d)) (fun d => B (ix1 d)) d

end Spec

/-! ## The blocks a point reads -/

section Points

variable (m : (l : Loc nD τ sig) → Buf (Elt Ideal) l) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![t.val, 0] :=
  (by decide +kernel : ∀ t : Fin grid0.N, _)

/-- The arguments, by name. -/
abbrev aA : S8x2048x256.Idx → EReal := m ((c : Thread nD τ).loc main_arg0)
@[inherit_doc aA]
abbrev aB : S8x2048x256.Idx → EReal := m ((c : Thread nD τ).loc main_arg1)
@[inherit_doc aA]
abbrev aC : S8x2048x256.Idx → EReal := m ((c : Thread nD τ).loc main_arg2)
@[inherit_doc aA]
abbrev aD : S8x2048x256.Idx → EReal := m ((c : Thread nD τ).loc main_arg3)
@[inherit_doc aA]
abbrev aX : S8x2048x1024.Idx → EReal := m ((c : Thread nD τ).loc main_arg4)
@[inherit_doc aA]
abbrev aW : S1024x1024.Idx → EReal := m ((c : Thread nD τ).loc main_arg5)
@[inherit_doc aA]
abbrev aG : S1024.Idx → EReal := m ((c : Thread nD τ).loc main_arg6)
@[inherit_doc aA]
abbrev aH : S1024.Idx → EReal := m ((c : Thread nD τ).loc main_arg7)

/-- The sequence and the place of a row of the joined batch. -/
abbrev bOf (R : Fin 16384) : Fin 8 := ⟨R.val / 2048, by omega⟩
@[inherit_doc bOf]
abbrev sOf (R : Fin 16384) : Fin 2048 := ⟨R.val % 2048, by omega⟩

theorem V0a (R : Fin 16384) (q : Fin 256) : V m c main_v11 (ix2 R ⟨q.val, by omega⟩) = aA m c (ix3 (bOf R) (sOf R) q) := by
  unfold V
  after_reads_at
  after_reads_simp

theorem V0b (R : Fin 16384) (q : Fin 256) : V m c main_v11 (ix2 R ⟨256 + q.val, by omega⟩) = aB m c (ix3 (bOf R) (sOf R) q) := by
  unfold V
  after_reads_at
  after_reads_simp

theorem V0d (R : Fin 16384) (q : Fin 256) : V m c main_v11 (ix2 R ⟨512 + q.val, by omega⟩) = aD m c (ix3 (bOf R) (sOf R) q) := by
  unfold V
  after_reads_at
  rw [dif_neg (by omega), dif_neg (by omega)]
  after_reads_simp
  exact congrArg (fun n => aD m c (ix3 (bOf R) (sOf R) n)) (Fin.ext (by show 512 + q.val - 256 - 256 = q.val; omega))

theorem V1 (R : Fin 16384) (q : Fin 256) : V m c main_v12 (ix2 R q) = aC m c (ix3 (bOf R) (sOf R) q) := by
  unfold V
  after_reads_at

theorem V2 (R : Fin 16384) (d : Fin 1024) : V m c main_v13 (ix2 R d) = aX m c (ix3 (bOf R) (sOf R) d) := by
  unfold V
  after_reads_at

theorem V3a (q : Fin 512) (d : Fin 1024) : V m c main_v3 (ix2 ⟨q.val, by omega⟩ d) = aW m c (ix2 ⟨q.val, by omega⟩ d) := by
  unfold V
  after_reads_at
  after_reads_at

theorem V3b (q : Fin 256) (d : Fin 1024) : V m c main_v3 (ix2 ⟨512 + q.val, by omega⟩ d) = aW m c (ix2 ⟨768 + q.val, by omega⟩ d) := by
  unfold V
  after_reads_at
  after_reads_at

theorem V4 (q : Fin 256) (d : Fin 1024) : V m c main_v5 (ix2 q d) = aW m c (ix2 ⟨512 + q.val, by omega⟩ d) := by
  unfold V
  after_reads_at

theorem V5 (d : Fin 1024) : V m c main_v6 (ix2 0 d) = aG m c (ix1 d) := by
  unfold V
  after_reads_at

theorem V6 (d : Fin 1024) : V m c main_v7 (ix2 0 d) = aH m c (ix1 d) := by
  unfold V
  after_reads_at

/-- The row of the joined batch at row `r` of a point's block. -/
abbrev row (t : Fin cfg0.N) (r : Fin 512) : Fin 16384 := ⟨512 * t.val + r.val, by have := t.isLt.trans_eq N_0; omega⟩

/-- The blocks a point reads, by window. -/
abbrev b0 (t : Fin cfg0.N) : Vec Ideal S512x768 .bf16 := iblk m c 0 t
@[inherit_doc b0]
abbrev b1 (t : Fin cfg0.N) : Vec Ideal S512x256 .bf16 := iblk m c 1 t
@[inherit_doc b0]
abbrev b2 (t : Fin cfg0.N) : Vec Ideal S512x1024 .f32 := iblk m c 2 t
@[inherit_doc b0]
abbrev b3 (t : Fin cfg0.N) : Vec Ideal S768x1024 .bf16 := iblk m c 3 t
@[inherit_doc b0]
abbrev b4 (t : Fin cfg0.N) : Vec Ideal S256x1024 .bf16 := iblk m c 4 t
@[inherit_doc b0]
abbrev b5 (t : Fin cfg0.N) : Vec Ideal S1x1024 .f32 := iblk m c 5 t
@[inherit_doc b0]
abbrev b6 (t : Fin cfg0.N) : Vec Ideal S1x1024 .f32 := iblk m c 6 t

theorem blk0 (t : Fin cfg0.N) (r : Fin 512) (q : Fin 768) : b0 m c t (ix2 r q) = V m c main_v11 (ix2 (row t r) q) := by
  have ⟨h0, h1, h2, h3, h4, h5, h6, h7⟩ := idx t
  blk_ext [iblk, h0]

theorem blk1 (t : Fin cfg0.N) (r : Fin 512) (q : Fin 256) : b1 m c t (ix2 r q) = V m c main_v12 (ix2 (row t r) q) := by
  have ⟨h0, h1, h2, h3, h4, h5, h6, h7⟩ := idx t
  blk_ext [iblk, h1]

theorem blk2 (t : Fin cfg0.N) (r : Fin 512) (d : Fin 1024) : b2 m c t (ix2 r d) = V m c main_v13 (ix2 (row t r) d) := by
  have ⟨h0, h1, h2, h3, h4, h5, h6, h7⟩ := idx t
  blk_ext [iblk, h2]

theorem blk3 (t : Fin cfg0.N) (q : Fin 768) (d : Fin 1024) : b3 m c t (ix2 q d) = V m c main_v3 (ix2 q d) := by
  have ⟨h0, h1, h2, h3, h4, h5, h6, h7⟩ := idx t
  blk_ext [iblk, h3]

theorem blk4 (t : Fin cfg0.N) (q : Fin 256) (d : Fin 1024) : b4 m c t (ix2 q d) = V m c main_v5 (ix2 q d) := by
  have ⟨h0, h1, h2, h3, h4, h5, h6, h7⟩ := idx t
  blk_ext [iblk, h4]

theorem blk5 (t : Fin cfg0.N) (d : Fin 1024) : b5 m c t (ix2 0 d) = V m c main_v6 (ix2 0 d) := by
  have ⟨h0, h1, h2, h3, h4, h5, h6, h7⟩ := idx t
  blk_ext [iblk, h5]

theorem blk6 (t : Fin cfg0.N) (d : Fin 1024) : b6 m c t (ix2 0 d) = V m c main_v7 (ix2 0 d) := by
  have ⟨h0, h1, h2, h3, h4, h5, h6, h7⟩ := idx t
  blk_ext [iblk, h6]

/-- A sum over three groups, by group. -/
theorem sum_groups (f : Fin 768 → EReal) :
    ∑ q, f q = ∑ q : Fin 256, f ⟨q.val, by omega⟩ + ∑ q : Fin 256, f ⟨256 + q.val, by omega⟩ + ∑ q : Fin 256, f ⟨512 + q.val, by omega⟩ := by
  rw [show ∑ q, f q = _ from Fin.sum_univ_add (a := 512) (b := 256) f,
    Fin.sum_univ_add (a := 256) (b := 256) (fun q : Fin 512 => f (Fin.castAdd 256 q))]
  exact congrArg₂ (· + ·) (congrArg₂ (· + ·) rfl rfl) rfl

/-- The residual sums of a point's block are the layer's, at its rows. -/
theorem resid_eq (t : Fin cfg0.N) (r : Fin 512) (d : Fin 1024) : resid (b0 m c t) (b1 m c t) (b2 m c t) (b3 m c t) (b4 m c t) r d
    = sumOf (aA m c) (aB m c) (aC m c) (aD m c) (aX m c) (aW m c) (bOf (row t r)) (sOf (row t r)) d := by
  unfold resid sumOf part
  refine congrArg₂ (· + ·) (congrArg (Ideal.ofBits FTy.f32 1068827891#32 * ·) ((blk2 m c t r d).trans (V2 m c (row t r) d))) ?_
  rw [sum_groups, add_right_comm (∑ q : Fin 256, _ + ∑ q : Fin 256, _) (∑ q : Fin 256, _)]
  refine congrArg₂ (· + ·) (congrArg₂ (· + ·) (congrArg₂ (· + ·) ?_ ?_) ?_) ?_
  · refine Finset.sum_congr rfl fun q _ => congrArg₂ (· * ·) ((blk0 m c t r _).trans (V0a m c (row t r) q)) ?_
    refine (blk3 m c t _ d).trans ((V3a m c ⟨q.val, by omega⟩ d).trans (congrArg (fun n => aW m c (ix2 n d)) (Fin.ext (by show q.val = 0 + q.val; omega))))
  · exact Finset.sum_congr rfl fun q _ => congrArg₂ (· * ·) ((blk0 m c t r _).trans (V0b m c (row t r) q))
      ((blk3 m c t _ d).trans (V3a m c ⟨256 + q.val, by omega⟩ d))
  · exact Finset.sum_congr rfl fun q _ => congrArg₂ (· * ·) ((blk1 m c t r q).trans (V1 m c (row t r) q)) ((blk4 m c t q d).trans (V4 m c q d))
  · exact Finset.sum_congr rfl fun q _ => congrArg₂ (· * ·) ((blk0 m c t r _).trans (V0d m c (row t r) q)) ((blk3 m c t _ d).trans (V3b m c q d))

/-! ## The array -/

/-- The array of the result: the layer's part at every row of the joined batch. -/
def G : S16384x1024.Idx → EReal := fun j =>
  proj (aA m c) (aB m c) (aC m c) (aD m c) (aX m c) (aW m c) (aG m c) (aH m c) (bOf (j 0)) (sOf (j 0)) (j 1)

theorem out_eq (t : Fin cfg0.N) (r : Fin 512) (d : Fin 1024) :
    out0_7 (b0 m c t) (b1 m c t) (b2 m c t) (b3 m c t) (b4 m c t) (b5 m c t) (b6 m c t) (ix2 r d) = G m c (ix2 (row t r) d) := by
  rw [block_at]
  unfold G proj
  rw [show resid (b0 m c t) (b1 m c t) (b2 m c t) (b3 m c t) (b4 m c t) r = _ from funext (resid_eq m c t r),
    show (fun d => (b5 m c t (ix2 0 d) : EReal)) = _ from funext fun d => (blk5 m c t d).trans (V5 m c d),
    show (fun d => (b6 m c t (ix2 0 d) : EReal)) = _ from funext fun d => (blk6 m c t d).trans (V6 m c d)]
  rfl

theorem arr_eq : (dats m 0 c).arrAt 7 cfg0.N = G m c := by
  refine (dats m 0 c).arrAt_eq_of_covers 7 _ (by decide +kernel) fun t hf y => ?_
  have ⟨h0, h1, h2, h3, h4, h5, h6, h7⟩ := idx t
  blk_simp
  rw [after0_7]
  have hb0 : ((win0_7.blk t).view.emb y 0).val = 512 * t.val + (y 0).val := by blk_simp [h7]; omega
  have hb1 : ((win0_7.blk t).view.emb y 1).val = (y 1).val := by blk_simp [h7]
  have h := out_eq m c t (y 0) (y 1)
  rw [← eq_ix2 y] at h
  refine h.trans (congrArg (G m c) (funext fun a => ?_))
  match a with
  | ⟨0, _⟩ => exact Fin.ext hb0.symm
  | ⟨1, _⟩ => exact Fin.ext hb1.symm

end Points

end Cert.OutProjIdeal.Flow

end
-- ==== Proof.OutProjReference.lean ====
/- The plain output projection read index by index: its result is the spec of the kernel's value module, and so the two programs agree. -/
module

public import proofs.«01_k».proof.Proof.OutProj
public import proofs.«01_k».proof.Proof.Gen.OutProjReferenceIdeal.Run
public import proofs.«01_k».proof.Defs
public import proofs.«01_k».proof.Proof.Gen.OutProjReferenceIdeal.Read

@[expose] public section

set_option maxRecDepth 65536

noncomputable section

namespace Cert.OutProjReferenceIdeal.Flow

open Cert.OutProjReferenceIdeal Cert.OutProjReferenceIdeal.Gen Cert.OutProjReferenceIdeal.Read
open Cert.OutProjIdeal.Flow (part sumOf proj bOf sOf)
open Idealize.SL.Sem
open Idealize.ShloMosaic Idealize.ShloMosaic.TcCoe Idealize.ShloMosaic.Tactic

variable (x0 x1 x2 x3 : S8x2048x256.Idx → EReal) (x4 : S8x2048x1024.Idx → EReal) (x5 : S1024x1024.Idx → EReal) (x6 x7 : S1024.Idx → EReal)

/-- The four groups, joined: a column of group `g` is `256 * g` further on. -/
theorem v0_a (b : Fin 8) (s : Fin 2048) (q : Fin 256) : val_main_v0 (F := Ideal) x0 x1 x2 x3 (ix3 b s ⟨0 + q.val, by omega⟩) = x0 (ix3 b s q) := by
  pointwise [val_main_v0]

@[inherit_doc v0_a]
theorem v0_b (b : Fin 8) (s : Fin 2048) (q : Fin 256) : val_main_v0 (F := Ideal) x0 x1 x2 x3 (ix3 b s ⟨256 + q.val, by omega⟩) = x1 (ix3 b s q) := by
  pointwise [val_main_v0]

@[inherit_doc v0_a]
theorem v0_c (b : Fin 8) (s : Fin 2048) (q : Fin 256) : val_main_v0 (F := Ideal) x0 x1 x2 x3 (ix3 b s ⟨512 + q.val, by omega⟩) = x2 (ix3 b s q) := by
  pointwise [val_main_v0]
  rw [dif_neg (by omega), dif_neg (by omega), dif_pos (by omega)]
  exact congrArg (fun n => x2 (ix3 b s n)) (Fin.ext (by show 512 + q.val - 256 - 256 = q.val; omega))

@[inherit_doc v0_a]
theorem v0_d (b : Fin 8) (s : Fin 2048) (q : Fin 256) : val_main_v0 (F := Ideal) x0 x1 x2 x3 (ix3 b s ⟨768 + q.val, by omega⟩) = x3 (ix3 b s q) := by
  pointwise [val_main_v0]
  rw [dif_neg (by omega), dif_neg (by omega), dif_neg (by omega)]
  exact congrArg (fun n => x3 (ix3 b s n)) (Fin.ext (by show 768 + q.val - 256 - 256 - 256 = q.val; omega))

/-- A sum over four groups, by group. -/
theorem sum_four (f : Fin 1024 → EReal) : ∑ q, f q = ∑ q : Fin 256, f ⟨0 + q.val, by omega⟩ + ∑ q : Fin 256, f ⟨256 + q.val, by omega⟩
    + ∑ q : Fin 256, f ⟨512 + q.val, by omega⟩ + ∑ q : Fin 256, f ⟨768 + q.val, by omega⟩ := by
  rw [show ∑ q, f q = _ from Fin.sum_univ_add (a := 768) (b := 256) f, Cert.OutProjIdeal.Flow.sum_groups (fun q : Fin 768 => f (Fin.castAdd 256 q))]
  refine congrArg₂ (· + ·) (congrArg₂ (· + ·) (congrArg₂ (· + ·) (Finset.sum_congr rfl fun q _ => congrArg f (Fin.ext ?_)) rfl) rfl) rfl
  show q.val = 0 + q.val
  omega

theorem v1_eq (b : Fin 8) (s : Fin 2048) (d : Fin 1024) : val_main_v1 (F := Ideal) x0 x1 x2 x3 x5 (ix3 b s d)
    = part x5 0 (by decide) x0 b s d + part x5 256 (by decide) x1 b s d + part x5 512 (by decide) x2 b s d + part x5 768 (by decide) x3 b s d := by
  have h : val_main_v1 (F := Ideal) x0 x1 x2 x3 x5 (ix3 b s d) = ∑ q : Fin 1024, val_main_v0 (F := Ideal) x0 x1 x2 x3 (ix3 b s q) * x5 (ix2 q d) := by
    pointwise [val_main_v1]
  rw [h, sum_four]
  unfold part
  simp only [v0_a, v0_b, v0_c, v0_d]

theorem v4_eq (b : Fin 8) (s : Fin 2048) (d : Fin 1024) : val_main_v4 (F := Ideal) x0 x1 x2 x3 x4 x5 (ix3 b s d) = sumOf x0 x1 x2 x3 x4 x5 b s d := by
  unfold sumOf
  rw [← v1_eq]
  pointwise [val_main_v4, val_main_v3, val_main_v2, val_main_cst]

theorem v28_eq (b : Fin 8) (s : Fin 2048) (d : Fin 1024) : val_main_v28 (F := Ideal) x0 x1 x2 x3 x4 x5 x6 x7 (ix3 b s d) = proj x0 x1 x2 x3 x4 x5 x6 x7 b s d := by
  unfold proj Cert.FfnIdeal.Flow.norm
  simp only [← v4_eq]
  pointwise [val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_cst_0, val_main_cst_1, val_main_cst_2, val_main_cst_3, val_main_cst_4]

/-- The result as a whole array: row `r` is position `r % 2048` of sequence `r / 2048`. -/
theorem v29_all : val_main_v29 (F := Ideal) x0 x1 x2 x3 x4 x5 x6 x7 = fun j => proj x0 x1 x2 x3 x4 x5 x6 x7 (bOf (j 0)) (sOf (j 0)) (j 1) := by
  funext j
  rw [val_main_v29_apply]
  refine Eq.trans (congrArg _ (funext fun a => ?_)) (v28_eq x0 x1 x2 x3 x4 x5 x6 x7 (bOf (j 0)) (sOf (j 0)) (j 1))
  have h0 : (j 0).val < 16384 := (j 0).isLt
  have h1 : (j 1).val < 1024 := (j 1).isLt
  match a with
  | ⟨0, _⟩ => exact Fin.ext (by simp [idx_main_v29, bOf]; try omega)
  | ⟨1, _⟩ => exact Fin.ext (by simp [idx_main_v29, sOf]; try omega)
  | ⟨2, _⟩ => exact Fin.ext (by simp [idx_main_v29]; try omega)

/-- The kernel and the reference end with equal results, whatever the arguments. -/
theorem algebraic : Cert.algebraic_OutProjIdeal_OutProjReferenceIdeal := by
  intro m g m' g' _ hargs
  refine ⟨fun c => Cert.OutProjIdeal.Flow.G m c,
    (θ_run _ _ _).mono (fun r h c => ⟨(h c).1.trans (Cert.OutProjIdeal.Flow.arr_eq m c), (h c).2⟩) (Cert.OutProjIdeal.Value.run_blocks m g),
    (θ_run _ _ _).mono (fun r h c => ?_) (Cert.OutProjReferenceIdeal.Value.run m' g')⟩
  obtain ⟨h0, hk⟩ := h c
  obtain ⟨e0, e1, e2, e3, e4, e5, e6, e7⟩ := hargs c
  refine ⟨h0.trans ?_, hk⟩
  rw [val_main_v29_eq, v29_all, e0, e1, e2, e3, e4, e5, e6, e7]
  rfl

end Cert.OutProjReferenceIdeal.Flow

end
-- ==== Proof.FfnSampleBlock.lean ====
/- One point of the feed-forward kernel's grid for the sample, as arithmetic. -/
module

public import proofs.«01_k».proof.Proof.Gen.FfnSampleIdeal.Value
public import proofs.«01_k».proof.Proof.FfnBlock
public import Idealize.ShloMosaic.Lib.Pipeline.ValueKit
public import Idealize.ShloMosaic.Lib.Pointwise
public import Idealize.ShloMosaic.Lib.Pipeline.ReadBack

@[expose] public section

set_option maxRecDepth 65536

noncomputable section

namespace Cert.FfnSampleIdeal.Flow

open Cert.FfnSampleIdeal Cert.FfnSampleIdeal.Gen
open Cert.FfnIdeal.Flow (sum_chunks)
open Idealize.ShloMosaic Idealize.ShloMosaic.TcCoe Idealize.ShloMosaic.Tactic
open Idealize.ShloMosaic.Pipeline (Dat)

variable (x0 : Vec Ideal S32x16x1024 .f32) (x1 : Vec Ideal S1024x5376 .bf16) (x2 : Vec Ideal S8x2688 .f32) (x3 : Vec Ideal S1x2688 .f32)
  (x4 : Vec Ideal S2688x1024 .bf16) (x5 x6 : Vec Ideal S1x1024 .f32) (k : Vec Ideal S32x8x2688 .f32) (Y : Vec Ideal S32x24x2688 .f32)

/-- The row of the joined batch at row `r` of sequence `b`. -/
abbrev fl (b : Fin 32) (r : Fin 16) : Fin 512 := ⟨b.val * 16 + r.val, by omega⟩

theorem fl_b (b : Fin 32) (r : Fin 16) (h : (b.val * 16 + r.val) / 16 < 32) : (⟨(b.val * 16 + r.val) / 16, h⟩ : Fin 32) = b := Fin.ext (by show (b.val * 16 + r.val) / 16 = b.val; omega)

theorem fl_r (b : Fin 32) (r : Fin 16) (h : (b.val * 16 + r.val) % 16 < 16) : (⟨(b.val * 16 + r.val) % 16, h⟩ : Fin 16) = r := Fin.ext (by show (b.val * 16 + r.val) % 16 = r.val; omega)

theorem fl_mod (b : Fin 32) (r : Fin 16) : (b.val * 16 + r.val) % 16 = r.val := by omega

/-- The three taps and the bias at row `r` of sequence `b`, from the rows `Y` the convolution sees. -/
def conv (b : Fin 32) (r : Fin 16) (c : Fin 2688) : EReal :=
  Y (ix3 b ⟨6 + r.val, by omega⟩ c) * x2 (ix2 0 c) + Y (ix3 b ⟨7 + r.val, by omega⟩ c) * x2 (ix2 1 c)
    + (∑ q : Fin 1024, x0 (ix3 b r q) * x1 (ix2 q ⟨c.val, by omega⟩)) * x2 (ix2 2 c) + x3 (ix2 0 c)

/-- The residual sum at row `r` of sequence `b`. -/
def resid (b : Fin 32) (r : Fin 16) (d : Fin 1024) : EReal :=
  Ideal.ofBits FTy.f32 1068827891#32 * x0 (ix3 b r d)
    + ∑ c : Fin 2688, Cert.FfnIdeal.Flow.hidden (conv x0 x1 x2 x3 Y b r c) (∑ q : Fin 1024, x0 (ix3 b r q) * x1 (ix2 q ⟨2688 + c.val, by omega⟩)) * x4 (ix2 c d)

/-- The sum before the normalisation, of the last chunk's parts. -/
def raw (v4 v106 : FVec Ideal S512x1024 .f32) (v112 : FVec Ideal S512x896 .f32) (v140 v143 v144 : FVec Ideal S32x16x896 .f32)
    (v153 : Vec Ideal S896x1024 .bf16) (b : Fin 32) (r : Fin 16) (d : Fin 1024) : EReal :=
  Ideal.ofBits FTy.f32 1068827891#32 * v4 (ix2 (fl b r) d) + (v106 (ix2 (fl b r) d)
    + ∑ x, v140 (ix3 b r x) * Ideal.div 1 (v144 (ix3 b r x) + v143 (ix3 b r x)) * v112 (ix2 (fl b r) x) * v153 (ix2 x d))

theorem p25 (v4 v106 : FVec Ideal S512x1024 .f32) (v112 : FVec Ideal S512x896 .f32) (v140 v143 v144 : FVec Ideal S32x16x896 .f32)
    (v153 : Vec Ideal S896x1024 .bf16) (b : Fin 32) (r : Fin 16) (d : Fin 1024) :
    k0_pay25 v4 v106 v112 v140 v143 v144 v153 (ix2 (fl b r) d) = raw v4 v106 v112 v140 v143 v144 v153 b r d
      - Ideal.div (∑ x, raw v4 v106 v112 v140 v143 v144 v153 b r x) (Ideal.ofBits FTy.f32 1149239296#32) := by
  unfold raw
  pointwise [k0_pay25]
  simp only [fl_b, fl_r, Nat.div_add_mod']

theorem p26 (v4 v106 : FVec Ideal S512x1024 .f32) (v112 : FVec Ideal S512x896 .f32) (v140 v143 v144 : FVec Ideal S32x16x896 .f32)
    (v153 : Vec Ideal S896x1024 .bf16) (b : Fin 32) (r : Fin 16) :
    k0_pay26 v4 v106 v112 v140 v143 v144 v153 (ix2 (fl b r) 0) = ∑ y, (raw v4 v106 v112 v140 v143 v144 v153 b r y
      - Ideal.div (∑ x, raw v4 v106 v112 v140 v143 v144 v153 b r x) (Ideal.ofBits FTy.f32 1149239296#32)) * (raw v4 v106 v112 v140 v143 v144 v153 b r y
      - Ideal.div (∑ x, raw v4 v106 v112 v140 v143 v144 v153 b r x) (Ideal.ofBits FTy.f32 1149239296#32)) := by
  have h : k0_pay26 v4 v106 v112 v140 v143 v144 v153 (ix2 (fl b r) 0)
      = ∑ y : Fin 1024, k0_pay25 v4 v106 v112 v140 v143 v144 v153 (ix2 (fl b r) y) * k0_pay25 v4 v106 v112 v140 v143 v144 v153 (ix2 (fl b r) y) := by
    pointwise [k0_pay26]
  rw [h]
  exact Finset.sum_congr rfl fun y _ => by rw [p25]

theorem p1 (v167 v169 : FVec Ideal S1x1024 .f32) (v175 : FVec Ideal S512x1024 .f32) (v178 : FVec Ideal S512x1 .f32) (b : Fin 32) (r : Fin 16) (d : Fin 1024) :
    k0_pay1 v167 v169 v175 v178 (ix3 b r d) = v175 (ix2 (fl b r) d) * Ideal.rsqrt (Ideal.div (v178 (ix2 (fl b r) 0)) (Ideal.ofBits FTy.f32 1149239296#32)
      + Ideal.ofBits FTy.f32 925353388#32) * v167 (ix2 0 d) + v169 (ix2 0 d) := by
  pointwise [k0_pay1]

theorem raw_block (b : Fin 32) (r : Fin 16) (d : Fin 1024) :
    raw  (k0_pay3 x0)
        (k0_pay14
          (k0_pay10 k0_pay5
            (k0_pay6 x0 (View.ld x1 (Rect.unit ![0, 2688] ![1024, 896] inb_S1024x5376_S1024x896_0_2688)))
            (k0_pay7 x0 (View.ld x1 (Rect.unit ![0, 0] ![1024, 896] inb_S1024x5376_S1024x896_0_0)))
            (k0_pay9
              (View.ld Y (Rect.unit ![0, 6, 0] ![32, 16, 896] inb_S32x24x2688_S32x16x896_0_6_0))
              (View.ld x2 (Rect.unit ![0, 0] ![1, 896] inb_S8x2688_S1x896_0_0))
              (View.ld Y (Rect.unit ![0, 7, 0] ![32, 16, 896] inb_S32x24x2688_S32x16x896_0_7_0))
              (View.ld x2 (Rect.unit ![1, 0] ![1, 896] inb_S8x2688_S1x896_1_0)))
            (View.ld x2 (Rect.unit ![2, 0] ![1, 896] inb_S8x2688_S1x896_2_0))
            (View.ld x3 (Rect.unit ![0, 0] ![1, 896] inb_S1x2688_S1x896_0_0))
            (View.ld x4 (Rect.unit ![0, 0] ![896, 1024] inb_S2688x1024_S896x1024_0_0)))
          (k0_pay11 (k0_pay4 x0) (View.ld x1 (Rect.unit ![0, 3584] ![1024, 896] inb_S1024x5376_S1024x896_0_3584)))
          (k0_pay12 (k0_pay4 x0) (View.ld x1 (Rect.unit ![0, 896] ![1024, 896] inb_S1024x5376_S1024x896_0_896)))
          (View.ld Y (Rect.unit ![0, 6, 896] ![32, 16, 896] inb_S32x24x2688_S32x16x896_0_6_896))
          (View.ld x2 (Rect.unit ![0, 896] ![1, 896] inb_S8x2688_S1x896_0_896))
          (View.ld Y (Rect.unit ![0, 7, 896] ![32, 16, 896] inb_S32x24x2688_S32x16x896_0_7_896))
          (View.ld x2 (Rect.unit ![1, 896] ![1, 896] inb_S8x2688_S1x896_1_896))
          (View.ld x2 (Rect.unit ![2, 896] ![1, 896] inb_S8x2688_S1x896_2_896))
          (View.ld x3 (Rect.unit ![0, 896] ![1, 896] inb_S1x2688_S1x896_0_896))
          (View.ld x4 (Rect.unit ![896, 0] ![896, 1024] inb_S2688x1024_S896x1024_896_0)))
        (k0_pay16 (k0_pay4 x0) (View.ld x1 (Rect.unit ![0, 4480] ![1024, 896] inb_S1024x5376_S1024x896_0_4480)))
        (k0_pay19 (k0_pay4 x0)
          (k0_pay15 (View.ld x1 (Rect.unit ![0, 1792] ![1024, 896] inb_S1024x5376_S1024x896_0_1792)))
          (View.ld Y (Rect.unit ![0, 6, 1792] ![32, 16, 896] inb_S32x24x2688_S32x16x896_0_6_1792))
          (View.ld x2 (Rect.unit ![0, 1792] ![1, 896] inb_S8x2688_S1x896_0_1792))
          (View.ld Y (Rect.unit ![0, 7, 1792] ![32, 16, 896] inb_S32x24x2688_S32x16x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        (k0_pay20 (k0_pay4 x0)
          (k0_pay15 (View.ld x1 (Rect.unit ![0, 1792] ![1024, 896] inb_S1024x5376_S1024x896_0_1792)))
          (View.ld Y (Rect.unit ![0, 6, 1792] ![32, 16, 896] inb_S32x24x2688_S32x16x896_0_6_1792))
          (View.ld x2 (Rect.unit ![0, 1792] ![1, 896] inb_S8x2688_S1x896_0_1792))
          (View.ld Y (Rect.unit ![0, 7, 1792] ![32, 16, 896] inb_S32x24x2688_S32x16x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        k0_pay21 (View.ld x4 (Rect.unit ![1792, 0] ![896, 1024] inb_S2688x1024_S896x1024_1792_0)) b r d = resid x0 x1 x2 x3 x4 Y b r d := by
  unfold raw resid
  rw [sum_chunks]
  unfold Cert.FfnIdeal.Flow.hidden conv
  pointwise [k0_pay3, k0_pay4, k0_pay5, k0_pay6, k0_pay7, k0_pay9, k0_pay10, k0_pay11, k0_pay12, k0_pay14, k0_pay15, k0_pay16, k0_pay17, k0_pay19, k0_pay20, k0_pay21]
  simp only [fl_b, fl_r, fl_mod, Nat.div_add_mod', ← Nat.add_assoc, Nat.reduceAdd]

/-- The block of the result at one point, from the rows `Y` the convolution sees. -/
def blockOut : FVec Ideal S32x16x1024 .f32 :=
  k0_pay1 (k0_pay23 x5) (k0_pay24 x6)
      (k0_pay25 (k0_pay3 x0)
        (k0_pay14
          (k0_pay10 k0_pay5
            (k0_pay6 x0 (View.ld x1 (Rect.unit ![0, 2688] ![1024, 896] inb_S1024x5376_S1024x896_0_2688)))
            (k0_pay7 x0 (View.ld x1 (Rect.unit ![0, 0] ![1024, 896] inb_S1024x5376_S1024x896_0_0)))
            (k0_pay9
              (View.ld Y (Rect.unit ![0, 6, 0] ![32, 16, 896] inb_S32x24x2688_S32x16x896_0_6_0))
              (View.ld x2 (Rect.unit ![0, 0] ![1, 896] inb_S8x2688_S1x896_0_0))
              (View.ld Y (Rect.unit ![0, 7, 0] ![32, 16, 896] inb_S32x24x2688_S32x16x896_0_7_0))
              (View.ld x2 (Rect.unit ![1, 0] ![1, 896] inb_S8x2688_S1x896_1_0)))
            (View.ld x2 (Rect.unit ![2, 0] ![1, 896] inb_S8x2688_S1x896_2_0))
            (View.ld x3 (Rect.unit ![0, 0] ![1, 896] inb_S1x2688_S1x896_0_0))
            (View.ld x4 (Rect.unit ![0, 0] ![896, 1024] inb_S2688x1024_S896x1024_0_0)))
          (k0_pay11 (k0_pay4 x0) (View.ld x1 (Rect.unit ![0, 3584] ![1024, 896] inb_S1024x5376_S1024x896_0_3584)))
          (k0_pay12 (k0_pay4 x0) (View.ld x1 (Rect.unit ![0, 896] ![1024, 896] inb_S1024x5376_S1024x896_0_896)))
          (View.ld Y (Rect.unit ![0, 6, 896] ![32, 16, 896] inb_S32x24x2688_S32x16x896_0_6_896))
          (View.ld x2 (Rect.unit ![0, 896] ![1, 896] inb_S8x2688_S1x896_0_896))
          (View.ld Y (Rect.unit ![0, 7, 896] ![32, 16, 896] inb_S32x24x2688_S32x16x896_0_7_896))
          (View.ld x2 (Rect.unit ![1, 896] ![1, 896] inb_S8x2688_S1x896_1_896))
          (View.ld x2 (Rect.unit ![2, 896] ![1, 896] inb_S8x2688_S1x896_2_896))
          (View.ld x3 (Rect.unit ![0, 896] ![1, 896] inb_S1x2688_S1x896_0_896))
          (View.ld x4 (Rect.unit ![896, 0] ![896, 1024] inb_S2688x1024_S896x1024_896_0)))
        (k0_pay16 (k0_pay4 x0) (View.ld x1 (Rect.unit ![0, 4480] ![1024, 896] inb_S1024x5376_S1024x896_0_4480)))
        (k0_pay19 (k0_pay4 x0)
          (k0_pay15 (View.ld x1 (Rect.unit ![0, 1792] ![1024, 896] inb_S1024x5376_S1024x896_0_1792)))
          (View.ld Y (Rect.unit ![0, 6, 1792] ![32, 16, 896] inb_S32x24x2688_S32x16x896_0_6_1792))
          (View.ld x2 (Rect.unit ![0, 1792] ![1, 896] inb_S8x2688_S1x896_0_1792))
          (View.ld Y (Rect.unit ![0, 7, 1792] ![32, 16, 896] inb_S32x24x2688_S32x16x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        (k0_pay20 (k0_pay4 x0)
          (k0_pay15 (View.ld x1 (Rect.unit ![0, 1792] ![1024, 896] inb_S1024x5376_S1024x896_0_1792)))
          (View.ld Y (Rect.unit ![0, 6, 1792] ![32, 16, 896] inb_S32x24x2688_S32x16x896_0_6_1792))
          (View.ld x2 (Rect.unit ![0, 1792] ![1, 896] inb_S8x2688_S1x896_0_1792))
          (View.ld Y (Rect.unit ![0, 7, 1792] ![32, 16, 896] inb_S32x24x2688_S32x16x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        k0_pay21 (View.ld x4 (Rect.unit ![1792, 0] ![896, 1024] inb_S2688x1024_S896x1024_1792_0)))
      (k0_pay26 (k0_pay3 x0)
        (k0_pay14
          (k0_pay10 k0_pay5
            (k0_pay6 x0 (View.ld x1 (Rect.unit ![0, 2688] ![1024, 896] inb_S1024x5376_S1024x896_0_2688)))
            (k0_pay7 x0 (View.ld x1 (Rect.unit ![0, 0] ![1024, 896] inb_S1024x5376_S1024x896_0_0)))
            (k0_pay9
              (View.ld Y (Rect.unit ![0, 6, 0] ![32, 16, 896] inb_S32x24x2688_S32x16x896_0_6_0))
              (View.ld x2 (Rect.unit ![0, 0] ![1, 896] inb_S8x2688_S1x896_0_0))
              (View.ld Y (Rect.unit ![0, 7, 0] ![32, 16, 896] inb_S32x24x2688_S32x16x896_0_7_0))
              (View.ld x2 (Rect.unit ![1, 0] ![1, 896] inb_S8x2688_S1x896_1_0)))
            (View.ld x2 (Rect.unit ![2, 0] ![1, 896] inb_S8x2688_S1x896_2_0))
            (View.ld x3 (Rect.unit ![0, 0] ![1, 896] inb_S1x2688_S1x896_0_0))
            (View.ld x4 (Rect.unit ![0, 0] ![896, 1024] inb_S2688x1024_S896x1024_0_0)))
          (k0_pay11 (k0_pay4 x0) (View.ld x1 (Rect.unit ![0, 3584] ![1024, 896] inb_S1024x5376_S1024x896_0_3584)))
          (k0_pay12 (k0_pay4 x0) (View.ld x1 (Rect.unit ![0, 896] ![1024, 896] inb_S1024x5376_S1024x896_0_896)))
          (View.ld Y (Rect.unit ![0, 6, 896] ![32, 16, 896] inb_S32x24x2688_S32x16x896_0_6_896))
          (View.ld x2 (Rect.unit ![0, 896] ![1, 896] inb_S8x2688_S1x896_0_896))
          (View.ld Y (Rect.unit ![0, 7, 896] ![32, 16, 896] inb_S32x24x2688_S32x16x896_0_7_896))
          (View.ld x2 (Rect.unit ![1, 896] ![1, 896] inb_S8x2688_S1x896_1_896))
          (View.ld x2 (Rect.unit ![2, 896] ![1, 896] inb_S8x2688_S1x896_2_896))
          (View.ld x3 (Rect.unit ![0, 896] ![1, 896] inb_S1x2688_S1x896_0_896))
          (View.ld x4 (Rect.unit ![896, 0] ![896, 1024] inb_S2688x1024_S896x1024_896_0)))
        (k0_pay16 (k0_pay4 x0) (View.ld x1 (Rect.unit ![0, 4480] ![1024, 896] inb_S1024x5376_S1024x896_0_4480)))
        (k0_pay19 (k0_pay4 x0)
          (k0_pay15 (View.ld x1 (Rect.unit ![0, 1792] ![1024, 896] inb_S1024x5376_S1024x896_0_1792)))
          (View.ld Y (Rect.unit ![0, 6, 1792] ![32, 16, 896] inb_S32x24x2688_S32x16x896_0_6_1792))
          (View.ld x2 (Rect.unit ![0, 1792] ![1, 896] inb_S8x2688_S1x896_0_1792))
          (View.ld Y (Rect.unit ![0, 7, 1792] ![32, 16, 896] inb_S32x24x2688_S32x16x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        (k0_pay20 (k0_pay4 x0)
          (k0_pay15 (View.ld x1 (Rect.unit ![0, 1792] ![1024, 896] inb_S1024x5376_S1024x896_0_1792)))
          (View.ld Y (Rect.unit ![0, 6, 1792] ![32, 16, 896] inb_S32x24x2688_S32x16x896_0_6_1792))
          (View.ld x2 (Rect.unit ![0, 1792] ![1, 896] inb_S8x2688_S1x896_0_1792))
          (View.ld Y (Rect.unit ![0, 7, 1792] ![32, 16, 896] inb_S32x24x2688_S32x16x896_0_7_1792))
          (View.ld x2 (Rect.unit ![1, 1792] ![1, 896] inb_S8x2688_S1x896_1_1792))
          (View.ld x2 (Rect.unit ![2, 1792] ![1, 896] inb_S8x2688_S1x896_2_1792))
          (View.ld x3 (Rect.unit ![0, 1792] ![1, 896] inb_S1x2688_S1x896_0_1792)))
        k0_pay21 (View.ld x4 (Rect.unit ![1792, 0] ![896, 1024] inb_S2688x1024_S896x1024_1792_0)))

theorem blockOut_apply (b : Fin 32) (r : Fin 16) (d : Fin 1024) :
    blockOut x0 x1 x2 x3 x4 x5 x6 Y (ix3 b r d)
      = Cert.FfnIdeal.Flow.norm (resid x0 x1 x2 x3 x4 Y b r) (fun d => x5 (ix2 0 d)) (fun d => x6 (ix2 0 d)) d := by
  unfold blockOut
  rw [p1, p25, p26]
  simp only [raw_block]
  unfold Cert.FfnIdeal.Flow.norm
  pointwise [k0_pay23, k0_pay24]

/-! ## The carried rows -/

/-- The rows the convolution of a tile sees: the eight carried ones, then the tile's own gates. -/
def ext : Vec Ideal S32x24x2688 .f32 := fun y =>
  if h : (y 1).val < 8 then k (ix3 ⟨(y 0).val, (y 0).isLt⟩ ⟨(y 1).val, h⟩ ⟨(y 2).val, (y 2).isLt⟩)
  else ∑ q : Fin 1024, x0 (ix3 ⟨(y 0).val, (y 0).isLt⟩ ⟨(y 1).val - 8, by have : (y 1).val < 24 := (y 1).isLt; omega⟩ q)
    * x1 (ix2 q ⟨(y 2).val, lt_of_lt_of_le (y 2).isLt (by decide)⟩)

theorem ext_lt (y : S32x24x2688.Idx) (h : (y 1).val < 8) : ext x0 x1 k y = k (ix3 ⟨(y 0).val, (y 0).isLt⟩ ⟨(y 1).val, h⟩ ⟨(y 2).val, (y 2).isLt⟩) := dif_pos h

theorem ext_ge (y : S32x24x2688.Idx) (h : ¬(y 1).val < 8) : ext x0 x1 k y = ∑ q : Fin 1024, x0 (ix3 ⟨(y 0).val, (y 0).isLt⟩ ⟨(y 1).val - 8, by have : (y 1).val < 24 := (y 1).isLt; omega⟩ q)
    * x1 (ix2 q ⟨(y 2).val, lt_of_lt_of_le (y 2).isLt (by decide)⟩) := dif_neg h

/-- A chunk of gates is those rows at its place. -/
theorem gate_piece (o : Nat) (ho : o + 896 ≤ 2688) (inb : ∀ a, (![0, 8, o] : Fin 3 → Nat) a + (![32, 16, 896] : Fin 3 → Nat) a ≤ S32x24x2688.size a)
    (w : Vec Ideal S32x16x896 .f32) (hw : ∀ (b : Fin 32) (r : Fin 16) (c : Fin 896), w (ix3 b r c) = ∑ q : Fin 1024, x0 (ix3 b r q) * x1 (ix2 q ⟨o + c.val, by omega⟩))
    (x : S32x16x896.Idx) : w x = ext x0 x1 k ((Rect.unit (s := S32x24x2688) ![0, 8, o] ![32, 16, 896] inb).emb x) := by
  have h0 : (x 0).val < 32 := (x 0).isLt
  have h1 : (x 1).val < 16 := (x 1).isLt
  have h2 : (x 2).val < 896 := (x 2).isLt
  have hx : x = ix3 ⟨(x 0).val, h0⟩ ⟨(x 1).val, h1⟩ ⟨(x 2).val, h2⟩ := funext fun a => by
    match a with
    | ⟨0, _⟩ => rfl
    | ⟨1, _⟩ => rfl
    | ⟨2, _⟩ => rfl
  refine ((congrArg w hx).trans (hw _ _ _)).trans (Eq.trans ?_ (ext_ge x0 x1 k _ (by show ¬(8 + 1 * (x 1).val < 8); omega)).symm)
  refine Finset.sum_congr rfl fun q _ => congrArg₂ (· * ·) (congrArg x0 ?_) (congrArg x1 ?_)
  · exact funext fun a => by
      match a with
      | ⟨0, _⟩ => exact Fin.ext (by show (x 0).val = 0 + 1 * (x 0).val; omega)
      | ⟨1, _⟩ => exact Fin.ext (by show (x 1).val = 8 + 1 * (x 1).val - 8; omega)
      | ⟨2, _⟩ => rfl
  · exact funext fun a => by
      match a with
      | ⟨0, _⟩ => rfl
      | ⟨1, _⟩ => exact Fin.ext (by show o + (x 2).val = o + 1 * (x 2).val; omega)

/-- The first eight rows are the carried ones. -/
theorem carry_piece (inb : ∀ a, (![0, 0, 0] : Fin 3 → Nat) a + (![32, 8, 2688] : Fin 3 → Nat) a ≤ S32x24x2688.size a)
    (x : S32x8x2688.Idx) : k x = ext x0 x1 k ((Rect.unit (s := S32x24x2688) ![0, 0, 0] ![32, 8, 2688] inb).emb x) := by
  have h1 : (x 1).val < 8 := (x 1).isLt
  refine Eq.trans ?_ (ext_lt x0 x1 k _ (by show 0 + 1 * (x 1).val < 8; omega)).symm
  refine congrArg k (funext fun a => ?_)
  match a with
  | ⟨0, _⟩ => exact Fin.ext (by show (x 0).val = 0 + 1 * (x 0).val; omega)
  | ⟨1, _⟩ => exact Fin.ext (by show (x 1).val = 0 + 1 * (x 1).val; omega)
  | ⟨2, _⟩ => exact Fin.ext (by show (x 2).val = 0 + 1 * (x 2).val; omega)

/-- The stores of the first, second and third chunk of gates. -/
abbrev g0 : View.Piece (Elt Ideal) S32x24x2688 .f32 := ⟨Rect.unit ![0, 8, 0] ![32, 16, 896] inb_S32x24x2688_S32x16x896_0_8_0,
  k0_pay8 x0 (View.ld x1 (Rect.unit ![0, 0] ![1024, 896] inb_S1024x5376_S1024x896_0_0))⟩
@[inherit_doc g0]
abbrev g1 : View.Piece (Elt Ideal) S32x24x2688 .f32 := ⟨Rect.unit ![0, 8, 896] ![32, 16, 896] inb_S32x24x2688_S32x16x896_0_8_896,
  k0_pay13 (k0_pay4 x0) (View.ld x1 (Rect.unit ![0, 896] ![1024, 896] inb_S1024x5376_S1024x896_0_896))⟩
@[inherit_doc g0]
abbrev g2 : View.Piece (Elt Ideal) S32x24x2688 .f32 := ⟨Rect.unit ![0, 8, 1792] ![32, 16, 896] inb_S32x24x2688_S32x16x896_0_8_1792,
  k0_pay18 (k0_pay4 x0) (k0_pay15 (View.ld x1 (Rect.unit ![0, 1792] ![1024, 896] inb_S1024x5376_S1024x896_0_1792)))⟩
/-- The store of the carried rows. -/
abbrev gk : View.Piece (Elt Ideal) S32x24x2688 .f32 := ⟨Rect.unit ![0, 0, 0] ![32, 8, 2688] inb_S32x24x2688_S32x8x2688_0_0_0, k0_pay2 k⟩

theorem g0_ext (x) : (g0 x0 x1).2 x = ext x0 x1 k ((g0 x0 x1).1.emb x) :=
  gate_piece x0 x1 k 0 (by decide) inb_S32x24x2688_S32x16x896_0_8_0 _ (fun b r c => by pointwise [g0, k0_pay8, k0_pay7, k0_pay4, k0_pay3]) x

theorem g1_ext (x) : (g1 x0 x1).2 x = ext x0 x1 k ((g1 x0 x1).1.emb x) :=
  gate_piece x0 x1 k 896 (by decide) inb_S32x24x2688_S32x16x896_0_8_896 _ (fun b r c => by pointwise [g1, k0_pay13, k0_pay12, k0_pay4, k0_pay3]) x

theorem g2_ext (x) : (g2 x0 x1).2 x = ext x0 x1 k ((g2 x0 x1).1.emb x) :=
  gate_piece x0 x1 k 1792 (by decide) inb_S32x24x2688_S32x16x896_0_8_1792 _ (fun b r c => by pointwise [g2, k0_pay18, k0_pay17, k0_pay15, k0_pay4, k0_pay3]) x

theorem gk_ext (x) : (gk k).2 x = ext x0 x1 k ((gk k).1.emb x) :=
  (congrFun (show k0_pay2 k = k from (shapeCast_id _ _).trans (shapeCast_id _ _)) x).trans (carry_piece x0 x1 k inb_S32x24x2688_S32x8x2688_0_0_0 x)

theorem mem_gk (y : S32x24x2688.Idx) (h : (y 1).val < 8) : y ∈ (gk k).1.set := by
  have h0 : (y 0).val < 32 := (y 0).isLt
  have h2 : (y 2).val < 2688 := (y 2).isLt
  refine (Rect.mem_set_unit (inb := inb_S32x24x2688_S32x8x2688_0_0_0)).2 fun a => ?_
  match a with
  | ⟨0, _⟩ => exact ⟨Nat.zero_le _, by show (y 0).val < 0 + 32; omega⟩
  | ⟨1, _⟩ => exact ⟨Nat.zero_le _, by show (y 1).val < 0 + 8; omega⟩
  | ⟨2, _⟩ => exact ⟨Nat.zero_le _, by show (y 2).val < 0 + 2688; omega⟩

theorem mem_gate (o : Nat) (inb : ∀ a, (![0, 8, o] : Fin 3 → Nat) a + (![32, 16, 896] : Fin 3 → Nat) a ≤ S32x24x2688.size a)
    (y : S32x24x2688.Idx) (h : 8 ≤ (y 1).val) (hl : o ≤ (y 2).val) (hu : (y 2).val < o + 896) :
    y ∈ (Rect.unit (s := S32x24x2688) ![0, 8, o] ![32, 16, 896] inb).set := by
  have h0 : (y 0).val < 32 := (y 0).isLt
  have h1 : (y 1).val < 24 := (y 1).isLt
  refine (Rect.mem_set_unit (inb := inb)).2 fun a => ?_
  match a with
  | ⟨0, _⟩ => exact ⟨Nat.zero_le _, by show (y 0).val < 0 + 32; omega⟩
  | ⟨1, _⟩ => exact ⟨h, by show (y 1).val < 8 + 16; omega⟩
  | ⟨2, _⟩ => exact ⟨hl, hu⟩

/-- After the first chunk's store its columns hold the tile's gates; -/
theorem cov1 (y : S32x24x2688.Idx) (h : 8 ≤ (y 1).val) (hu : (y 2).val < 896) : ∃ p ∈ [g0 x0 x1], y ∈ p.1.set :=
  ⟨g0 x0 x1, by simp, mem_gate 0 inb_S32x24x2688_S32x16x896_0_8_0 y h (Nat.zero_le _) (by omega)⟩

/-- after the second's, its columns as well; -/
theorem cov2 (y : S32x24x2688.Idx) (h : 8 ≤ (y 1).val) (hu : (y 2).val < 1792) : ∃ p ∈ [g1 x0 x1, g0 x0 x1], y ∈ p.1.set := by
  by_cases hy : (y 2).val < 896
  · obtain ⟨p, hp, hm⟩ := cov1 x0 x1 y h hy
    exact ⟨p, List.mem_cons_of_mem _ hp, hm⟩
  · exact ⟨g1 x0 x1, by simp, mem_gate 896 inb_S32x24x2688_S32x16x896_0_8_896 y h (by omega) (by omega)⟩

/-- after the third's, all of them. -/
theorem cov3 (y : S32x24x2688.Idx) (h : 8 ≤ (y 1).val) : ∃ p ∈ [g2 x0 x1, g1 x0 x1, g0 x0 x1], y ∈ p.1.set := by
  have h2 : (y 2).val < 2688 := (y 2).isLt
  by_cases hy : (y 2).val < 1792
  · obtain ⟨p, hp, hm⟩ := cov2 x0 x1 y h hy
    exact ⟨p, List.mem_cons_of_mem _ hp, hm⟩
  · exact ⟨g2 x0 x1, by simp, mem_gate 1792 inb_S32x24x2688_S32x16x896_0_8_1792 y h (by omega) (by omega)⟩

/-- A list of stores of gates, with the carried rows' store under it or not, covers what the gates' stores cover. -/
theorem cov_append {L : List (View.Piece (Elt Ideal) S32x24x2688 .f32)} {y : S32x24x2688.Idx}
    (h : 8 ≤ (y 1).val → ∃ p ∈ L, y ∈ p.1.set) : ∃ p ∈ L ++ [gk k], y ∈ p.1.set := by
  by_cases hy : (y 1).val < 8
  · exact ⟨gk k, by simp, mem_gk k y hy⟩
  · obtain ⟨p, hp, hm⟩ := h (by omega)
    exact ⟨p, List.mem_append_left _ hp, hm⟩

section Reads

variable {sg : RefSig} {κ : Kind} {sp : Space} (v : View sg κ sp S32x24x2688 .f32)

/-- A load after stores that are all of `G` and cover it reads `G`. -/
theorem readCov_of_pieces {G : Vec Ideal S32x24x2688 .f32} {L : List (View.Piece (Elt Ideal) S32x24x2688 .f32)}
    (hL : ∀ p ∈ L, ∀ x, p.2 x = G (p.1.emb x)) (r : Rect S32x24x2688) (hc : ∀ j, ∃ p ∈ L, r.emb j ∈ p.1.set) :
    v.readCov L r.toLoadRect = View.ld G r :=
  funext fun j => View.read_writes_apply_of_pieces v v.junk G L hL _ (hc j)

end Reads

/-! ## The point -/

section Cases

variable (cd : Dev nD) (i : grid0.Coords) (arg2 : Memref sig .tc .vmem S32x16x1024 .f32) (harg2 : arg2.IsWhole) (arg3 : Memref sig .tc .vmem S1024x5376 .bf16) (harg3 : arg3.IsWhole) (arg4 : Memref sig .tc .vmem S8x2688 .f32) (harg4 : arg4.IsWhole) (arg5 : Memref sig .tc .vmem S1x2688 .f32) (harg5 : arg5.IsWhole) (arg6 : Memref sig .tc .vmem S2688x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S32x8x2688 .f32) (harg9 : arg9.IsWhole) (arg10 : Memref sig .tc .vmem S32x16x1024 .f32) (harg10 : arg10.IsWhole) (arg11 : Memref sig .tc .vmem S32x2x2688 .f32) (harg11 : arg11.IsWhole) (arg12 : Memref sig .tc .vmem S32x24x2688 .f32) (harg12 : arg12.IsWhole) (x7 : Vec Ideal S32x8x2688 .f32) (xs0 : Vec Ideal S32x24x2688 .f32)

theorem outA_8 (hc0 : cond0_0 i) : out0_A_8 cd i arg2 harg2 arg3 harg3 arg4 harg4 arg5 harg5 arg6 harg6 arg7 harg7 arg8 harg8 arg9 harg9 arg10 harg10 arg11 harg11 arg12 harg12 hc0 x0 x1 x2 x3 x4 x5 x6 x7 = blockOut x0 x1 x2 x3 x4 x5 x6 (ext x0 x1 x7) := by
  have e1 : ∀ r hc, arg12.view.readCov [g0 x0 x1, gk x7] r.toLoadRect = View.ld (ext x0 x1 x7) r :=
    readCov_of_pieces arg12.view (L := [g0 x0 x1, gk x7]) (View.PiecesOf.mem (L := [g0 x0 x1, gk x7]) ⟨g0_ext x0 x1 x7, gk_ext x0 x1 x7, trivial⟩)
  have e2 : ∀ r hc, arg12.view.readCov [g1 x0 x1, g0 x0 x1, gk x7] r.toLoadRect = View.ld (ext x0 x1 x7) r :=
    readCov_of_pieces arg12.view (L := [g1 x0 x1, g0 x0 x1, gk x7])
      (View.PiecesOf.mem (L := [g1 x0 x1, g0 x0 x1, gk x7]) ⟨g1_ext x0 x1 x7, g0_ext x0 x1 x7, gk_ext x0 x1 x7, trivial⟩)
  have e3 : ∀ r hc, arg12.view.readCov [g2 x0 x1, g1 x0 x1, g0 x0 x1, gk x7] r.toLoadRect = View.ld (ext x0 x1 x7) r :=
    readCov_of_pieces arg12.view (L := [g2 x0 x1, g1 x0 x1, g0 x0 x1, gk x7])
      (View.PiecesOf.mem (L := [g2 x0 x1, g1 x0 x1, g0 x0 x1, gk x7]) ⟨g2_ext x0 x1 x7, g1_ext x0 x1 x7, g0_ext x0 x1 x7, gk_ext x0 x1 x7, trivial⟩)
  have c1 : ∀ (o : Nat) inb (j : (Rect.unit (s := S32x24x2688) ![0, o, 0] ![32, 16, 896] inb).shape.Idx),
      ∃ p ∈ [g0 x0 x1, gk x7], (Rect.unit (s := S32x24x2688) ![0, o, 0] ![32, 16, 896] inb).emb j ∈ p.1.set := fun o inb j =>
    cov_append x7 (L := [g0 x0 x1]) fun h => cov1 x0 x1 _ h (by have : (j 2).val < 896 := (j 2).isLt; show 0 + 1 * (j 2).val < 896; omega)
  have c2 : ∀ (o : Nat) inb (j : (Rect.unit (s := S32x24x2688) ![0, o, 896] ![32, 16, 896] inb).shape.Idx),
      ∃ p ∈ [g1 x0 x1, g0 x0 x1, gk x7], (Rect.unit (s := S32x24x2688) ![0, o, 896] ![32, 16, 896] inb).emb j ∈ p.1.set := fun o inb j =>
    cov_append x7 (L := [g1 x0 x1, g0 x0 x1]) fun h => cov2 x0 x1 _ h (by have : (j 2).val < 896 := (j 2).isLt; show 896 + 1 * (j 2).val < 1792; omega)
  have c3 : ∀ (r : Rect S32x24x2688) j, ∃ p ∈ [g2 x0 x1, g1 x0 x1, g0 x0 x1, gk x7], r.emb j ∈ p.1.set := fun r j =>
    cov_append x7 (L := [g2 x0 x1, g1 x0 x1, g0 x0 x1]) fun h => cov3 x0 x1 _ h
  frame_out
  rw [e1 _ (c1 6 _), e1 _ (c1 7 _), e2 _ (c2 6 _), e2 _ (c2 7 _), e3 _ (c3 _), e3 _ (c3 _)]
  rfl

theorem outA_9 (hc0 : cond0_0 i) : out0_A_9 cd i arg2 harg2 arg3 harg3 arg4 harg4 arg5 harg5 arg6 harg6 arg7 harg7 arg8 harg8 arg9 harg9 arg10 harg10 arg11 harg11 arg12 harg12 hc0 x0 x1 x2 x3 x4 x5 x6 x7
    = View.ld (ext x0 x1 x7) (Rect.unit ![0, 10, 0] ![32, 2, 2688] inb_S32x24x2688_S32x2x2688_0_10_0) := by
  frame_out
  exact readCov_of_pieces arg12.view (L := [g2 x0 x1, g1 x0 x1, g0 x0 x1, gk x7])
      (View.PiecesOf.mem (L := [g2 x0 x1, g1 x0 x1, g0 x0 x1, gk x7]) ⟨g2_ext x0 x1 x7, g1_ext x0 x1 x7, g0_ext x0 x1 x7, gk_ext x0 x1 x7, trivial⟩) _
      fun j => cov_append x7 (L := [g2 x0 x1, g1 x0 x1, g0 x0 x1]) fun h => cov3 x0 x1 _ h

end Cases

end Cert.FfnSampleIdeal.Flow

end
-- ==== Proof.FfnSampleValue.lean ====
/- The feed-forward kernel of the sample, its results by its arguments: the result at an index is `ffn` there, and the state is the gates
   of the third and fourth of a sequence's positions. -/
module

public import proofs.«01_k».proof.Proof.FfnSampleBlock
public import Idealize.ShloMosaic.Lib.Claim
public import Idealize.ShloMosaic.Lib.StableHlo.ReadAt
public import Idealize.ShloMosaic.Lib.Pipeline.ValueKit.Geometry
public import Idealize.ShloMosaic.Lib.Pipeline.ValueKit.Acc

@[expose] public section

set_option maxRecDepth 65536

noncomputable section

namespace Cert.FfnSampleIdeal.Flow

open Cert.FfnSampleIdeal Cert.FfnSampleIdeal.Gen
open Idealize.SL.Sem
open Idealize.ShloMosaic Idealize.ShloMosaic.TcCoe Idealize.ShloMosaic.Tactic

/-! ## The layer's feed-forward part, by its arguments -/

section Spec

variable (X : (⟨3, ![32, 16, 1024]⟩ : Shape).Idx → EReal) (S : (⟨3, ![32, 2, 2688]⟩ : Shape).Idx → EReal) (Wu : (⟨2, ![1024, 5376]⟩ : Shape).Idx → EReal)
  (Wc : (⟨2, ![3, 2688]⟩ : Shape).Idx → EReal) (Bc : (⟨1, ![2688]⟩ : Shape).Idx → EReal) (Wd : (⟨2, ![2688, 1024]⟩ : Shape).Idx → EReal)
  (G B : (⟨1, ![1024]⟩ : Shape).Idx → EReal)

/-- The up projection. -/
def up (b : Fin 32) (s : Fin 16) (n : Fin 5376) : EReal := ∑ q : Fin 1024, X (ix3 b s q) * Wu (ix2 q n)

/-- The gates with the two rows of the state before them. -/
def past (b : Fin 32) (s : Fin 18) (c : Fin 2688) : EReal :=
  if h : s.val < 2 then S (ix3 b ⟨s.val, h⟩ c) else up X Wu b ⟨s.val - 2, by omega⟩ ⟨c.val, by omega⟩

/-- The causal convolution of three taps. -/
def taps (b : Fin 32) (s : Fin 16) (c : Fin 2688) : EReal :=
  past X S Wu b ⟨s.val, by omega⟩ c * Wc (ix2 0 c) + past X S Wu b ⟨s.val + 1, by omega⟩ c * Wc (ix2 1 c)
    + past X S Wu b ⟨s.val + 2, by omega⟩ c * Wc (ix2 2 c) + Bc (ix1 c)

/-- The residual sum. -/
def sumOf (b : Fin 32) (s : Fin 16) (d : Fin 1024) : EReal :=
  Ideal.ofBits FTy.f32 1068827891#32 * X (ix3 b s d)
    + ∑ c : Fin 2688, Cert.FfnIdeal.Flow.hidden (taps X S Wu Wc Bc b s c) (up X Wu b s ⟨2688 + c.val, by omega⟩) * Wd (ix2 c d)

/-- The result. -/
def ffn (b : Fin 32) (s : Fin 16) (d : Fin 1024) : EReal :=
  Cert.FfnIdeal.Flow.norm (sumOf X S Wu Wc Bc Wd b s) (fun d => G (ix1 d)) (fun d => B (ix1 d)) d

end Spec

/-! ## The blocks the point reads -/

section Points

variable (m : (l : Loc nD τ sig) → Buf (Elt Ideal) l) (c : Dev nD)

theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0, 0] ∧ win0_9.index t = ![0, 0, 0] :=
  (by decide +kernel : ∀ t : Fin grid0.N, _)

/-- The arguments, by name. -/
abbrev aX : S32x16x1024.Idx → EReal := m ((c : Thread nD τ).loc main_arg0)
@[inherit_doc aX]
abbrev aS : S32x2x2688.Idx → EReal := m ((c : Thread nD τ).loc main_arg1)
@[inherit_doc aX]
abbrev aWu : S1024x5376.Idx → EReal := m ((c : Thread nD τ).loc main_arg2)
@[inherit_doc aX]
abbrev aWc : S3x2688.Idx → EReal := m ((c : Thread nD τ).loc main_arg3)
@[inherit_doc aX]
abbrev aBc : S2688.Idx → EReal := m ((c : Thread nD τ).loc main_arg4)
@[inherit_doc aX]
abbrev aWd : S2688x1024.Idx → EReal := m ((c : Thread nD τ).loc main_arg5)
@[inherit_doc aX]
abbrev aG : S1024.Idx → EReal := m ((c : Thread nD τ).loc main_arg6)
@[inherit_doc aX]
abbrev aB : S1024.Idx → EReal := m ((c : Thread nD τ).loc main_arg7)

/-- The blocks the point reads, by window. -/
abbrev b0 (t : Fin cfg0.N) : Vec Ideal S32x16x1024 .f32 := iblk m c 0 t
@[inherit_doc b0]
abbrev b1 (t : Fin cfg0.N) : Vec Ideal S1024x5376 .bf16 := iblk m c 1 t
@[inherit_doc b0]
abbrev b2 (t : Fin cfg0.N) : Vec Ideal S8x2688 .f32 := iblk m c 2 t
@[inherit_doc b0]
abbrev b3 (t : Fin cfg0.N) : Vec Ideal S1x2688 .f32 := iblk m c 3 t
@[inherit_doc b0]
abbrev b4 (t : Fin cfg0.N) : Vec Ideal S2688x1024 .bf16 := iblk m c 4 t
@[inherit_doc b0]
abbrev b5 (t : Fin cfg0.N) : Vec Ideal S1x1024 .f32 := iblk m c 5 t
@[inherit_doc b0]
abbrev b6 (t : Fin cfg0.N) : Vec Ideal S1x1024 .f32 := iblk m c 6 t
@[inherit_doc b0]
abbrev b7 (t : Fin cfg0.N) : Vec Ideal S32x8x2688 .f32 := iblk m c 7 t

theorem blk0 (t : Fin cfg0.N) (b : Fin 32) (r : Fin 16) (q : Fin 1024) : b0 m c t (ix3 b r q) = aX m c (ix3 b r q) := by
  have ⟨h0, h1, h2, h3, h4, h5, h6, h7, h8, h9⟩ := idx t
  blk_ext [iblk, V, h0]

theorem blk1 (t : Fin cfg0.N) (q : Fin 1024) (n : Fin 5376) : b1 m c t (ix2 q n) = aWu m c (ix2 q n) := by
  have ⟨h0, h1, h2, h3, h4, h5, h6, h7, h8, h9⟩ := idx t
  blk_ext [iblk, V, h1]

theorem V2 (n : Fin 3) (d : Fin 2688) : V m c main_v1 (ix2 ⟨n.val, by omega⟩ d) = aWc m c (ix2 n d) := by
  unfold V
  after_reads_at

theorem blk2 (t : Fin cfg0.N) (n : Fin 3) (d : Fin 2688) : b2 m c t (ix2 ⟨n.val, by omega⟩ d) = aWc m c (ix2 n d) := by
  have ⟨h0, h1, h2, h3, h4, h5, h6, h7, h8, h9⟩ := idx t
  refine Eq.trans ?_ (V2 m c n d)
  blk_ext [iblk, h2]

theorem V3 (d : Fin 2688) : V m c main_v2 (ix2 0 d) = aBc m c (ix1 d) := by
  unfold V
  after_reads_at

theorem blk3 (t : Fin cfg0.N) (d : Fin 2688) : b3 m c t (ix2 0 d) = aBc m c (ix1 d) := by
  have ⟨h0, h1, h2, h3, h4, h5, h6, h7, h8, h9⟩ := idx t
  refine Eq.trans ?_ (V3 m c d)
  blk_ext [iblk, h3]

theorem blk4 (t : Fin cfg0.N) (q : Fin 2688) (d : Fin 1024) : b4 m c t (ix2 q d) = aWd m c (ix2 q d) := by
  have ⟨h0, h1, h2, h3, h4, h5, h6, h7, h8, h9⟩ := idx t
  blk_ext [iblk, V, h4]

theorem V5 (d : Fin 1024) : V m c main_v4 (ix2 0 d) = aG m c (ix1 d) := by
  unfold V
  after_reads_at

theorem blk5 (t : Fin cfg0.N) (d : Fin 1024) : b5 m c t (ix2 0 d) = aG m c (ix1 d) := by
  have ⟨h0, h1, h2, h3, h4, h5, h6, h7, h8, h9⟩ := idx t
  refine Eq.trans ?_ (V5 m c d)
  blk_ext [iblk, h5]

theorem V6 (d : Fin 1024) : V m c main_v5 (ix2 0 d) = aB m c (ix1 d) := by
  unfold V
  after_reads_at

theorem blk6 (t : Fin cfg0.N) (d : Fin 1024) : b6 m c t (ix2 0 d) = aB m c (ix1 d) := by
  have ⟨h0, h1, h2, h3, h4, h5, h6, h7, h8, h9⟩ := idx t
  refine Eq.trans ?_ (V6 m c d)
  blk_ext [iblk, h6]

/-- The last two of the eight rows before a sequence are the state's. -/
theorem V7 (b : Fin 32) (n : Fin 2) (d : Fin 2688) : V m c main_v6 (ix3 b ⟨6 + n.val, by omega⟩ d) = aS m c (ix3 b n d) := by
  unfold V
  after_reads_at

theorem blk7 (t : Fin cfg0.N) (b : Fin 32) (n : Fin 2) (d : Fin 2688) : b7 m c t (ix3 b ⟨6 + n.val, by omega⟩ d) = aS m c (ix3 b n d) := by
  have ⟨h0, h1, h2, h3, h4, h5, h6, h7, h8, h9⟩ := idx t
  refine Eq.trans ?_ (V7 m c b n d)
  blk_ext [iblk, h7]

/-! ## The point -/

/-- The rows the convolution sees. -/
abbrev seen (t : Fin cfg0.N) : Vec Ideal S32x24x2688 .f32 := ext (b0 m c t) (b1 m c t) (b7 m c t)

theorem outs_eq (t : Fin cfg0.N) :
    (outsAt0 m c t).1 = blockOut (b0 m c t) (b1 m c t) (b2 m c t) (b3 m c t) (b4 m c t) (b5 m c t) (b6 m c t) (seen m c t)
    ∧ (outsAt0 m c t).2 = View.ld (seen m c t) (Rect.unit ![0, 10, 0] ![32, 2, 2688] inb_S32x24x2688_S32x2x2688_0_10_0) := by
  unfold outsAt0
  dsimp only
  exact ⟨outA_8 .., outA_9 ..⟩

theorem gate_eq (t : Fin cfg0.N) (b : Fin 32) (r : Fin 16) (n : Fin 5376) :
    (∑ q : Fin 1024, (b0 m c t (ix3 b r q) : EReal) * b1 m c t (ix2 q n)) = up (aX m c) (aWu m c) b r n :=
  Finset.sum_congr rfl fun q _ => congrArg₂ (· * ·) (blk0 m c t b r q) (blk1 m c t q n)

/-- The rows the convolution sees are the sequence's. -/
theorem seen_eq (t : Fin cfg0.N) (b : Fin 32) (R : Fin 24) (hR : 6 ≤ R.val) (d : Fin 2688) :
    seen m c t (ix3 b R d) = past (aX m c) (aS m c) (aWu m c) b ⟨R.val - 6, by omega⟩ d := by
  unfold past
  by_cases h : R.val < 8
  · refine ((ext_lt _ _ _ _ h).trans ?_).trans (dif_pos (show R.val - 6 < 2 by omega)).symm
    refine Eq.trans (congrArg (fun n => b7 m c t (ix3 b n d)) (Fin.ext ?_)) (blk7 m c t b ⟨R.val - 6, by omega⟩ d)
    show R.val = 6 + (R.val - 6)
    omega
  · refine ((ext_ge _ _ _ _ h).trans ?_).trans (dif_neg (show ¬R.val - 6 < 2 by omega)).symm
    refine (gate_eq m c t b ⟨R.val - 8, by omega⟩ ⟨d.val, by omega⟩).trans ?_
    exact congrArg (fun s => up (aX m c) (aWu m c) b s _) (Fin.ext (by show R.val - 8 = R.val - 6 - 2; omega))

theorem conv_eq (t : Fin cfg0.N) (b : Fin 32) (r : Fin 16) (d : Fin 2688) :
    conv (b0 m c t) (b1 m c t) (b2 m c t) (b3 m c t) (seen m c t) b r d
      = taps (aX m c) (aS m c) (aWu m c) (aWc m c) (aBc m c) b r d := by
  unfold conv taps
  rw [seen_eq m c t _ _ (by show 6 ≤ 6 + r.val; omega), seen_eq m c t _ _ (by show 6 ≤ 7 + r.val; omega), gate_eq]
  refine congrArg₂ (· + ·) (congrArg₂ (· + ·) (congrArg₂ (· + ·) (congrArg₂ (· * ·) ?_ (blk2 m c t 0 d)) (congrArg₂ (· * ·) ?_ (blk2 m c t 1 d)))
    (congrArg₂ (· * ·) ?_ (blk2 m c t 2 d))) (blk3 m c t d)
  · refine congrArg (fun s => past (aX m c) (aS m c) (aWu m c) _ s d) (Fin.ext ?_)
    show 6 + r.val - 6 = r.val
    omega
  · refine congrArg (fun s => past (aX m c) (aS m c) (aWu m c) _ s d) (Fin.ext ?_)
    show 7 + r.val - 6 = r.val + 1
    omega
  · rw [past, dif_neg (by show ¬r.val + 2 < 2; omega)]
    rfl

theorem resid_eq (t : Fin cfg0.N) (b : Fin 32) (r : Fin 16) (d : Fin 1024) :
    resid (b0 m c t) (b1 m c t) (b2 m c t) (b3 m c t) (b4 m c t) (seen m c t) b r d
      = sumOf (aX m c) (aS m c) (aWu m c) (aWc m c) (aBc m c) (aWd m c) b r d := by
  unfold resid sumOf
  refine congrArg₂ (· + ·) (congrArg₂ (· * ·) rfl (blk0 m c t b r d)) (Finset.sum_congr rfl fun k _ => congrArg₂ (· * ·) ?_ (blk4 m c t k d))
  rw [conv_eq, gate_eq]

/-! ## The arrays -/

/-- The array of the result. -/
def G8 : S32x16x1024.Idx → EReal := fun j =>
  ffn (aX m c) (aS m c) (aWu m c) (aWc m c) (aBc m c) (aWd m c) (aG m c) (aB m c) (j 0) (j 1) (j 2)

/-- The array of the state. -/
def G9 : S32x2x2688.Idx → EReal := fun j =>
  past (aX m c) (aS m c) (aWu m c) (j 0) ⟨4 + (j 1).val, by have := (j 1).isLt; change _ < 2 at this; omega⟩ (j 2)

theorem out_eq (t : Fin cfg0.N) (b : Fin 32) (r : Fin 16) (d : Fin 1024) : (outsAt0 m c t).1 (ix3 b r d) = G8 m c (ix3 b r d) := by
  rw [(outs_eq m c t).1, blockOut_apply]
  unfold G8 ffn
  rw [show resid (b0 m c t) (b1 m c t) (b2 m c t) (b3 m c t) (b4 m c t) (seen m c t) b r = _ from funext (resid_eq m c t b r),
    show (fun d => (b5 m c t (ix2 0 d) : EReal)) = _ from funext (blk5 m c t), show (fun d => (b6 m c t (ix2 0 d) : EReal)) = _ from funext (blk6 m c t)]
  rfl

theorem state_eq (t : Fin cfg0.N) (b : Fin 32) (n : Fin 2) (d : Fin 2688) : (outsAt0 m c t).2 (ix3 b n d) = G9 m c (ix3 b n d) := by
  rw [(outs_eq m c t).2]
  refine Eq.trans (congrArg (seen m c t) ?_) ((seen_eq m c t b ⟨10 + n.val, by omega⟩ (by show 6 ≤ 10 + n.val; omega) d).trans ?_)
  · exact funext fun a => by
      match a with
      | ⟨0, _⟩ => exact Fin.ext (by show 0 + 1 * b.val = b.val; omega)
      | ⟨1, _⟩ => exact Fin.ext (by show 10 + 1 * n.val = 10 + n.val; omega)
      | ⟨2, _⟩ => exact Fin.ext (by show 0 + 1 * d.val = d.val; omega)
  · refine congrArg (fun s => past (aX m c) (aS m c) (aWu m c) b s d) (Fin.ext ?_)
    show 10 + n.val - 6 = 4 + n.val
    omega

theorem arr8_eq : (dats m 0 c).arrAt 8 cfg0.N = G8 m c := by
  refine (dats m 0 c).arrAt_eq_of_covers 8 _ (by decide +kernel) fun t hf y => ?_
  have ⟨h0, h1, h2, h3, h4, h5, h6, h7, h8, h9⟩ := idx t
  blk_simp
  rw [after0_8]
  have hb0 : ((win0_8.blk t).view.emb y 0).val = (y 0).val := by blk_simp [h8]
  have hb1 : ((win0_8.blk t).view.emb y 1).val = (y 1).val := by blk_simp [h8]
  have hb2 : ((win0_8.blk t).view.emb y 2).val = (y 2).val := by blk_simp [h8]
  have h := out_eq m c t (y 0) (y 1) (y 2)
  rw [← eq_ix3 y] at h
  refine h.trans (congrArg (G8 m c) (funext fun a => ?_))
  match a with
  | ⟨0, _⟩ => exact Fin.ext hb0.symm
  | ⟨1, _⟩ => exact Fin.ext hb1.symm
  | ⟨2, _⟩ => exact Fin.ext hb2.symm

theorem arr9_eq : (dats m 0 c).arrAt 9 cfg0.N = G9 m c := by
  refine (dats m 0 c).arrAt_eq_of_covers 9 _ (by decide +kernel) fun t hf y => ?_
  have ⟨h0, h1, h2, h3, h4, h5, h6, h7, h8, h9⟩ := idx t
  blk_simp
  rw [after0_9]
  have hb0 : ((win0_9.blk t).view.emb y 0).val = (y 0).val := by blk_simp [h9]
  have hb1 : ((win0_9.blk t).view.emb y 1).val = (y 1).val := by blk_simp [h9]
  have hb2 : ((win0_9.blk t).view.emb y 2).val = (y 2).val := by blk_simp [h9]
  have h := state_eq m c t (y 0) (y 1) (y 2)
  rw [← eq_ix3 y] at h
  refine h.trans (congrArg (G9 m c) (funext fun a => ?_))
  match a with
  | ⟨0, _⟩ => exact Fin.ext hb0.symm
  | ⟨1, _⟩ => exact Fin.ext hb1.symm
  | ⟨2, _⟩ => exact Fin.ext hb2.symm

end Points

end Cert.FfnSampleIdeal.Flow

end
-- ==== Proof.FfnSampleReference.lean ====
/- The plain reference of the sample's feed-forward part read index by index: its two results are the spec of the kernel's value module, and so the
   two programs agree. -/
module

public import proofs.«01_k».proof.Proof.FfnSampleValue
public import proofs.«01_k».proof.Proof.Gen.FfnSampleIdeal.Value
public import proofs.«01_k».proof.Proof.Gen.FfnSampleReferenceIdeal.Run
public import proofs.«01_k».proof.Defs
public import proofs.«01_k».proof.Proof.Gen.FfnSampleReferenceIdeal.Read

@[expose] public section

set_option maxRecDepth 65536

noncomputable section

namespace Cert.FfnSampleReferenceIdeal.Flow

open Cert.FfnSampleReferenceIdeal Cert.FfnSampleReferenceIdeal.Gen Cert.FfnSampleReferenceIdeal.Read
open Cert.FfnSampleIdeal.Flow (up past taps sumOf ffn)
open Idealize.SL.Sem
open Idealize.ShloMosaic Idealize.ShloMosaic.TcCoe Idealize.ShloMosaic.Tactic

variable (x0 : S32x16x1024.Idx → EReal) (x1 : S32x2x2688.Idx → EReal) (x2 : S1024x5376.Idx → EReal) (x3 : S3x2688.Idx → EReal) (x4 : S2688.Idx → EReal)
  (x5 : S2688x1024.Idx → EReal) (x6 x7 : S1024.Idx → EReal)

theorem v0_eq (b : Fin 32) (s : Fin 16) (n : Fin 5376) : val_main_v0 (F := Ideal) x0 x2 (ix3 b s n) = up x0 x2 b s n := by
  unfold up
  pointwise [val_main_v0]

theorem v3_eq (b : Fin 32) (s : Fin 18) (n : Fin 2688) : val_main_v3 (F := Ideal) x0 x1 x2 (ix3 b s n) = past x0 x1 x2 b s n := by
  unfold past
  simp only [← v0_eq]
  pointwise [val_main_v3, val_main_v1]

theorem v26_eq (b : Fin 32) (s : Fin 16) (n : Fin 2688) : val_main_v26 (F := Ideal) x0 x1 x2 x3 x4 (ix3 b s n) = taps x0 x1 x2 x3 x4 b s n := by
  unfold taps
  simp only [← v3_eq]
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4]
  simp only [Nat.add_comm 1 s.val, Nat.add_comm 2 s.val]
  rw [add_comm _ (x4 (ix1 n)), ← add_assoc, ← add_assoc]

theorem v28_eq (b : Fin 32) (s : Fin 16) (n : Fin 2688) : val_main_v28 (F := Ideal) x0 x1 x2 x3 x4 (ix3 b s n)
    = Cert.FfnIdeal.Flow.hidden (taps x0 x1 x2 x3 x4 b s n) (up x0 x2 b s ⟨2688 + n.val, by omega⟩) := by
  unfold Cert.FfnIdeal.Flow.hidden
  rw [← v26_eq, ← v0_eq]
  pointwise [val_main_v28, val_main_v27, val_main_v2, val_main_call0_v5, val_main_call0_v4, val_main_call0_v3, val_main_call0_v2, val_main_call0_v1, val_main_call0_v0, val_main_call0_cst, val_main_call0_cst_0]
  rw [zero_sub]

theorem v32_eq (b : Fin 32) (s : Fin 16) (d : Fin 1024) : val_main_v32 (F := Ideal) x0 x1 x2 x3 x4 x5 (ix3 b s d) = sumOf x0 x1 x2 x3 x4 x5 b s d := by
  unfold sumOf
  simp only [← v28_eq]
  pointwise [val_main_v32, val_main_v31, val_main_v30, val_main_v29, val_main_cst]

theorem v56_eq (b : Fin 32) (s : Fin 16) (d : Fin 1024) :
    val_main_v56 (F := Ideal) x0 x1 x2 x3 x4 x5 x6 x7 (ix3 b s d) = ffn x0 x1 x2 x3 x4 x5 x6 x7 b s d := by
  unfold ffn Cert.FfnIdeal.Flow.norm
  simp only [← v32_eq]
  pointwise [val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_cst_0, val_main_cst_1, val_main_cst_2, val_main_cst_3, val_main_cst_4]

theorem v57_eq (b : Fin 32) (n : Fin 2) (d : Fin 2688) : val_main_v57 (F := Ideal) x0 x1 x2 (ix3 b n d) = past x0 x1 x2 b ⟨4 + n.val, by omega⟩ d := by
  rw [← v3_eq]
  pointwise [val_main_v57]

/-- The first result as a whole array. -/
theorem v56_all : val_main_v56 (F := Ideal) x0 x1 x2 x3 x4 x5 x6 x7 = fun j => ffn x0 x1 x2 x3 x4 x5 x6 x7 (j 0) (j 1) (j 2) := by
  funext j
  have h := v56_eq x0 x1 x2 x3 x4 x5 x6 x7 (j 0) (j 1) (j 2)
  rwa [← eq_ix3 j] at h

/-- The second result as a whole array. -/
theorem v57_all : val_main_v57 (F := Ideal) x0 x1 x2 = fun j => past x0 x1 x2 (j 0) ⟨4 + (j 1).val, by have := (j 1).isLt; change _ < 2 at this; omega⟩ (j 2) := by
  funext j
  have h := v57_eq x0 x1 x2 (j 0) (j 1) (j 2)
  rwa [← eq_ix3 j] at h

/-- The feed-forward kernel of the sample and the reference end with equal results, whatever the arguments. -/
theorem algebraic : Cert.algebraic_FfnSampleIdeal_FfnSampleReferenceIdeal := by
  intro m g m' g' _ hargs
  refine ⟨fun c => Cert.FfnSampleIdeal.Flow.G8 m c, fun c => Cert.FfnSampleIdeal.Flow.G9 m c,
    (θ_run _ _ _).mono (fun r h c => ⟨(h c).1.trans (Cert.FfnSampleIdeal.Flow.arr8_eq m c), (h c).2.1.trans (Cert.FfnSampleIdeal.Flow.arr9_eq m c), (h c).2.2⟩)
      (Cert.FfnSampleIdeal.Value.run_blocks m g),
    (θ_run _ _ _).mono (fun r h c => ?_) (Cert.FfnSampleReferenceIdeal.Value.run m' g')⟩
  obtain ⟨h0, h1, hk⟩ := h c
  obtain ⟨e0, e1, e2, e3, e4, e5, e6, e7⟩ := hargs c
  refine ⟨h0.trans ?_, h1.trans ?_, hk⟩
  · rw [val_main_v56_eq, v56_all]
    unfold Cert.FfnSampleIdeal.Flow.G8
    rw [e0, e1, e2, e3, e4, e5, e6, e7]
  · rw [val_main_v57_eq, v57_all]
    unfold Cert.FfnSampleIdeal.Flow.G9
    rw [e0, e1, e2]

end Cert.FfnSampleReferenceIdeal.Flow

end
-- ==== Proof.lean ====
/- The claims of this certificate, put together. The attention (`Kernel`): its frames come from one run over any float
   values, in Proof/FlashFrame.lean; the printed program and its exact reading have the same text, so the run of the
   second gives the frame of the first; its value, for finite queries, keys and decays, is
   Proof/FlashReference.lean. The feed-forward block of the prompt (`Ffn`) and of the sample (`FfnSample`), and the output
   projection (`OutProj`): their frames are generated, and their values are Proof/FfnReference.lean, Proof/FfnSampleReference.lean and
   Proof/OutProjReference.lean. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Ffn.Frame
public import proofs.«01_k».proof.Proof.Gen.FfnIdeal.Frame
public import proofs.«01_k».proof.Proof.Gen.FfnReferenceIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjReferenceIdeal.Run
public import proofs.«01_k».proof.Proof.Gen.OutProjReferenceIdeal.Read
public import proofs.«01_k».proof.Proof.Gen.FfnSample.Frame
public import proofs.«01_k».proof.Proof.Gen.FfnSampleIdeal.Frame
public import proofs.«01_k».proof.Proof.Gen.FfnSampleIdeal.Value
public import proofs.«01_k».proof.Proof.Gen.FfnSampleReferenceIdeal.Run
public import proofs.«01_k».proof.Proof.Gen.FfnSampleReferenceIdeal.Read
public import proofs.«01_k».proof.Proof.FlashFrame
public import proofs.«01_k».proof.Proof.FfnReference
public import proofs.«01_k».proof.Proof.FlashReference
public import proofs.«01_k».proof.Proof.OutProjReference
public import proofs.«01_k».proof.Proof.FfnSampleReference
public import Idealize.ShloMosaic.Lib.Quiescent

@[expose] public section

set_option maxRecDepth 100000

noncomputable section

namespace Cert.Proof

open Idealize.ShloMosaic Idealize.SL.Sem

/-- The two printed attention programs have one body table. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

theorem defs_eq : Cert.Kernel.defs (F := Bits) = Cert.KernelIdeal.defs (F := Bits) :=
  congrArg (Pipeline.defs (Cert.KernelIdeal.pcfgs (F := Bits))) bodies_eq

theorem frame_kernel : Cert.quiescent_Kernel := fun m ρ _ => by
  rw [defs_eq]
  exact Cert.KernelIdeal.Flash.frame_all (F := Bits) m ρ

theorem frame_kernelIdeal : Cert.quiescent_KernelIdeal := fun m ρ _ => Cert.KernelIdeal.Flash.frame_all (F := Ideal) m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_ffn : Cert.quiescent_Ffn := fun m ρ _ => Cert.Ffn.Gen.frame m ρ

theorem frame_ffnIdeal : Cert.quiescent_FfnIdeal := fun m ρ _ => Cert.FfnIdeal.Gen.frame m ρ

theorem frame_ffnReferenceIdeal : Cert.quiescent_FfnReferenceIdeal := fun m ρ _ =>
  (θ_run Cert.FfnReferenceIdeal.defs _ _).mono (fun r h => ⟨fun c => (h c).2.2, sem_eq_zero_of_no_sems (by decide) r.2⟩)
    (Cert.FfnReferenceIdeal.Value.run (F := Ideal) m ρ)

theorem frame_outProj : Cert.quiescent_OutProj := fun m ρ _ => Cert.OutProj.Gen.frame m ρ

theorem frame_outProjIdeal : Cert.quiescent_OutProjIdeal := fun m ρ _ => Cert.OutProjIdeal.Gen.frame m ρ

theorem frame_outProjReferenceIdeal : Cert.quiescent_OutProjReferenceIdeal := fun m ρ _ =>
  (θ_run Cert.OutProjReferenceIdeal.defs _ _).mono (fun r h => ⟨fun c => (h c).2, sem_eq_zero_of_no_sems (by decide) r.2⟩)
    (Cert.OutProjReferenceIdeal.Value.run (F := Ideal) m ρ)

theorem frame_ffnSample : Cert.quiescent_FfnSample := fun m ρ _ => Cert.FfnSample.Gen.frame m ρ

theorem frame_ffnSampleIdeal : Cert.quiescent_FfnSampleIdeal := fun m ρ _ => Cert.FfnSampleIdeal.Gen.frame m ρ

theorem frame_ffnSampleReferenceIdeal : Cert.quiescent_FfnSampleReferenceIdeal := fun m ρ _ =>
  (θ_run Cert.FfnSampleReferenceIdeal.defs _ _).mono (fun r h => ⟨fun c => (h c).2.2, sem_eq_zero_of_no_sems (by decide) r.2⟩)
    (Cert.FfnSampleReferenceIdeal.Value.run (F := Ideal) m ρ)

/-- The same frames where the precondition holds: it is not needed for them. -/
theorem frame_kernelIdeal_finite [Cert.Pre_finite.Facts] : Cert.quiescent_KernelIdeal_pre_finite :=
  fun m ρ _ => Cert.KernelIdeal.Flash.frame_all (F := Ideal) m ρ

theorem frame_referenceIdeal_finite [Cert.Pre_finite.Facts] : Cert.quiescent_ReferenceIdeal_pre_finite :=
  fun m ρ _ => frame_referenceIdeal m ρ trivial

/-- The shapes of the precondition's broadcasts. -/
theorem finite_facts : Cert.Pre_finite.Facts where
  bcast_S_S8x2048x4x64 := by decide
  bcast_S_S8x2048x4 := by decide
  bcast_S8x2048x4_S8x2048x4x1_0_1_2 := by decide
  bcast_S8x2048x4x1_S8x2048x4x64_0_1_2_3 := by decide

theorem claim : Cert.Claim :=
  letI := finite_facts
  ⟨Cert.Kernel.Gen.facts, Cert.KernelIdeal.Gen.facts, Cert.ReferenceIdeal.Gen.facts, Cert.Ffn.Gen.facts,
    Cert.FfnIdeal.Gen.facts, Cert.FfnReferenceIdeal.Gen.facts, Cert.OutProj.Gen.facts,
    Cert.OutProjIdeal.Gen.facts, Cert.OutProjReferenceIdeal.Gen.facts, Cert.FfnSample.Gen.facts,
    Cert.FfnSampleIdeal.Gen.facts, Cert.FfnSampleReferenceIdeal.Gen.facts, finite_facts,
    frame_kernel, frame_kernelIdeal, frame_kernelIdeal_finite, frame_referenceIdeal, frame_referenceIdeal_finite,
    frame_ffn, frame_ffnIdeal, frame_ffnReferenceIdeal,
    frame_outProj, frame_outProjIdeal, frame_outProjReferenceIdeal,
    frame_ffnSample, frame_ffnSampleIdeal, frame_ffnSampleReferenceIdeal,
    trivial, Cert.ReferenceIdeal.Flow.algebraic, trivial, Cert.FfnReferenceIdeal.Flow.algebraic,
    trivial, Cert.OutProjReferenceIdeal.Flow.algebraic, trivial, Cert.FfnSampleReferenceIdeal.Flow.algebraic⟩

end Cert.Proof

end
